-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_GatePool (m : (ℓ : Loc Cert.GatePool.nD Cert.GatePool.τ Cert.GatePool.sig) → Buf (Elt Bits) ℓ) : Prop :=
  True

def Pre_GatePoolIdeal (m : (ℓ : Loc Cert.GatePoolIdeal.nD Cert.GatePoolIdeal.τ Cert.GatePoolIdeal.sig) → Buf (Elt Ideal) ℓ) : Prop :=
  True

def Pre_GatePoolRefIdeal (m : (ℓ : Loc Cert.GatePoolRefIdeal.nD Cert.GatePoolRefIdeal.τ Cert.GatePoolRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextRefIdeal (m : (ℓ : Loc Cert.NextRefIdeal.nD Cert.NextRefIdeal.τ Cert.NextRefIdeal.sig) → Buf (Elt Ideal) ℓ) : Prop :=
  True

def Pre_ExpGU [hPre_tables_egu : Cert.Pre_tables_egu.Facts] (m : (ℓ : Loc Cert.ExpGU.nD Cert.ExpGU.τ Cert.ExpGU.sig) → Buf (Elt Bits) ℓ) : Prop :=
  ∀ c : Dev Cert.ExpGU.nD,
    (Cert.Pre_tables_egu.fn (F := Bits) (m ((c.tc : Thread Cert.ExpGU.nD Cert.ExpGU.τ).loc Cert.ExpGU.main_arg0)) (m ((c.tc : Thread Cert.ExpGU.nD Cert.ExpGU.τ).loc Cert.ExpGU.main_arg1)) (m ((c.tc : Thread Cert.ExpGU.nD Cert.ExpGU.τ).loc Cert.ExpGU.main_arg2)) (m ((c.tc : Thread Cert.ExpGU.nD Cert.ExpGU.τ).loc Cert.ExpGU.main_arg3)) (m ((c.tc : Thread Cert.ExpGU.nD Cert.ExpGU.τ).loc Cert.ExpGU.main_arg4))) = (fun _ => 1#1)

def Pre_ExpGUIdeal [hPre_tables_egu : Cert.Pre_tables_egu.Facts] (m : (ℓ : Loc Cert.ExpGUIdeal.nD Cert.ExpGUIdeal.τ Cert.ExpGUIdeal.sig) → Buf (Elt Ideal) ℓ) : Prop :=
  ∀ c : Dev Cert.ExpGUIdeal.nD,
    (Cert.Pre_tables_egu.fn (F := Ideal) (m ((c.tc : Thread Cert.ExpGUIdeal.nD Cert.ExpGUIdeal.τ).loc Cert.ExpGUIdeal.main_arg0)) (m ((c.tc : Thread Cert.ExpGUIdeal.nD Cert.ExpGUIdeal.τ).loc Cert.ExpGUIdeal.main_arg1)) (m ((c.tc : Thread Cert.ExpGUIdeal.nD Cert.ExpGUIdeal.τ).loc Cert.ExpGUIdeal.main_arg2)) (m ((c.tc : Thread Cert.ExpGUIdeal.nD Cert.ExpGUIdeal.τ).loc Cert.ExpGUIdeal.main_arg3)) (m ((c.tc : Thread Cert.ExpGUIdeal.nD Cert.ExpGUIdeal.τ).loc Cert.ExpGUIdeal.main_arg4))) = (fun _ => 1#1)

def Pre_ExpGURefIdeal [hPre_tables_egu : Cert.Pre_tables_egu.Facts] (m : (ℓ : Loc Cert.ExpGURefIdeal.nD Cert.ExpGURefIdeal.τ Cert.ExpGURefIdeal.sig) → Buf (Elt Ideal) ℓ) : Prop :=
  ∀ c : Dev Cert.ExpGURefIdeal.nD,
    (Cert.Pre_tables_egu.fn (F := Ideal) (m ((c.tc : Thread Cert.ExpGURefIdeal.nD Cert.ExpGURefIdeal.τ).loc Cert.ExpGURefIdeal.main_arg0)) (m ((c.tc : Thread Cert.ExpGURefIdeal.nD Cert.ExpGURefIdeal.τ).loc Cert.ExpGURefIdeal.main_arg1)) (m ((c.tc : Thread Cert.ExpGURefIdeal.nD Cert.ExpGURefIdeal.τ).loc Cert.ExpGURefIdeal.main_arg2)) (m ((c.tc : Thread Cert.ExpGURefIdeal.nD Cert.ExpGURefIdeal.τ).loc Cert.ExpGURefIdeal.main_arg3)) (m ((c.tc : Thread Cert.ExpGURefIdeal.nD Cert.ExpGURefIdeal.τ).loc Cert.ExpGURefIdeal.main_arg4))) = (fun _ => 1#1)

def Pre_ExpDown [hPre_tables_edown : Cert.Pre_tables_edown.Facts] (m : (ℓ : Loc Cert.ExpDown.nD Cert.ExpDown.τ Cert.ExpDown.sig) → Buf (Elt Bits) ℓ) : Prop :=
  ∀ c : Dev Cert.ExpDown.nD,
    (Cert.Pre_tables_edown.fn (F := Bits) (m ((c.tc : Thread Cert.ExpDown.nD Cert.ExpDown.τ).loc Cert.ExpDown.main_arg0)) (m ((c.tc : Thread Cert.ExpDown.nD Cert.ExpDown.τ).loc Cert.ExpDown.main_arg1)) (m ((c.tc : Thread Cert.ExpDown.nD Cert.ExpDown.τ).loc Cert.ExpDown.main_arg2)) (m ((c.tc : Thread Cert.ExpDown.nD Cert.ExpDown.τ).loc Cert.ExpDown.main_arg3))) = (fun _ => 1#1)

def Pre_ExpDownIdeal [hPre_tables_edown : Cert.Pre_tables_edown.Facts] (m : (ℓ : Loc Cert.ExpDownIdeal.nD Cert.ExpDownIdeal.τ Cert.ExpDownIdeal.sig) → Buf (Elt Ideal) ℓ) : Prop :=
  ∀ c : Dev Cert.ExpDownIdeal.nD,
    (Cert.Pre_tables_edown.fn (F := Ideal) (m ((c.tc : Thread Cert.ExpDownIdeal.nD Cert.ExpDownIdeal.τ).loc Cert.ExpDownIdeal.main_arg0)) (m ((c.tc : Thread Cert.ExpDownIdeal.nD Cert.ExpDownIdeal.τ).loc Cert.ExpDownIdeal.main_arg1)) (m ((c.tc : Thread Cert.ExpDownIdeal.nD Cert.ExpDownIdeal.τ).loc Cert.ExpDownIdeal.main_arg2)) (m ((c.tc : Thread Cert.ExpDownIdeal.nD Cert.ExpDownIdeal.τ).loc Cert.ExpDownIdeal.main_arg3))) = (fun _ => 1#1)

def Pre_ExpDownRefIdeal [hPre_tables_edown : Cert.Pre_tables_edown.Facts] (m : (ℓ : Loc Cert.ExpDownRefIdeal.nD Cert.ExpDownRefIdeal.τ Cert.ExpDownRefIdeal.sig) → Buf (Elt Ideal) ℓ) : Prop :=
  ∀ c : Dev Cert.ExpDownRefIdeal.nD,
    (Cert.Pre_tables_edown.fn (F := Ideal) (m ((c.tc : Thread Cert.ExpDownRefIdeal.nD Cert.ExpDownRefIdeal.τ).loc Cert.ExpDownRefIdeal.main_arg0)) (m ((c.tc : Thread Cert.ExpDownRefIdeal.nD Cert.ExpDownRefIdeal.τ).loc Cert.ExpDownRefIdeal.main_arg1)) (m ((c.tc : Thread Cert.ExpDownRefIdeal.nD Cert.ExpDownRefIdeal.τ).loc Cert.ExpDownRefIdeal.main_arg2)) (m ((c.tc : Thread Cert.ExpDownRefIdeal.nD Cert.ExpDownRefIdeal.τ).loc Cert.ExpDownRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_GatePool [hGatePool : Cert.GatePool.Facts] : Prop :=
  ∀ (m : (ℓ : Loc Cert.GatePool.nD Cert.GatePool.τ Cert.GatePool.sig) → Buf (Elt Bits) ℓ) (g : Dev Cert.GatePool.nD → PrngReg), Pre_GatePool m →
    θ_run (Cert.GatePool.defs (F := Bits)) (onTc (τ := Cert.GatePool.τ) (Cert.GatePool.main (F := Bits))) ⟨m, fun _ => 0, g⟩ (fun r => (∀ c : Dev Cert.GatePool.nD,
      r.2.mem ((c.tc : Thread Cert.GatePool.nD Cert.GatePool.τ).loc Cert.GatePool.main_arg0) = m ((c.tc : Thread Cert.GatePool.nD Cert.GatePool.τ).loc Cert.GatePool.main_arg0)
      ∧ r.2.mem ((c.tc : Thread Cert.GatePool.nD Cert.GatePool.τ).loc Cert.GatePool.main_arg1) = m ((c.tc : Thread Cert.GatePool.nD Cert.GatePool.τ).loc Cert.GatePool.main_arg1))
      ∧ r.2.sem = fun _ => 0)

def quiescent_GatePoolIdeal [hGatePoolIdeal : Cert.GatePoolIdeal.Facts] : Prop :=
  ∀ (m : (ℓ : Loc Cert.GatePoolIdeal.nD Cert.GatePoolIdeal.τ Cert.GatePoolIdeal.sig) → Buf (Elt Ideal) ℓ) (g : Dev Cert.GatePoolIdeal.nD → PrngReg), Pre_GatePoolIdeal m →
    θ_run (Cert.GatePoolIdeal.defs (F := Ideal)) (onTc (τ := Cert.GatePoolIdeal.τ) (Cert.GatePoolIdeal.main (F := Ideal))) ⟨m, fun _ => 0, g⟩ (fun r => (∀ c : Dev Cert.GatePoolIdeal.nD,
      r.2.mem ((c.tc : Thread Cert.GatePoolIdeal.nD Cert.GatePoolIdeal.τ).loc Cert.GatePoolIdeal.main_arg0) = m ((c.tc : Thread Cert.GatePoolIdeal.nD Cert.GatePoolIdeal.τ).loc Cert.GatePoolIdeal.main_arg0)
      ∧ r.2.mem ((c.tc : Thread Cert.GatePoolIdeal.nD Cert.GatePoolIdeal.τ).loc Cert.GatePoolIdeal.main_arg1) = m ((c.tc : Thread Cert.GatePoolIdeal.nD Cert.GatePoolIdeal.τ).loc Cert.GatePoolIdeal.main_arg1))
      ∧ r.2.sem = fun _ => 0)

def quiescent_GatePoolRefIdeal [hGatePoolRefIdeal : Cert.GatePoolRefIdeal.Facts] : Prop :=
  ∀ (m : (ℓ : Loc Cert.GatePoolRefIdeal.nD Cert.GatePoolRefIdeal.τ Cert.GatePoolRefIdeal.sig) → Buf (Elt Ideal) ℓ) (g : Dev Cert.GatePoolRefIdeal.nD → PrngReg), Pre_GatePoolRefIdeal m →
    θ_run (Cert.GatePoolRefIdeal.defs (F := Ideal)) (onTc (τ := Cert.GatePoolRefIdeal.τ) (Cert.GatePoolRefIdeal.main (F := Ideal))) ⟨m, fun _ => 0, g⟩ (fun r => (∀ c : Dev Cert.GatePoolRefIdeal.nD,
      r.2.mem ((c.tc : Thread Cert.GatePoolRefIdeal.nD Cert.GatePoolRefIdeal.τ).loc Cert.GatePoolRefIdeal.main_arg0) = m ((c.tc : Thread Cert.GatePoolRefIdeal.nD Cert.GatePoolRefIdeal.τ).loc Cert.GatePoolRefIdeal.main_arg0)
      ∧ r.2.mem ((c.tc : Thread Cert.GatePoolRefIdeal.nD Cert.GatePoolRefIdeal.τ).loc Cert.GatePoolRefIdeal.main_arg1) = m ((c.tc : Thread Cert.GatePoolRefIdeal.nD Cert.GatePoolRefIdeal.τ).loc Cert.GatePoolRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1)
      ∧ r.2.mem ((c.tc : Thread Cert.PreNorm.nD Cert.PreNorm.τ).loc Cert.PreNorm.main_arg2) = m ((c.tc : Thread Cert.PreNorm.nD Cert.PreNorm.τ).loc Cert.PreNorm.main_arg2))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1)
      ∧ r.2.mem ((c.tc : Thread Cert.PreNormRefIdeal.nD Cert.PreNormRefIdeal.τ).loc Cert.PreNormRefIdeal.main_arg2) = m ((c.tc : Thread Cert.PreNormRefIdeal.nD Cert.PreNormRefIdeal.τ).loc Cert.PreNormRefIdeal.main_arg2))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3))
      ∧ r.2.sem = fun _ => 0)

def quiescent_NextRefIdeal [hNextRefIdeal : Cert.NextRefIdeal.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3))
      ∧ r.2.sem = fun _ => 0)

def quiescent_ExpGU [hExpGU : Cert.ExpGU.Facts] [hPre_tables_egu : Cert.Pre_tables_egu.Facts] : Prop :=
  ∀ (m : (ℓ : Loc Cert.ExpGU.nD Cert.ExpGU.τ Cert.ExpGU.sig) → Buf (Elt Bits) ℓ) (g : Dev Cert.ExpGU.nD → PrngReg), Pre_ExpGU m →
    θ_run (Cert.ExpGU.defs (F := Bits)) (onTc (τ := Cert.ExpGU.τ) (Cert.ExpGU.main (F := Bits))) ⟨m, fun _ => 0, g⟩ (fun r => (∀ c : Dev Cert.ExpGU.nD,
      r.2.mem ((c.tc : Thread Cert.ExpGU.nD Cert.ExpGU.τ).loc Cert.ExpGU.main_arg0) = m ((c.tc : Thread Cert.ExpGU.nD Cert.ExpGU.τ).loc Cert.ExpGU.main_arg0)
      ∧ r.2.mem ((c.tc : Thread Cert.ExpGU.nD Cert.ExpGU.τ).loc Cert.ExpGU.main_arg1) = m ((c.tc : Thread Cert.ExpGU.nD Cert.ExpGU.τ).loc Cert.ExpGU.main_arg1)
      ∧ r.2.mem ((c.tc : Thread Cert.ExpGU.nD Cert.ExpGU.τ).loc Cert.ExpGU.main_arg2) = m ((c.tc : Thread Cert.ExpGU.nD Cert.ExpGU.τ).loc Cert.ExpGU.main_arg2)
      ∧ r.2.mem ((c.tc : Thread Cert.ExpGU.nD Cert.ExpGU.τ).loc Cert.ExpGU.main_arg3) = m ((c.tc : Thread Cert.ExpGU.nD Cert.ExpGU.τ).loc Cert.ExpGU.main_arg3)
      ∧ r.2.mem ((c.tc : Thread Cert.ExpGU.nD Cert.ExpGU.τ).loc Cert.ExpGU.main_arg4) = m ((c.tc : Thread Cert.ExpGU.nD Cert.ExpGU.τ).loc Cert.ExpGU.main_arg4))
      ∧ r.2.sem = fun _ => 0)

def quiescent_ExpGUIdeal [hExpGUIdeal : Cert.ExpGUIdeal.Facts] [hPre_tables_egu : Cert.Pre_tables_egu.Facts] : Prop :=
  ∀ (m : (ℓ : Loc Cert.ExpGUIdeal.nD Cert.ExpGUIdeal.τ Cert.ExpGUIdeal.sig) → Buf (Elt Ideal) ℓ) (g : Dev Cert.ExpGUIdeal.nD → PrngReg), Pre_ExpGUIdeal m →
    θ_run (Cert.ExpGUIdeal.defs (F := Ideal)) (onTc (τ := Cert.ExpGUIdeal.τ) (Cert.ExpGUIdeal.main (F := Ideal))) ⟨m, fun _ => 0, g⟩ (fun r => (∀ c : Dev Cert.ExpGUIdeal.nD,
      r.2.mem ((c.tc : Thread Cert.ExpGUIdeal.nD Cert.ExpGUIdeal.τ).loc Cert.ExpGUIdeal.main_arg0) = m ((c.tc : Thread Cert.ExpGUIdeal.nD Cert.ExpGUIdeal.τ).loc Cert.ExpGUIdeal.main_arg0)
      ∧ r.2.mem ((c.tc : Thread Cert.ExpGUIdeal.nD Cert.ExpGUIdeal.τ).loc Cert.ExpGUIdeal.main_arg1) = m ((c.tc : Thread Cert.ExpGUIdeal.nD Cert.ExpGUIdeal.τ).loc Cert.ExpGUIdeal.main_arg1)
      ∧ r.2.mem ((c.tc : Thread Cert.ExpGUIdeal.nD Cert.ExpGUIdeal.τ).loc Cert.ExpGUIdeal.main_arg2) = m ((c.tc : Thread Cert.ExpGUIdeal.nD Cert.ExpGUIdeal.τ).loc Cert.ExpGUIdeal.main_arg2)
      ∧ r.2.mem ((c.tc : Thread Cert.ExpGUIdeal.nD Cert.ExpGUIdeal.τ).loc Cert.ExpGUIdeal.main_arg3) = m ((c.tc : Thread Cert.ExpGUIdeal.nD Cert.ExpGUIdeal.τ).loc Cert.ExpGUIdeal.main_arg3)
      ∧ r.2.mem ((c.tc : Thread Cert.ExpGUIdeal.nD Cert.ExpGUIdeal.τ).loc Cert.ExpGUIdeal.main_arg4) = m ((c.tc : Thread Cert.ExpGUIdeal.nD Cert.ExpGUIdeal.τ).loc Cert.ExpGUIdeal.main_arg4))
      ∧ r.2.sem = fun _ => 0)

def quiescent_ExpGURefIdeal [hExpGURefIdeal : Cert.ExpGURefIdeal.Facts] [hPre_tables_egu : Cert.Pre_tables_egu.Facts] : Prop :=
  ∀ (m : (ℓ : Loc Cert.ExpGURefIdeal.nD Cert.ExpGURefIdeal.τ Cert.ExpGURefIdeal.sig) → Buf (Elt Ideal) ℓ) (g : Dev Cert.ExpGURefIdeal.nD → PrngReg), Pre_ExpGURefIdeal m →
    θ_run (Cert.ExpGURefIdeal.defs (F := Ideal)) (onTc (τ := Cert.ExpGURefIdeal.τ) (Cert.ExpGURefIdeal.main (F := Ideal))) ⟨m, fun _ => 0, g⟩ (fun r => (∀ c : Dev Cert.ExpGURefIdeal.nD,
      r.2.mem ((c.tc : Thread Cert.ExpGURefIdeal.nD Cert.ExpGURefIdeal.τ).loc Cert.ExpGURefIdeal.main_arg0) = m ((c.tc : Thread Cert.ExpGURefIdeal.nD Cert.ExpGURefIdeal.τ).loc Cert.ExpGURefIdeal.main_arg0)
      ∧ r.2.mem ((c.tc : Thread Cert.ExpGURefIdeal.nD Cert.ExpGURefIdeal.τ).loc Cert.ExpGURefIdeal.main_arg1) = m ((c.tc : Thread Cert.ExpGURefIdeal.nD Cert.ExpGURefIdeal.τ).loc Cert.ExpGURefIdeal.main_arg1)
      ∧ r.2.mem ((c.tc : Thread Cert.ExpGURefIdeal.nD Cert.ExpGURefIdeal.τ).loc Cert.ExpGURefIdeal.main_arg2) = m ((c.tc : Thread Cert.ExpGURefIdeal.nD Cert.ExpGURefIdeal.τ).loc Cert.ExpGURefIdeal.main_arg2)
      ∧ r.2.mem ((c.tc : Thread Cert.ExpGURefIdeal.nD Cert.ExpGURefIdeal.τ).loc Cert.ExpGURefIdeal.main_arg3) = m ((c.tc : Thread Cert.ExpGURefIdeal.nD Cert.ExpGURefIdeal.τ).loc Cert.ExpGURefIdeal.main_arg3)
      ∧ r.2.mem ((c.tc : Thread Cert.ExpGURefIdeal.nD Cert.ExpGURefIdeal.τ).loc Cert.ExpGURefIdeal.main_arg4) = m ((c.tc : Thread Cert.ExpGURefIdeal.nD Cert.ExpGURefIdeal.τ).loc Cert.ExpGURefIdeal.main_arg4))
      ∧ r.2.sem = fun _ => 0)

def quiescent_ExpDown [hExpDown : Cert.ExpDown.Facts] [hPre_tables_edown : Cert.Pre_tables_edown.Facts] : Prop :=
  ∀ (m : (ℓ : Loc Cert.ExpDown.nD Cert.ExpDown.τ Cert.ExpDown.sig) → Buf (Elt Bits) ℓ) (g : Dev Cert.ExpDown.nD → PrngReg), Pre_ExpDown m →
    θ_run (Cert.ExpDown.defs (F := Bits)) (onTc (τ := Cert.ExpDown.τ) (Cert.ExpDown.main (F := Bits))) ⟨m, fun _ => 0, g⟩ (fun r => (∀ c : Dev Cert.ExpDown.nD,
      r.2.mem ((c.tc : Thread Cert.ExpDown.nD Cert.ExpDown.τ).loc Cert.ExpDown.main_arg0) = m ((c.tc : Thread Cert.ExpDown.nD Cert.ExpDown.τ).loc Cert.ExpDown.main_arg0)
      ∧ r.2.mem ((c.tc : Thread Cert.ExpDown.nD Cert.ExpDown.τ).loc Cert.ExpDown.main_arg1) = m ((c.tc : Thread Cert.ExpDown.nD Cert.ExpDown.τ).loc Cert.ExpDown.main_arg1)
      ∧ r.2.mem ((c.tc : Thread Cert.ExpDown.nD Cert.ExpDown.τ).loc Cert.ExpDown.main_arg2) = m ((c.tc : Thread Cert.ExpDown.nD Cert.ExpDown.τ).loc Cert.ExpDown.main_arg2)
      ∧ r.2.mem ((c.tc : Thread Cert.ExpDown.nD Cert.ExpDown.τ).loc Cert.ExpDown.main_arg3) = m ((c.tc : Thread Cert.ExpDown.nD Cert.ExpDown.τ).loc Cert.ExpDown.main_arg3))
      ∧ r.2.sem = fun _ => 0)

def quiescent_ExpDownIdeal [hExpDownIdeal : Cert.ExpDownIdeal.Facts] [hPre_tables_edown : Cert.Pre_tables_edown.Facts] : Prop :=
  ∀ (m : (ℓ : Loc Cert.ExpDownIdeal.nD Cert.ExpDownIdeal.τ Cert.ExpDownIdeal.sig) → Buf (Elt Ideal) ℓ) (g : Dev Cert.ExpDownIdeal.nD → PrngReg), Pre_ExpDownIdeal m →
    θ_run (Cert.ExpDownIdeal.defs (F := Ideal)) (onTc (τ := Cert.ExpDownIdeal.τ) (Cert.ExpDownIdeal.main (F := Ideal))) ⟨m, fun _ => 0, g⟩ (fun r => (∀ c : Dev Cert.ExpDownIdeal.nD,
      r.2.mem ((c.tc : Thread Cert.ExpDownIdeal.nD Cert.ExpDownIdeal.τ).loc Cert.ExpDownIdeal.main_arg0) = m ((c.tc : Thread Cert.ExpDownIdeal.nD Cert.ExpDownIdeal.τ).loc Cert.ExpDownIdeal.main_arg0)
      ∧ r.2.mem ((c.tc : Thread Cert.ExpDownIdeal.nD Cert.ExpDownIdeal.τ).loc Cert.ExpDownIdeal.main_arg1) = m ((c.tc : Thread Cert.ExpDownIdeal.nD Cert.ExpDownIdeal.τ).loc Cert.ExpDownIdeal.main_arg1)
      ∧ r.2.mem ((c.tc : Thread Cert.ExpDownIdeal.nD Cert.ExpDownIdeal.τ).loc Cert.ExpDownIdeal.main_arg2) = m ((c.tc : Thread Cert.ExpDownIdeal.nD Cert.ExpDownIdeal.τ).loc Cert.ExpDownIdeal.main_arg2)
      ∧ r.2.mem ((c.tc : Thread Cert.ExpDownIdeal.nD Cert.ExpDownIdeal.τ).loc Cert.ExpDownIdeal.main_arg3) = m ((c.tc : Thread Cert.ExpDownIdeal.nD Cert.ExpDownIdeal.τ).loc Cert.ExpDownIdeal.main_arg3))
      ∧ r.2.sem = fun _ => 0)

def quiescent_ExpDownRefIdeal [hExpDownRefIdeal : Cert.ExpDownRefIdeal.Facts] [hPre_tables_edown : Cert.Pre_tables_edown.Facts] : Prop :=
  ∀ (m : (ℓ : Loc Cert.ExpDownRefIdeal.nD Cert.ExpDownRefIdeal.τ Cert.ExpDownRefIdeal.sig) → Buf (Elt Ideal) ℓ) (g : Dev Cert.ExpDownRefIdeal.nD → PrngReg), Pre_ExpDownRefIdeal m →
    θ_run (Cert.ExpDownRefIdeal.defs (F := Ideal)) (onTc (τ := Cert.ExpDownRefIdeal.τ) (Cert.ExpDownRefIdeal.main (F := Ideal))) ⟨m, fun _ => 0, g⟩ (fun r => (∀ c : Dev Cert.ExpDownRefIdeal.nD,
      r.2.mem ((c.tc : Thread Cert.ExpDownRefIdeal.nD Cert.ExpDownRefIdeal.τ).loc Cert.ExpDownRefIdeal.main_arg0) = m ((c.tc : Thread Cert.ExpDownRefIdeal.nD Cert.ExpDownRefIdeal.τ).loc Cert.ExpDownRefIdeal.main_arg0)
      ∧ r.2.mem ((c.tc : Thread Cert.ExpDownRefIdeal.nD Cert.ExpDownRefIdeal.τ).loc Cert.ExpDownRefIdeal.main_arg1) = m ((c.tc : Thread Cert.ExpDownRefIdeal.nD Cert.ExpDownRefIdeal.τ).loc Cert.ExpDownRefIdeal.main_arg1)
      ∧ r.2.mem ((c.tc : Thread Cert.ExpDownRefIdeal.nD Cert.ExpDownRefIdeal.τ).loc Cert.ExpDownRefIdeal.main_arg2) = m ((c.tc : Thread Cert.ExpDownRefIdeal.nD Cert.ExpDownRefIdeal.τ).loc Cert.ExpDownRefIdeal.main_arg2)
      ∧ r.2.mem ((c.tc : Thread Cert.ExpDownRefIdeal.nD Cert.ExpDownRefIdeal.τ).loc Cert.ExpDownRefIdeal.main_arg3) = m ((c.tc : Thread Cert.ExpDownRefIdeal.nD Cert.ExpDownRefIdeal.τ).loc Cert.ExpDownRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v3)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v4) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v6) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v9) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_GatePool_GatePoolIdeal : Prop :=
  True

def algebraic_GatePoolIdeal_GatePoolRefIdeal [hGatePoolIdeal : Cert.GatePoolIdeal.Facts] [hGatePoolRefIdeal : Cert.GatePoolRefIdeal.Facts] : Prop :=
  ∀ (m : (ℓ : Loc Cert.GatePoolIdeal.nD Cert.GatePoolIdeal.τ Cert.GatePoolIdeal.sig) → Buf (Elt Ideal) ℓ) (g : Dev Cert.GatePoolIdeal.nD → PrngReg)
    (m' : (ℓ : Loc Cert.GatePoolRefIdeal.nD Cert.GatePoolRefIdeal.τ Cert.GatePoolRefIdeal.sig) → Buf (Elt Ideal) ℓ) (g' : Dev Cert.GatePoolRefIdeal.nD → PrngReg), Pre_GatePoolIdeal m →
    (∀ c : Dev Cert.GatePoolIdeal.nD,
      m' ((c.tc : Thread Cert.GatePoolRefIdeal.nD Cert.GatePoolRefIdeal.τ).loc Cert.GatePoolRefIdeal.main_arg0) = m ((c.tc : Thread Cert.GatePoolIdeal.nD Cert.GatePoolIdeal.τ).loc Cert.GatePoolIdeal.main_arg0)
      ∧ m' ((c.tc : Thread Cert.GatePoolRefIdeal.nD Cert.GatePoolRefIdeal.τ).loc Cert.GatePoolRefIdeal.main_arg1) = m ((c.tc : Thread Cert.GatePoolIdeal.nD Cert.GatePoolIdeal.τ).loc Cert.GatePoolIdeal.main_arg1)) →
    ∃ (v0 : (c : Dev Cert.GatePoolIdeal.nD) → Buf (Elt Ideal) ((c.tc : Thread Cert.GatePoolIdeal.nD Cert.GatePoolIdeal.τ).loc Cert.GatePoolIdeal.main_v6)),
      θ_run (Cert.GatePoolIdeal.defs (F := Ideal)) (onTc (τ := Cert.GatePoolIdeal.τ) (Cert.GatePoolIdeal.main (F := Ideal))) ⟨m, fun _ => 0, g⟩ (fun r => ∀ c : Dev Cert.GatePoolIdeal.nD,
          r.2.mem ((c.tc : Thread Cert.GatePoolIdeal.nD Cert.GatePoolIdeal.τ).loc Cert.GatePoolIdeal.main_v6) = v0 c
          ∧ r.2.mem ((c.tc : Thread Cert.GatePoolIdeal.nD Cert.GatePoolIdeal.τ).loc Cert.GatePoolIdeal.main_arg0) = m ((c.tc : Thread Cert.GatePoolIdeal.nD Cert.GatePoolIdeal.τ).loc Cert.GatePoolIdeal.main_arg0)
          ∧ r.2.mem ((c.tc : Thread Cert.GatePoolIdeal.nD Cert.GatePoolIdeal.τ).loc Cert.GatePoolIdeal.main_arg1) = m ((c.tc : Thread Cert.GatePoolIdeal.nD Cert.GatePoolIdeal.τ).loc Cert.GatePoolIdeal.main_arg1))
      ∧ θ_run (Cert.GatePoolRefIdeal.defs (F := Ideal)) (onTc (τ := Cert.GatePoolRefIdeal.τ) (Cert.GatePoolRefIdeal.main (F := Ideal))) ⟨m', fun _ => 0, g'⟩ (fun r => ∀ c : Dev Cert.GatePoolRefIdeal.nD,
          r.2.mem ((c.tc : Thread Cert.GatePoolRefIdeal.nD Cert.GatePoolRefIdeal.τ).loc Cert.GatePoolRefIdeal.main_v4) = v0 c
          ∧ r.2.mem ((c.tc : Thread Cert.GatePoolRefIdeal.nD Cert.GatePoolRefIdeal.τ).loc Cert.GatePoolRefIdeal.main_arg0) = m' ((c.tc : Thread Cert.GatePoolRefIdeal.nD Cert.GatePoolRefIdeal.τ).loc Cert.GatePoolRefIdeal.main_arg0)
          ∧ r.2.mem ((c.tc : Thread Cert.GatePoolRefIdeal.nD Cert.GatePoolRefIdeal.τ).loc Cert.GatePoolRefIdeal.main_arg1) = m' ((c.tc : Thread Cert.GatePoolRefIdeal.nD Cert.GatePoolRefIdeal.τ).loc Cert.GatePoolRefIdeal.main_arg1))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v127) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v2) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v21) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)
      ∧ m' ((c.tc : Thread Cert.PreNormRefIdeal.nD Cert.PreNormRefIdeal.τ).loc Cert.PreNormRefIdeal.main_arg2) = m ((c.tc : Thread Cert.PreNormIdeal.nD Cert.PreNormIdeal.τ).loc Cert.PreNormIdeal.main_arg2)) →
    ∃ (v0 : (c : Dev Cert.PreNormIdeal.nD) → Buf (Elt Ideal) ((c.tc : Thread Cert.PreNormIdeal.nD Cert.PreNormIdeal.τ).loc Cert.PreNormIdeal.main_v1)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v1) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
          ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v25) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1)
          ∧ r.2.mem ((c.tc : Thread Cert.PreNormRefIdeal.nD Cert.PreNormRefIdeal.τ).loc Cert.PreNormRefIdeal.main_arg2) = m' ((c.tc : Thread Cert.PreNormRefIdeal.nD Cert.PreNormRefIdeal.τ).loc Cert.PreNormRefIdeal.main_arg2))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)) →
    ∃ (v0 : (c : Dev Cert.ResidIdeal.nD) → Buf (Elt Ideal) ((c.tc : Thread Cert.ResidIdeal.nD Cert.ResidIdeal.τ).loc Cert.ResidIdeal.main_v1_0)) (v1 : (c : Dev Cert.ResidIdeal.nD) → Buf (Elt Ideal) ((c.tc : Thread Cert.ResidIdeal.nD Cert.ResidIdeal.τ).loc Cert.ResidIdeal.main_v1_1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v1_0) = v0 c
          ∧ r.2.mem ((c.tc : Thread Cert.ResidIdeal.nD Cert.ResidIdeal.τ).loc Cert.ResidIdeal.main_v1_1) = v1 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v19) = v0 c
          ∧ r.2.mem ((c.tc : Thread Cert.ResidRefIdeal.nD Cert.ResidRefIdeal.τ).loc Cert.ResidRefIdeal.main_v45) = v1 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3))

def preserves_Next_NextIdeal : Prop :=
  True

def algebraic_NextIdeal_NextRefIdeal [hNextIdeal : Cert.NextIdeal.Facts] [hNextRefIdeal : Cert.NextRefIdeal.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextRefIdeal.nD Cert.NextRefIdeal.τ Cert.NextRefIdeal.sig) → Buf (Elt Ideal) ℓ) (g' : Dev Cert.NextRefIdeal.nD → PrngReg), Pre_NextIdeal m →
    (∀ c : Dev Cert.NextIdeal.nD,
      m' ((c.tc : Thread Cert.NextRefIdeal.nD Cert.NextRefIdeal.τ).loc Cert.NextRefIdeal.main_arg0) = m ((c.tc : Thread Cert.NextIdeal.nD Cert.NextIdeal.τ).loc Cert.NextIdeal.main_arg0)
      ∧ m' ((c.tc : Thread Cert.NextRefIdeal.nD Cert.NextRefIdeal.τ).loc Cert.NextRefIdeal.main_arg1) = m ((c.tc : Thread Cert.NextIdeal.nD Cert.NextIdeal.τ).loc Cert.NextIdeal.main_arg1)
      ∧ m' ((c.tc : Thread Cert.NextRefIdeal.nD Cert.NextRefIdeal.τ).loc Cert.NextRefIdeal.main_arg2) = m ((c.tc : Thread Cert.NextIdeal.nD Cert.NextIdeal.τ).loc Cert.NextIdeal.main_arg2)
      ∧ m' ((c.tc : Thread Cert.NextRefIdeal.nD Cert.NextRefIdeal.τ).loc Cert.NextRefIdeal.main_arg3) = m ((c.tc : Thread Cert.NextIdeal.nD Cert.NextIdeal.τ).loc Cert.NextIdeal.main_arg3)) →
    ∃ (v0 : (c : Dev Cert.NextIdeal.nD) → Buf (Elt Ideal) ((c.tc : Thread Cert.NextIdeal.nD Cert.NextIdeal.τ).loc Cert.NextIdeal.main_v1_0)) (v1 : (c : Dev Cert.NextIdeal.nD) → Buf (Elt Ideal) ((c.tc : Thread Cert.NextIdeal.nD Cert.NextIdeal.τ).loc Cert.NextIdeal.main_v1_1)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v1_0) = v0 c
          ∧ r.2.mem ((c.tc : Thread Cert.NextIdeal.nD Cert.NextIdeal.τ).loc Cert.NextIdeal.main_v1_1) = v1 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3))
      ∧ θ_run (Cert.NextRefIdeal.defs (F := Ideal)) (onTc (τ := Cert.NextRefIdeal.τ) (Cert.NextRefIdeal.main (F := Ideal))) ⟨m', fun _ => 0, g'⟩ (fun r => ∀ c : Dev Cert.NextRefIdeal.nD,
          r.2.mem ((c.tc : Thread Cert.NextRefIdeal.nD Cert.NextRefIdeal.τ).loc Cert.NextRefIdeal.main_v19) = v0 c
          ∧ r.2.mem ((c.tc : Thread Cert.NextRefIdeal.nD Cert.NextRefIdeal.τ).loc Cert.NextRefIdeal.main_v45) = v1 c
          ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
          ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
          ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
          ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3))

def preserves_ExpGU_ExpGUIdeal : Prop :=
  True

def algebraic_ExpGUIdeal_ExpGURefIdeal [hExpGUIdeal : Cert.ExpGUIdeal.Facts] [hExpGURefIdeal : Cert.ExpGURefIdeal.Facts] [hPre_tables_egu : Cert.Pre_tables_egu.Facts] : Prop :=
  ∀ (m : (ℓ : Loc Cert.ExpGUIdeal.nD Cert.ExpGUIdeal.τ Cert.ExpGUIdeal.sig) → Buf (Elt Ideal) ℓ) (g : Dev Cert.ExpGUIdeal.nD → PrngReg)
    (m' : (ℓ : Loc Cert.ExpGURefIdeal.nD Cert.ExpGURefIdeal.τ Cert.ExpGURefIdeal.sig) → Buf (Elt Ideal) ℓ) (g' : Dev Cert.ExpGURefIdeal.nD → PrngReg), Pre_ExpGUIdeal m →
    (∀ c : Dev Cert.ExpGUIdeal.nD,
      m' ((c.tc : Thread Cert.ExpGURefIdeal.nD Cert.ExpGURefIdeal.τ).loc Cert.ExpGURefIdeal.main_arg0) = m ((c.tc : Thread Cert.ExpGUIdeal.nD Cert.ExpGUIdeal.τ).loc Cert.ExpGUIdeal.main_arg0)
      ∧ m' ((c.tc : Thread Cert.ExpGURefIdeal.nD Cert.ExpGURefIdeal.τ).loc Cert.ExpGURefIdeal.main_arg1) = m ((c.tc : Thread Cert.ExpGUIdeal.nD Cert.ExpGUIdeal.τ).loc Cert.ExpGUIdeal.main_arg1)
      ∧ m' ((c.tc : Thread Cert.ExpGURefIdeal.nD Cert.ExpGURefIdeal.τ).loc Cert.ExpGURefIdeal.main_arg2) = m ((c.tc : Thread Cert.ExpGUIdeal.nD Cert.ExpGUIdeal.τ).loc Cert.ExpGUIdeal.main_arg2)
      ∧ m' ((c.tc : Thread Cert.ExpGURefIdeal.nD Cert.ExpGURefIdeal.τ).loc Cert.ExpGURefIdeal.main_arg3) = m ((c.tc : Thread Cert.ExpGUIdeal.nD Cert.ExpGUIdeal.τ).loc Cert.ExpGUIdeal.main_arg3)
      ∧ m' ((c.tc : Thread Cert.ExpGURefIdeal.nD Cert.ExpGURefIdeal.τ).loc Cert.ExpGURefIdeal.main_arg4) = m ((c.tc : Thread Cert.ExpGUIdeal.nD Cert.ExpGUIdeal.τ).loc Cert.ExpGUIdeal.main_arg4)) →
    ∃ (v0 : (c : Dev Cert.ExpGUIdeal.nD) → Buf (Elt Ideal) ((c.tc : Thread Cert.ExpGUIdeal.nD Cert.ExpGUIdeal.τ).loc Cert.ExpGUIdeal.main_v0)),
      θ_run (Cert.ExpGUIdeal.defs (F := Ideal)) (onTc (τ := Cert.ExpGUIdeal.τ) (Cert.ExpGUIdeal.main (F := Ideal))) ⟨m, fun _ => 0, g⟩ (fun r => ∀ c : Dev Cert.ExpGUIdeal.nD,
          r.2.mem ((c.tc : Thread Cert.ExpGUIdeal.nD Cert.ExpGUIdeal.τ).loc Cert.ExpGUIdeal.main_v0) = v0 c
          ∧ r.2.mem ((c.tc : Thread Cert.ExpGUIdeal.nD Cert.ExpGUIdeal.τ).loc Cert.ExpGUIdeal.main_arg0) = m ((c.tc : Thread Cert.ExpGUIdeal.nD Cert.ExpGUIdeal.τ).loc Cert.ExpGUIdeal.main_arg0)
          ∧ r.2.mem ((c.tc : Thread Cert.ExpGUIdeal.nD Cert.ExpGUIdeal.τ).loc Cert.ExpGUIdeal.main_arg1) = m ((c.tc : Thread Cert.ExpGUIdeal.nD Cert.ExpGUIdeal.τ).loc Cert.ExpGUIdeal.main_arg1)
          ∧ r.2.mem ((c.tc : Thread Cert.ExpGUIdeal.nD Cert.ExpGUIdeal.τ).loc Cert.ExpGUIdeal.main_arg2) = m ((c.tc : Thread Cert.ExpGUIdeal.nD Cert.ExpGUIdeal.τ).loc Cert.ExpGUIdeal.main_arg2)
          ∧ r.2.mem ((c.tc : Thread Cert.ExpGUIdeal.nD Cert.ExpGUIdeal.τ).loc Cert.ExpGUIdeal.main_arg3) = m ((c.tc : Thread Cert.ExpGUIdeal.nD Cert.ExpGUIdeal.τ).loc Cert.ExpGUIdeal.main_arg3)
          ∧ r.2.mem ((c.tc : Thread Cert.ExpGUIdeal.nD Cert.ExpGUIdeal.τ).loc Cert.ExpGUIdeal.main_arg4) = m ((c.tc : Thread Cert.ExpGUIdeal.nD Cert.ExpGUIdeal.τ).loc Cert.ExpGUIdeal.main_arg4))
      ∧ θ_run (Cert.ExpGURefIdeal.defs (F := Ideal)) (onTc (τ := Cert.ExpGURefIdeal.τ) (Cert.ExpGURefIdeal.main (F := Ideal))) ⟨m', fun _ => 0, g'⟩ (fun r => ∀ c : Dev Cert.ExpGURefIdeal.nD,
          r.2.mem ((c.tc : Thread Cert.ExpGURefIdeal.nD Cert.ExpGURefIdeal.τ).loc Cert.ExpGURefIdeal.main_v131) = v0 c
          ∧ r.2.mem ((c.tc : Thread Cert.ExpGURefIdeal.nD Cert.ExpGURefIdeal.τ).loc Cert.ExpGURefIdeal.main_arg0) = m' ((c.tc : Thread Cert.ExpGURefIdeal.nD Cert.ExpGURefIdeal.τ).loc Cert.ExpGURefIdeal.main_arg0)
          ∧ r.2.mem ((c.tc : Thread Cert.ExpGURefIdeal.nD Cert.ExpGURefIdeal.τ).loc Cert.ExpGURefIdeal.main_arg1) = m' ((c.tc : Thread Cert.ExpGURefIdeal.nD Cert.ExpGURefIdeal.τ).loc Cert.ExpGURefIdeal.main_arg1)
          ∧ r.2.mem ((c.tc : Thread Cert.ExpGURefIdeal.nD Cert.ExpGURefIdeal.τ).loc Cert.ExpGURefIdeal.main_arg2) = m' ((c.tc : Thread Cert.ExpGURefIdeal.nD Cert.ExpGURefIdeal.τ).loc Cert.ExpGURefIdeal.main_arg2)
          ∧ r.2.mem ((c.tc : Thread Cert.ExpGURefIdeal.nD Cert.ExpGURefIdeal.τ).loc Cert.ExpGURefIdeal.main_arg3) = m' ((c.tc : Thread Cert.ExpGURefIdeal.nD Cert.ExpGURefIdeal.τ).loc Cert.ExpGURefIdeal.main_arg3)
          ∧ r.2.mem ((c.tc : Thread Cert.ExpGURefIdeal.nD Cert.ExpGURefIdeal.τ).loc Cert.ExpGURefIdeal.main_arg4) = m' ((c.tc : Thread Cert.ExpGURefIdeal.nD Cert.ExpGURefIdeal.τ).loc Cert.ExpGURefIdeal.main_arg4))

def preserves_ExpDown_ExpDownIdeal : Prop :=
  True

def algebraic_ExpDownIdeal_ExpDownRefIdeal [hExpDownIdeal : Cert.ExpDownIdeal.Facts] [hExpDownRefIdeal : Cert.ExpDownRefIdeal.Facts] [hPre_tables_edown : Cert.Pre_tables_edown.Facts] : Prop :=
  ∀ (m : (ℓ : Loc Cert.ExpDownIdeal.nD Cert.ExpDownIdeal.τ Cert.ExpDownIdeal.sig) → Buf (Elt Ideal) ℓ) (g : Dev Cert.ExpDownIdeal.nD → PrngReg)
    (m' : (ℓ : Loc Cert.ExpDownRefIdeal.nD Cert.ExpDownRefIdeal.τ Cert.ExpDownRefIdeal.sig) → Buf (Elt Ideal) ℓ) (g' : Dev Cert.ExpDownRefIdeal.nD → PrngReg), Pre_ExpDownIdeal m →
    (∀ c : Dev Cert.ExpDownIdeal.nD,
      m' ((c.tc : Thread Cert.ExpDownRefIdeal.nD Cert.ExpDownRefIdeal.τ).loc Cert.ExpDownRefIdeal.main_arg0) = m ((c.tc : Thread Cert.ExpDownIdeal.nD Cert.ExpDownIdeal.τ).loc Cert.ExpDownIdeal.main_arg0)
      ∧ m' ((c.tc : Thread Cert.ExpDownRefIdeal.nD Cert.ExpDownRefIdeal.τ).loc Cert.ExpDownRefIdeal.main_arg1) = m ((c.tc : Thread Cert.ExpDownIdeal.nD Cert.ExpDownIdeal.τ).loc Cert.ExpDownIdeal.main_arg1)
      ∧ m' ((c.tc : Thread Cert.ExpDownRefIdeal.nD Cert.ExpDownRefIdeal.τ).loc Cert.ExpDownRefIdeal.main_arg2) = m ((c.tc : Thread Cert.ExpDownIdeal.nD Cert.ExpDownIdeal.τ).loc Cert.ExpDownIdeal.main_arg2)
      ∧ m' ((c.tc : Thread Cert.ExpDownRefIdeal.nD Cert.ExpDownRefIdeal.τ).loc Cert.ExpDownRefIdeal.main_arg3) = m ((c.tc : Thread Cert.ExpDownIdeal.nD Cert.ExpDownIdeal.τ).loc Cert.ExpDownIdeal.main_arg3)) →
    ∃ (v0 : (c : Dev Cert.ExpDownIdeal.nD) → Buf (Elt Ideal) ((c.tc : Thread Cert.ExpDownIdeal.nD Cert.ExpDownIdeal.τ).loc Cert.ExpDownIdeal.main_v0)),
      θ_run (Cert.ExpDownIdeal.defs (F := Ideal)) (onTc (τ := Cert.ExpDownIdeal.τ) (Cert.ExpDownIdeal.main (F := Ideal))) ⟨m, fun _ => 0, g⟩ (fun r => ∀ c : Dev Cert.ExpDownIdeal.nD,
          r.2.mem ((c.tc : Thread Cert.ExpDownIdeal.nD Cert.ExpDownIdeal.τ).loc Cert.ExpDownIdeal.main_v0) = v0 c
          ∧ r.2.mem ((c.tc : Thread Cert.ExpDownIdeal.nD Cert.ExpDownIdeal.τ).loc Cert.ExpDownIdeal.main_arg0) = m ((c.tc : Thread Cert.ExpDownIdeal.nD Cert.ExpDownIdeal.τ).loc Cert.ExpDownIdeal.main_arg0)
          ∧ r.2.mem ((c.tc : Thread Cert.ExpDownIdeal.nD Cert.ExpDownIdeal.τ).loc Cert.ExpDownIdeal.main_arg1) = m ((c.tc : Thread Cert.ExpDownIdeal.nD Cert.ExpDownIdeal.τ).loc Cert.ExpDownIdeal.main_arg1)
          ∧ r.2.mem ((c.tc : Thread Cert.ExpDownIdeal.nD Cert.ExpDownIdeal.τ).loc Cert.ExpDownIdeal.main_arg2) = m ((c.tc : Thread Cert.ExpDownIdeal.nD Cert.ExpDownIdeal.τ).loc Cert.ExpDownIdeal.main_arg2)
          ∧ r.2.mem ((c.tc : Thread Cert.ExpDownIdeal.nD Cert.ExpDownIdeal.τ).loc Cert.ExpDownIdeal.main_arg3) = m ((c.tc : Thread Cert.ExpDownIdeal.nD Cert.ExpDownIdeal.τ).loc Cert.ExpDownIdeal.main_arg3))
      ∧ θ_run (Cert.ExpDownRefIdeal.defs (F := Ideal)) (onTc (τ := Cert.ExpDownRefIdeal.τ) (Cert.ExpDownRefIdeal.main (F := Ideal))) ⟨m', fun _ => 0, g'⟩ (fun r => ∀ c : Dev Cert.ExpDownRefIdeal.nD,
          r.2.mem ((c.tc : Thread Cert.ExpDownRefIdeal.nD Cert.ExpDownRefIdeal.τ).loc Cert.ExpDownRefIdeal.main_v90) = v0 c
          ∧ r.2.mem ((c.tc : Thread Cert.ExpDownRefIdeal.nD Cert.ExpDownRefIdeal.τ).loc Cert.ExpDownRefIdeal.main_arg0) = m' ((c.tc : Thread Cert.ExpDownRefIdeal.nD Cert.ExpDownRefIdeal.τ).loc Cert.ExpDownRefIdeal.main_arg0)
          ∧ r.2.mem ((c.tc : Thread Cert.ExpDownRefIdeal.nD Cert.ExpDownRefIdeal.τ).loc Cert.ExpDownRefIdeal.main_arg1) = m' ((c.tc : Thread Cert.ExpDownRefIdeal.nD Cert.ExpDownRefIdeal.τ).loc Cert.ExpDownRefIdeal.main_arg1)
          ∧ r.2.mem ((c.tc : Thread Cert.ExpDownRefIdeal.nD Cert.ExpDownRefIdeal.τ).loc Cert.ExpDownRefIdeal.main_arg2) = m' ((c.tc : Thread Cert.ExpDownRefIdeal.nD Cert.ExpDownRefIdeal.τ).loc Cert.ExpDownRefIdeal.main_arg2)
          ∧ r.2.mem ((c.tc : Thread Cert.ExpDownRefIdeal.nD Cert.ExpDownRefIdeal.τ).loc Cert.ExpDownRefIdeal.main_arg3) = m' ((c.tc : Thread Cert.ExpDownRefIdeal.nD Cert.ExpDownRefIdeal.τ).loc Cert.ExpDownRefIdeal.main_arg3))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts) (hOutProj : Cert.OutProj.Facts) (hOutProjIdeal : Cert.OutProjIdeal.Facts) (hOutProjRefIdeal : Cert.OutProjRefIdeal.Facts) (hGatePool : Cert.GatePool.Facts) (hGatePoolIdeal : Cert.GatePoolIdeal.Facts) (hGatePoolRefIdeal : Cert.GatePoolRefIdeal.Facts) (hPool : Cert.Pool.Facts) (hPoolIdeal : Cert.PoolIdeal.Facts) (hPoolRefIdeal : Cert.PoolRefIdeal.Facts) (hMod : Cert.Mod.Facts) (hModIdeal : Cert.ModIdeal.Facts) (hModRefIdeal : Cert.ModRefIdeal.Facts) (hPreNorm : Cert.PreNorm.Facts) (hPreNormIdeal : Cert.PreNormIdeal.Facts) (hPreNormRefIdeal : Cert.PreNormRefIdeal.Facts) (hResid : Cert.Resid.Facts) (hResidIdeal : Cert.ResidIdeal.Facts) (hResidRefIdeal : Cert.ResidRefIdeal.Facts) (hNext : Cert.Next.Facts) (hNextIdeal : Cert.NextIdeal.Facts) (hNextRefIdeal : Cert.NextRefIdeal.Facts) (hExpGU : Cert.ExpGU.Facts) (hExpGUIdeal : Cert.ExpGUIdeal.Facts) (hExpGURefIdeal : Cert.ExpGURefIdeal.Facts) (hExpDown : Cert.ExpDown.Facts) (hExpDownIdeal : Cert.ExpDownIdeal.Facts) (hExpDownRefIdeal : Cert.ExpDownRefIdeal.Facts) (hPre_finite : Cert.Pre_finite.Facts) (hPre_tables_egu : Cert.Pre_tables_egu.Facts) (hPre_tables_edown : Cert.Pre_tables_edown.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_GatePool (hGatePool := hGatePool)
    ∧ quiescent_GatePoolIdeal (hGatePoolIdeal := hGatePoolIdeal)
    ∧ quiescent_GatePoolRefIdeal (hGatePoolRefIdeal := hGatePoolRefIdeal)
    ∧ quiescent_Pool (hPool := hPool)
    ∧ quiescent_PoolIdeal (hPoolIdeal := hPoolIdeal)
    ∧ quiescent_PoolRefIdeal (hPoolRefIdeal := hPoolRefIdeal)
    ∧ quiescent_Mod (hMod := hMod)
    ∧ quiescent_ModIdeal (hModIdeal := hModIdeal)
    ∧ quiescent_ModRefIdeal (hModRefIdeal := hModRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_Resid (hResid := hResid)
    ∧ quiescent_ResidIdeal (hResidIdeal := hResidIdeal)
    ∧ quiescent_ResidRefIdeal (hResidRefIdeal := hResidRefIdeal)
    ∧ quiescent_Next (hNext := hNext)
    ∧ quiescent_NextIdeal (hNextIdeal := hNextIdeal)
    ∧ quiescent_NextRefIdeal (hNextRefIdeal := hNextRefIdeal)
    ∧ quiescent_ExpGU (hExpGU := hExpGU) (hPre_tables_egu := hPre_tables_egu)
    ∧ quiescent_ExpGUIdeal (hExpGUIdeal := hExpGUIdeal) (hPre_tables_egu := hPre_tables_egu)
    ∧ quiescent_ExpGURefIdeal (hExpGURefIdeal := hExpGURefIdeal) (hPre_tables_egu := hPre_tables_egu)
    ∧ quiescent_ExpDown (hExpDown := hExpDown) (hPre_tables_edown := hPre_tables_edown)
    ∧ quiescent_ExpDownIdeal (hExpDownIdeal := hExpDownIdeal) (hPre_tables_edown := hPre_tables_edown)
    ∧ quiescent_ExpDownRefIdeal (hExpDownRefIdeal := hExpDownRefIdeal) (hPre_tables_edown := hPre_tables_edown)
    ∧ preserves_Kernel_KernelIdeal
    ∧ algebraic_KernelIdeal_ReferenceIdeal_pre_finite (hKernelIdeal := hKernelIdeal) (hReferenceIdeal := hReferenceIdeal) (hPre_finite := hPre_finite)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
    ∧ preserves_OutProj_OutProjIdeal
    ∧ algebraic_OutProjIdeal_OutProjRefIdeal (hOutProjIdeal := hOutProjIdeal) (hOutProjRefIdeal := hOutProjRefIdeal)
    ∧ preserves_GatePool_GatePoolIdeal
    ∧ algebraic_GatePoolIdeal_GatePoolRefIdeal (hGatePoolIdeal := hGatePoolIdeal) (hGatePoolRefIdeal := hGatePoolRefIdeal)
    ∧ preserves_Pool_PoolIdeal
    ∧ algebraic_PoolIdeal_PoolRefIdeal (hPoolIdeal := hPoolIdeal) (hPoolRefIdeal := hPoolRefIdeal)
    ∧ preserves_Mod_ModIdeal
    ∧ algebraic_ModIdeal_ModRefIdeal (hModIdeal := hModIdeal) (hModRefIdeal := hModRefIdeal)
    ∧ preserves_PreNorm_PreNormIdeal
    ∧ algebraic_PreNormIdeal_PreNormRefIdeal (hPreNormIdeal := hPreNormIdeal) (hPreNormRefIdeal := hPreNormRefIdeal)
    ∧ preserves_Resid_ResidIdeal
    ∧ algebraic_ResidIdeal_ResidRefIdeal (hResidIdeal := hResidIdeal) (hResidRefIdeal := hResidRefIdeal)
    ∧ preserves_Next_NextIdeal
    ∧ algebraic_NextIdeal_NextRefIdeal (hNextIdeal := hNextIdeal) (hNextRefIdeal := hNextRefIdeal)
    ∧ preserves_ExpGU_ExpGUIdeal
    ∧ algebraic_ExpGUIdeal_ExpGURefIdeal (hExpGUIdeal := hExpGUIdeal) (hExpGURefIdeal := hExpGURefIdeal) (hPre_tables_egu := hPre_tables_egu)
    ∧ preserves_ExpDown_ExpDownIdeal
    ∧ algebraic_ExpDownIdeal_ExpDownRefIdeal (hExpDownIdeal := hExpDownIdeal) (hExpDownRefIdeal := hExpDownRefIdeal) (hPre_tables_edown := hPre_tables_edown)
-- ==== Pre_finite.lean ====
abbrev S4x2048x24x128 : Shape := ⟨4, ![4, 2048, 24, 128]⟩
abbrev S4x2048x24 : Shape := ⟨3, ![4, 2048, 24]⟩
abbrev S_ : Shape := ⟨0, ![]⟩
abbrev S4x2048x24x1 : Shape := ⟨4, ![4, 2048, 24, 1]⟩

class Facts : Prop where
  bcast_S_S4x2048x24x128 : S_.BroadcastsInDim S4x2048x24x128 (![] : Fin 0 → Fin S4x2048x24x128.rank)
  bcast_S4x2048x24_S4x2048x24x1_0_1_2 : S4x2048x24.BroadcastsInDim S4x2048x24x1 (![0, 1, 2] : Fin 3 → Fin S4x2048x24x1.rank)
  bcast_S_S4x2048x24x1 : S_.BroadcastsInDim S4x2048x24x1 (![] : Fin 0 → Fin S4x2048x24x1.rank)
  bcast_S4x2048x24x1_S4x2048x24x128_0_1_2_3 : S4x2048x24x1.BroadcastsInDim S4x2048x24x128 (![0, 1, 2, 3] : Fin 4 → Fin S4x2048x24x128.rank)

variable [Facts]

def fn {F : FTy → Type} [FloatOps F] (main_arg0 : FVec F S4x2048x24x128 .f32) (main_arg1 : FVec F S4x2048x24x128 .f32) (main_arg2 : FVec F S4x2048x24x128 .f32) (main_arg3 : FVec F S4x2048x24 .f32) : IVec S4x2048x24x128 1 :=
  let main_v0 : FVec F S4x2048x24x128 .f32 := Host.absf main_arg0
  let main_cst : FVec F S_ .f32 := constant S_ .f32 0x7F800000#32
  let main_v1 : FVec F S4x2048x24x128 .f32 := broadcastInDim S4x2048x24x128 ![] bcast_S_S4x2048x24x128 main_cst
  let main_v2 : IVec S4x2048x24x128 1 := cmpf .olt main_v0 main_v1
  let main_v3 : FVec F S4x2048x24x128 .f32 := Host.absf main_arg1
  let main_cst_0 : FVec F S_ .f32 := constant S_ .f32 0x7F800000#32
  let main_v4 : FVec F S4x2048x24x128 .f32 := broadcastInDim S4x2048x24x128 ![] bcast_S_S4x2048x24x128 main_cst_0
  let main_v5 : IVec S4x2048x24x128 1 := cmpf .olt main_v3 main_v4
  let main_v6 : IVec S4x2048x24x128 1 := andi main_v2 main_v5
  let main_v7 : FVec F S4x2048x24 .f32 := Host.absf main_arg3
  let main_v8 : FVec F S4x2048x24x1 .f32 := broadcastInDim S4x2048x24x1 ![0, 1, 2] bcast_S4x2048x24_S4x2048x24x1_0_1_2 main_v7
  let main_cst_1 : FVec F S_ .f32 := constant S_ .f32 0x7F800000#32
  let main_v9 : FVec F S4x2048x24x1 .f32 := broadcastInDim S4x2048x24x1 ![] bcast_S_S4x2048x24x1 main_cst_1
  let main_v10 : IVec S4x2048x24x1 1 := cmpf .olt main_v8 main_v9
  let main_v11 : IVec S4x2048x24x128 1 := broadcastInDim S4x2048x24x128 ![0, 1, 2, 3] bcast_S4x2048x24x1_S4x2048x24x128_0_1_2_3 main_v10
  let main_v12 : IVec S4x2048x24x128 1 := andi main_v6 main_v11
  main_v12
-- ==== Pre_tables_edown.lean ====
abbrev S40 : Shape := ⟨1, ![40]⟩
abbrev S1 : Shape := ⟨1, ![1]⟩
abbrev S20480x4096 : Shape := ⟨2, ![20480, 4096]⟩
abbrev S1x8x4096x4096 : Shape := ⟨4, ![1, 8, 4096, 4096]⟩
abbrev S_ : Shape := ⟨0, ![]⟩

class Facts : Prop where
  bcast_S_S40 : S_.BroadcastsInDim S40 (![] : Fin 0 → Fin S40.rank)
  bcast_S_S1 : S_.BroadcastsInDim S1 (![] : Fin 0 → Fin S1.rank)
  bcast_S1_S40_0 : S1.BroadcastsInDim S40 (![0] : Fin 1 → Fin S40.rank)

variable [Facts]

def fn {F : FTy → Type} [FloatOps F] (main_arg0 : IVec S40 32) (main_arg1 : IVec S1 32) (main_arg2 : FVec F S20480x4096 .bf16) (main_arg3 : FVec F S1x8x4096x4096 .f32) : IVec S40 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S40 1 := broadcastInDim S40 ![0] bcast_S1_S40_0 main_v6
  let main_v8 : IVec S40 1 := andi main_v4 main_v7
  let main_c_2 : IVec S_ 32 := constantI S_ 32 40#32
  let main_v9 : IVec S1 32 := broadcastInDim S1 ![] bcast_S_S1 main_c_2
  let main_v10 : IVec S1 1 := cmpi .sle main_arg1 main_v9
  let main_v11 : IVec S40 1 := broadcastInDim S40 ![0] bcast_S1_S40_0 main_v10
  let main_v12 : IVec S40 1 := andi main_v8 main_v11
  main_v12
-- ==== Pre_tables_egu.lean ====
abbrev S40 : Shape := ⟨1, ![40]⟩
abbrev S1 : Shape := ⟨1, ![1]⟩
abbrev S20480x4096 : Shape := ⟨2, ![20480, 4096]⟩
abbrev S1x8x4096x4096 : Shape := ⟨4, ![1, 8, 4096, 4096]⟩
abbrev S_ : Shape := ⟨0, ![]⟩

class Facts : Prop where
  bcast_S_S40 : S_.BroadcastsInDim S40 (![] : Fin 0 → Fin S40.rank)
  bcast_S_S1 : S_.BroadcastsInDim S1 (![] : Fin 0 → Fin S1.rank)
  bcast_S1_S40_0 : S1.BroadcastsInDim S40 (![0] : Fin 1 → Fin S40.rank)

variable [Facts]

def fn {F : FTy → Type} [FloatOps F] (main_arg0 : IVec S40 32) (main_arg1 : IVec S1 32) (main_arg2 : FVec F S20480x4096 .bf16) (main_arg3 : FVec F S1x8x4096x4096 .f32) (main_arg4 : FVec F S1x8x4096x4096 .f32) : IVec S40 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S40 1 := broadcastInDim S40 ![0] bcast_S1_S40_0 main_v6
  let main_v8 : IVec S40 1 := andi main_v4 main_v7
  let main_c_2 : IVec S_ 32 := constantI S_ 32 40#32
  let main_v9 : IVec S1 32 := broadcastInDim S1 ![] bcast_S_S1 main_c_2
  let main_v10 : IVec S1 1 := cmpi .sle main_arg1 main_v9
  let main_v11 : IVec S40 1 := broadcastInDim S40 ![0] bcast_S1_S40_0 main_v10
  let main_v12 : IVec S40 1 := andi main_v8 main_v11
  main_v12
-- ==== Kernel.lean ====
abbrev S4x2048x24x128 : Shape := ⟨4, ![4, 2048, 24, 128]⟩
abbrev S4x2048x24 : Shape := ⟨3, ![4, 2048, 24]⟩
abbrev S_ : Shape := ⟨0, ![]⟩
abbrev S1x4x2048x24x128 : Shape := ⟨5, ![1, 4, 2048, 24, 128]⟩
abbrev S3x4x2048x24x128 : Shape := ⟨5, ![3, 4, 2048, 24, 128]⟩
abbrev S3x24x4x2048x128 : Shape := ⟨5, ![3, 24, 4, 2048, 128]⟩
abbrev S72x4x2048x128 : Shape := ⟨4, ![72, 4, 2048, 128]⟩
abbrev S4x2048x128 : Shape := ⟨3, ![4, 2048, 128]⟩
abbrev S4x128x2048 : Shape := ⟨3, ![4, 128, 2048]⟩
abbrev S4x128x1x2048 : Shape := ⟨4, ![4, 128, 1, 2048]⟩
abbrev S4x2048x3072 : Shape := ⟨3, ![4, 2048, 3072]⟩
abbrev S1x1x2048x128 : Shape := ⟨4, ![1, 1, 2048, 128]⟩
abbrev S1x2048x128 : Shape := ⟨3, ![1, 2048, 128]⟩
abbrev S1x1x1x2048 : Shape := ⟨4, ![1, 1, 1, 2048]⟩
abbrev S2048x128 : Shape := ⟨2, ![2048, 128]⟩
abbrev S2048 : Shape := ⟨1, ![2048]⟩
abbrev S2048x1 : Shape := ⟨2, ![2048, 1]⟩
abbrev S512x128 : Shape := ⟨2, ![512, 128]⟩
abbrev S1x1x512x128 : Shape := ⟨4, ![1, 1, 512, 128]⟩
abbrev S512x512 : Shape := ⟨2, ![512, 512]⟩
abbrev S1x1x1x128 : Shape := ⟨4, ![1, 1, 1, 128]⟩
abbrev S1x128 : Shape := ⟨2, ![1, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 20
  | .vmem => 13
  | .smem => 0
  | _ => 0

abbrev bufTy : (tb : Table) → Fin (tcTables nBuf tb) → BufTy
  | .hbm, ⟨0, _⟩ => ⟨S4x2048x24x128, .f32⟩
  | .hbm, ⟨1, _⟩ => ⟨S4x2048x24x128, .f32⟩
  | .hbm, ⟨2, _⟩ => ⟨S4x2048x24x128, .f32⟩
  | .hbm, ⟨3, _⟩ => ⟨S4x2048x24, .f32⟩
  | .hbm, ⟨4, _⟩ => ⟨S_, .f32⟩
  | .hbm, ⟨5, _⟩ => ⟨S4x2048x24x128, .f32⟩
  | .hbm, ⟨6, _⟩ => ⟨S4x2048x24x128, .f32⟩
  | .hbm, ⟨7, _⟩ => ⟨S1x4x2048x24x128, .f32⟩
  | .hbm, ⟨8, _⟩ => ⟨S1x4x2048x24x128, .f32⟩
  | .hbm, ⟨9, _⟩ => ⟨S1x4x2048x24x128, .f32⟩
  | .hbm, ⟨10, _⟩ => ⟨S3x4x2048x24x128, .f32⟩
  | .hbm, ⟨11, _⟩ => ⟨S3x24x4x2048x128, .f32⟩
  | .hbm, ⟨12, _⟩ => ⟨S72x4x2048x128, .f32⟩
  | .hbm, ⟨13, _⟩ => ⟨S72x4x2048x128, .bf16⟩
  | .hbm, ⟨14, _⟩ => ⟨S_, .i32⟩
  | .hbm, ⟨15, _⟩ => ⟨S_, .f32⟩
  | .hbm, ⟨16, _⟩ => ⟨S4x2048x128, .f32⟩
  | .hbm, ⟨17, _⟩ => ⟨S4x128x2048, .f32⟩
  | .hbm, ⟨18, _⟩ => ⟨S4x128x1x2048, .f32⟩
  | .hbm, ⟨19, _⟩ => ⟨S4x2048x3072, .bf16⟩
  | .local _ .vmem, ⟨0, _⟩ => ⟨S1x1x2048x128, .bf16⟩
  | .local _ .vmem, ⟨1, _⟩ => ⟨S1x1x2048x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x2048x128, .bf16⟩
  | .local _ .vmem, ⟨11, _⟩ => ⟨S1x2048x128, .bf16⟩
  | .local _ .vmem, ⟨12, _⟩ => ⟨S2048x128, .f32⟩
  | _, _ => ⟨S4x2048x24x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 24], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, arg0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x2048x24x128 : Shape := ⟨4, ![4, 2048, 24, 128]⟩
abbrev S4x2048x24 : Shape := ⟨3, ![4, 2048, 24]⟩
abbrev S4x24x2048 : Shape := ⟨3, ![4, 24, 2048]⟩
abbrev S4x24x2048x2048 : Shape := ⟨4, ![4, 24, 2048, 2048]⟩
abbrev S_ : Shape := ⟨0, ![]⟩
abbrev S4x24x2048x1 : Shape := ⟨4, ![4, 24, 2048, 1]⟩
abbrev S4x24x1x2048 : Shape := ⟨4, ![4, 24, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x24x128x2048 : Shape := ⟨4, ![4, 24, 128, 2048]⟩
abbrev S4x2048x3072 : Shape := ⟨3, ![4, 2048, 3072]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x24x128, .f32⟩
  | .hbm, ⟨1, _⟩ => ⟨S4x2048x24x128, .f32⟩
  | .hbm, ⟨2, _⟩ => ⟨S4x2048x24x128, .f32⟩
  | .hbm, ⟨3, _⟩ => ⟨S4x2048x24, .f32⟩
  | .hbm, ⟨4, _⟩ => ⟨S4x24x2048, .f32⟩
  | .hbm, ⟨5, _⟩ => ⟨S4x24x2048x2048, .f32⟩
  | .hbm, ⟨6, _⟩ => ⟨S_, .f32⟩
  | .hbm, ⟨7, _⟩ => ⟨S4x24x2048x2048, .f32⟩
  | .hbm, ⟨8, _⟩ => ⟨S4x24x2048x2048, .f32⟩
  | .hbm, ⟨9, _⟩ => ⟨S4x24x2048x1, .f32⟩
  | .hbm, ⟨10, _⟩ => ⟨S4x24x2048x2048, .f32⟩
  | .hbm, ⟨11, _⟩ => ⟨S4x24x2048x2048, .f32⟩
  | .hbm, ⟨12, _⟩ => ⟨S4x24x1x2048, .f32⟩
  | .hbm, ⟨13, _⟩ => ⟨S4x24x2048x2048, .f32⟩
  | .hbm, ⟨14, _⟩ => ⟨S4x24x2048x2048, .f32⟩
  | .hbm, ⟨15, _⟩ => ⟨S2048, .i32⟩
  | .hbm, ⟨16, _⟩ => ⟨S1x2048, .i32⟩
  | .hbm, ⟨17, _⟩ => ⟨S2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S4x24x2048x2048, .i1⟩
  | .hbm, ⟨25, _⟩ => ⟨S4x24x2048x2048, .f32⟩
  | .hbm, ⟨26, _⟩ => ⟨S4x24x2048x2048, .f32⟩
  | .hbm, ⟨27, _⟩ => ⟨S_, .f32⟩
  | .hbm, ⟨28, _⟩ => ⟨S4x24x2048, .f32⟩
  | .hbm, ⟨29, _⟩ => ⟨S_, .f32⟩
  | .hbm, ⟨30, _⟩ => ⟨S4x24x2048, .f32⟩
  | .hbm, ⟨31, _⟩ => ⟨S4x24x2048, .f32⟩
  | .hbm, ⟨32, _⟩ => ⟨S4x24x2048x1, .f32⟩
  | .hbm, ⟨33, _⟩ => ⟨S4x24x2048x2048, .f32⟩
  | .hbm, ⟨34, _⟩ => ⟨S4x24x2048x2048, .f32⟩
  | .hbm, ⟨35, _⟩ => ⟨S4x24x2048x2048, .f32⟩
  | .hbm, ⟨36, _⟩ => ⟨S_, .f32⟩
  | .hbm, ⟨37, _⟩ => ⟨S4x24x2048, .f32⟩
  | .hbm, ⟨38, _⟩ => ⟨S4x24x2048x1, .f32⟩
  | .hbm, ⟨39, _⟩ => ⟨S4x24x2048x2048, .f32⟩
  | .hbm, ⟨40, _⟩ => ⟨S4x24x2048x2048, .f32⟩
  | .hbm, ⟨41, _⟩ => ⟨S4x24x128x2048, .f32⟩
  | .hbm, ⟨42, _⟩ => ⟨S4x2048x24x128, .f32⟩
  | .hbm, ⟨43, _⟩ => ⟨S4x2048x3072, .f32⟩
  | .hbm, ⟨44, _⟩ => ⟨S4x2048x3072, .bf16⟩
  | _, _ => ⟨S4x2048x24x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== GateUp.lean ====
abbrev S8192x4096 : Shape := ⟨2, ![8192, 4096]⟩
abbrev S4096x11008 : Shape := ⟨2, ![4096, 11008]⟩
abbrev S1x4096x11008 : Shape := ⟨3, ![1, 4096, 11008]⟩
abbrev S8192x11008 : Shape := ⟨2, ![8192, 11008]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x11008, .f32⟩
  | .hbm, ⟨2, _⟩ => ⟨S4096x11008, .f32⟩
  | .hbm, ⟨3, _⟩ => ⟨S8192x4096, .bf16⟩
  | .hbm, ⟨4, _⟩ => ⟨S1x4096x11008, .f32⟩
  | .hbm, ⟨5, _⟩ => ⟨S1x4096x11008, .f32⟩
  | .hbm, ⟨6, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpRefIdeal.lean ====
abbrev S8192x4096 : Shape := ⟨2, ![8192, 4096]⟩
abbrev S4096x11008 : Shape := ⟨2, ![4096, 11008]⟩
abbrev S8192x11008 : Shape := ⟨2, ![8192, 11008]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x11008, .f32⟩
  | .hbm, ⟨2, _⟩ => ⟨S4096x11008, .f32⟩
  | .hbm, ⟨3, _⟩ => ⟨S8192x11008, .f32⟩
  | .hbm, ⟨4, _⟩ => ⟨S8192x11008, .f32⟩
  | .hbm, ⟨5, _⟩ => ⟨S8192x11008, .f32⟩
  | .hbm, ⟨6, _⟩ => ⟨S_, .f32⟩
  | .hbm, ⟨7, _⟩ => ⟨S8192x11008, .f32⟩
  | .hbm, ⟨8, _⟩ => ⟨S8192x11008, .f32⟩
  | .hbm, ⟨9, _⟩ => ⟨S_, .f32⟩
  | .hbm, ⟨10, _⟩ => ⟨S8192x11008, .f32⟩
  | .hbm, ⟨11, _⟩ => ⟨S8192x11008, .f32⟩
  | .hbm, ⟨12, _⟩ => ⟨S8192x11008, .f32⟩
  | .hbm, ⟨13, _⟩ => ⟨S8192x11008, .f32⟩
  | .hbm, ⟨14, _⟩ => ⟨S8192x11008, .f32⟩
  | .hbm, ⟨15, _⟩ => ⟨S8192x11008, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Down.lean ====
abbrev S8192x11008 : Shape := ⟨2, ![8192, 11008]⟩
abbrev S11008x4096 : Shape := ⟨2, ![11008, 4096]⟩
abbrev S1x11008x4096 : Shape := ⟨3, ![1, 11008, 4096]⟩
abbrev S8192x4096 : Shape := ⟨2, ![8192, 4096]⟩
abbrev S1024x11008 : Shape := ⟨2, ![1024, 11008]⟩
abbrev S1x11008x256 : Shape := ⟨3, ![1, 11008, 256]⟩
abbrev S1024x256 : Shape := ⟨2, ![1024, 256]⟩
abbrev S11008x256 : Shape := ⟨2, ![11008, 256]⟩

abbrev nBuf : Space → Nat
  | .hbm => 5
  | .vmem => 5
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x11008, .bf16⟩
  | .hbm, ⟨3, _⟩ => ⟨S1x11008x4096, .f32⟩
  | .hbm, ⟨4, _⟩ => ⟨S8192x4096, .f32⟩
  | .local _ .vmem, ⟨0, _⟩ => ⟨S1024x11008, .bf16⟩
  | .local _ .vmem, ⟨1, _⟩ => ⟨S1x11008x256, .f32⟩
  | .local _ .vmem, ⟨2, _⟩ => ⟨S1x11008x256, .f32⟩
  | .local _ .vmem, ⟨3, _⟩ => ⟨S1024x256, .f32⟩
  | .local _ .vmem, ⟨4, _⟩ => ⟨S1024x256, .f32⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x11008x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S8192x11008 : Shape := ⟨2, ![8192, 11008]⟩
abbrev S11008x4096 : Shape := ⟨2, ![11008, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x4096, .f32⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Qkv.lean ====
abbrev S8192x4096 : Shape := ⟨2, ![8192, 4096]⟩
abbrev S4096x10264 : Shape := ⟨2, ![4096, 10264]⟩
abbrev S_ : Shape := ⟨0, ![]⟩
abbrev S1x3072 : Shape := ⟨2, ![1, 3072]⟩
abbrev S1x6144 : Shape := ⟨2, ![1, 6144]⟩
abbrev S1x9216 : Shape := ⟨2, ![1, 9216]⟩
abbrev S1x4096x10264 : Shape := ⟨3, ![1, 4096, 10264]⟩
abbrev S1x10264x4096 : Shape := ⟨3, ![1, 10264, 4096]⟩
abbrev S72x8192x128 : Shape := ⟨3, ![72, 8192, 128]⟩
abbrev S1024x4096 : Shape := ⟨2, ![1024, 4096]⟩
abbrev S1x512x4096 : Shape := ⟨3, ![1, 512, 4096]⟩
abbrev S1x512 : Shape := ⟨2, ![1, 512]⟩
abbrev S4x1024x128 : Shape := ⟨3, ![4, 1024, 128]⟩
abbrev S512x4096 : Shape := ⟨2, ![512, 4096]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 11
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x10264, .f32⟩
  | .hbm, ⟨2, _⟩ => ⟨S_, .f32⟩
  | .hbm, ⟨3, _⟩ => ⟨S1x3072, .f32⟩
  | .hbm, ⟨4, _⟩ => ⟨S_, .f32⟩
  | .hbm, ⟨5, _⟩ => ⟨S1x6144, .f32⟩
  | .hbm, ⟨6, _⟩ => ⟨S1x9216, .f32⟩
  | .hbm, ⟨7, _⟩ => ⟨S8192x4096, .bf16⟩
  | .hbm, ⟨8, _⟩ => ⟨S1x4096x10264, .f32⟩
  | .hbm, ⟨9, _⟩ => ⟨S1x10264x4096, .f32⟩
  | .hbm, ⟨10, _⟩ => ⟨S72x8192x128, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1x512, .f32⟩
  | .local _ .vmem, ⟨5, _⟩ => ⟨S1x512, .f32⟩
  | .local _ .vmem, ⟨6, _⟩ => ⟨S4x1024x128, .bf16⟩
  | .local _ .vmem, ⟨7, _⟩ => ⟨S4x1024x128, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvRefIdeal.lean ====
abbrev S8192x4096 : Shape := ⟨2, ![8192, 4096]⟩
abbrev S4096x10264 : Shape := ⟨2, ![4096, 10264]⟩
abbrev S8192x10264 : Shape := ⟨2, ![8192, 10264]⟩
abbrev S8192x3072 : Shape := ⟨2, ![8192, 3072]⟩
abbrev S_ : Shape := ⟨0, ![]⟩
abbrev S8192x9216 : Shape := ⟨2, ![8192, 9216]⟩
abbrev S8192x72x128 : Shape := ⟨3, ![8192, 72, 128]⟩
abbrev S72x8192x128 : Shape := ⟨3, ![72, 8192, 128]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x10264, .f32⟩
  | .hbm, ⟨2, _⟩ => ⟨S8192x10264, .f32⟩
  | .hbm, ⟨3, _⟩ => ⟨S8192x3072, .f32⟩
  | .hbm, ⟨4, _⟩ => ⟨S_, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S8192x3072, .f32⟩
  | .hbm, ⟨9, _⟩ => ⟨S8192x9216, .f32⟩
  | .hbm, ⟨10, _⟩ => ⟨S8192x72x128, .f32⟩
  | .hbm, ⟨11, _⟩ => ⟨S72x8192x128, .f32⟩
  | .hbm, ⟨12, _⟩ => ⟨S72x8192x128, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== OutProj.lean ====
abbrev S8192x3072 : Shape := ⟨2, ![8192, 3072]⟩
abbrev S8192x1024 : Shape := ⟨2, ![8192, 1024]⟩
abbrev S4096x4096 : Shape := ⟨2, ![4096, 4096]⟩
abbrev S1x4096x4096 : Shape := ⟨3, ![1, 4096, 4096]⟩
abbrev S8192x4096 : Shape := ⟨2, ![8192, 4096]⟩
abbrev S1024x3072 : Shape := ⟨2, ![1024, 3072]⟩
abbrev S1024x1024 : Shape := ⟨2, ![1024, 1024]⟩
abbrev S1x4096x512 : Shape := ⟨3, ![1, 4096, 512]⟩
abbrev S1024x512 : Shape := ⟨2, ![1024, 512]⟩
abbrev S4096x512 : Shape := ⟨2, ![4096, 512]⟩
abbrev S3072x512 : Shape := ⟨2, ![3072, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S4096x4096, .f32⟩
  | .hbm, ⟨3, _⟩ => ⟨S8192x3072, .bf16⟩
  | .hbm, ⟨4, _⟩ => ⟨S8192x1024, .bf16⟩
  | .hbm, ⟨5, _⟩ => ⟨S1x4096x4096, .f32⟩
  | .hbm, ⟨6, _⟩ => ⟨S8192x4096, .f32⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S1x4096x512, .f32⟩
  | .local _ .vmem, ⟨5, _⟩ => ⟨S1x4096x512, .f32⟩
  | .local _ .vmem, ⟨6, _⟩ => ⟨S1024x512, .f32⟩
  | .local _ .vmem, ⟨7, _⟩ => ⟨S1024x512, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8192x3072 : Shape := ⟨2, ![8192, 3072]⟩
abbrev S8192x1024 : Shape := ⟨2, ![8192, 1024]⟩
abbrev S4096x4096 : Shape := ⟨2, ![4096, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S4096x4096, .f32⟩
  | .hbm, ⟨3, _⟩ => ⟨S8192x4096, .f32⟩
  | .hbm, ⟨4, _⟩ => ⟨S8192x4096, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== GatePool.lean ====
abbrev S8192x4096 : Shape := ⟨2, ![8192, 4096]⟩
abbrev S4096x10264 : Shape := ⟨2, ![4096, 10264]⟩
abbrev S10264x4096 : Shape := ⟨2, ![10264, 4096]⟩
abbrev S1024x4096 : Shape := ⟨2, ![1024, 4096]⟩
abbrev S24x4096 : Shape := ⟨2, ![24, 4096]⟩
abbrev S_ : Shape := ⟨0, ![]⟩
abbrev S104x4096 : Shape := ⟨2, ![104, 4096]⟩
abbrev S1152x4096 : Shape := ⟨2, ![1152, 4096]⟩
abbrev S8192x1152 : Shape := ⟨2, ![8192, 1152]⟩
abbrev S384x4096 : Shape := ⟨2, ![384, 4096]⟩
abbrev S1024x384 : Shape := ⟨2, ![1024, 384]⟩

abbrev nBuf : Space → Nat
  | .hbm => 10
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x10264, .f32⟩
  | .hbm, ⟨2, _⟩ => ⟨S10264x4096, .f32⟩
  | .hbm, ⟨3, _⟩ => ⟨S1024x4096, .f32⟩
  | .hbm, ⟨4, _⟩ => ⟨S24x4096, .f32⟩
  | .hbm, ⟨5, _⟩ => ⟨S_, .f32⟩
  | .hbm, ⟨6, _⟩ => ⟨S104x4096, .f32⟩
  | .hbm, ⟨7, _⟩ => ⟨S1152x4096, .f32⟩
  | .hbm, ⟨8, _⟩ => ⟨S8192x4096, .bf16⟩
  | .hbm, ⟨9, _⟩ => ⟨S8192x1152, .f32⟩
  | .local _ .vmem, ⟨0, _⟩ => ⟨S1024x4096, .bf16⟩
  | .local _ .vmem, ⟨1, _⟩ => ⟨S1024x4096, .bf16⟩
  | .local _ .vmem, ⟨2, _⟩ => ⟨S384x4096, .f32⟩
  | .local _ .vmem, ⟨3, _⟩ => ⟨S384x4096, .f32⟩
  | .local _ .vmem, ⟨4, _⟩ => ⟨S1024x384, .f32⟩
  | .local _ .vmem, ⟨5, _⟩ => ⟨S1024x384, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatePoolRefIdeal.lean ====
abbrev S8192x4096 : Shape := ⟨2, ![8192, 4096]⟩
abbrev S4096x10264 : Shape := ⟨2, ![4096, 10264]⟩
abbrev S8192x10264 : Shape := ⟨2, ![8192, 10264]⟩
abbrev S8192x1024 : Shape := ⟨2, ![8192, 1024]⟩
abbrev S8192x24 : Shape := ⟨2, ![8192, 24]⟩
abbrev S_ : Shape := ⟨0, ![]⟩
abbrev S8192x104 : Shape := ⟨2, ![8192, 104]⟩
abbrev S8192x1152 : Shape := ⟨2, ![8192, 1152]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x10264, .f32⟩
  | .hbm, ⟨2, _⟩ => ⟨S8192x10264, .f32⟩
  | .hbm, ⟨3, _⟩ => ⟨S8192x1024, .f32⟩
  | .hbm, ⟨4, _⟩ => ⟨S8192x24, .f32⟩
  | .hbm, ⟨5, _⟩ => ⟨S_, .f32⟩
  | .hbm, ⟨6, _⟩ => ⟨S8192x104, .f32⟩
  | .hbm, ⟨7, _⟩ => ⟨S8192x1152, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Pool.lean ====
abbrev S4x2048x1152 : Shape := ⟨3, ![4, 2048, 1152]⟩
abbrev S4x256x256 : Shape := ⟨3, ![4, 256, 256]⟩
abbrev S1024 : Shape := ⟨1, ![1024]⟩
abbrev S1x4x256x256 : Shape := ⟨4, ![1, 4, 256, 256]⟩
abbrev S1x1x1024 : Shape := ⟨3, ![1, 1, 1024]⟩
abbrev S4x2048x1024 : Shape := ⟨3, ![4, 2048, 1024]⟩
abbrev S1x2048x256 : Shape := ⟨3, ![1, 2048, 256]⟩
abbrev S1x1x256x256 : Shape := ⟨4, ![1, 1, 256, 256]⟩
abbrev S1x1x256 : Shape := ⟨3, ![1, 1, 256]⟩
abbrev S2048x256 : Shape := ⟨2, ![2048, 256]⟩
abbrev S256x256 : Shape := ⟨2, ![256, 256]⟩
abbrev S1x256 : Shape := ⟨2, ![1, 256]⟩

abbrev nBuf : Space → Nat
  | .hbm => 6
  | .vmem => 8
  | .smem => 0
  | _ => 0

abbrev bufTy : (tb : Table) → Fin (tcTables nBuf tb) → BufTy
  | .hbm, ⟨0, _⟩ => ⟨S4x2048x1152, .f32⟩
  | .hbm, ⟨1, _⟩ => ⟨S4x256x256, .f32⟩
  | .hbm, ⟨2, _⟩ => ⟨S1024, .f32⟩
  | .hbm, ⟨3, _⟩ => ⟨S1x4x256x256, .f32⟩
  | .hbm, ⟨4, _⟩ => ⟨S1x1x1024, .f32⟩
  | .hbm, ⟨5, _⟩ => ⟨S4x2048x1024, .bf16⟩
  | .local _ .vmem, ⟨0, _⟩ => ⟨S1x2048x256, .f32⟩
  | .local _ .vmem, ⟨1, _⟩ => ⟨S1x2048x256, .f32⟩
  | .local _ .vmem, ⟨2, _⟩ => ⟨S1x1x256x256, .f32⟩
  | .local _ .vmem, ⟨3, _⟩ => ⟨S1x1x256x256, .f32⟩
  | .local _ .vmem, ⟨4, _⟩ => ⟨S1x1x256, .f32⟩
  | .local _ .vmem, ⟨5, _⟩ => ⟨S1x1x256, .f32⟩
  | .local _ .vmem, ⟨6, _⟩ => ⟨S1x2048x256, .bf16⟩
  | .local _ .vmem, ⟨7, _⟩ => ⟨S1x2048x256, .bf16⟩
  | _, _ => ⟨S4x2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PoolRefIdeal.lean ====
abbrev S4x2048x1152 : Shape := ⟨3, ![4, 2048, 1152]⟩
abbrev S4x256x256 : Shape := ⟨3, ![4, 256, 256]⟩
abbrev S1024 : Shape := ⟨1, ![1024]⟩
abbrev S4x2048x1024 : Shape := ⟨3, ![4, 2048, 1024]⟩
abbrev S4x2048x4x256 : Shape := ⟨4, ![4, 2048, 4, 256]⟩
abbrev S2048 : Shape := ⟨1, ![2048]⟩
abbrev S_ : Shape := ⟨0, ![]⟩
abbrev S4x2048x1x256 : Shape := ⟨4, ![4, 2048, 1, 256]⟩
abbrev S4x2048x256 : Shape := ⟨3, ![4, 2048, 256]⟩
abbrev S4x2047x256 : Shape := ⟨3, ![4, 2047, 256]⟩
abbrev S1x2048x1 : Shape := ⟨3, ![1, 2048, 1]⟩
abbrev S4x2046x256 : Shape := ⟨3, ![4, 2046, 256]⟩
abbrev S4x2045x256 : Shape := ⟨3, ![4, 2045, 256]⟩
abbrev S4x2044x256 : Shape := ⟨3, ![4, 2044, 256]⟩
abbrev S4x2043x256 : Shape := ⟨3, ![4, 2043, 256]⟩
abbrev S4x2042x256 : Shape := ⟨3, ![4, 2042, 256]⟩
abbrev S4x2041x256 : Shape := ⟨3, ![4, 2041, 256]⟩
abbrev S4x2040x256 : Shape := ⟨3, ![4, 2040, 256]⟩
abbrev S4x2039x256 : Shape := ⟨3, ![4, 2039, 256]⟩
abbrev S4x2038x256 : Shape := ⟨3, ![4, 2038, 256]⟩
abbrev S4x2037x256 : Shape := ⟨3, ![4, 2037, 256]⟩
abbrev S4x2036x256 : Shape := ⟨3, ![4, 2036, 256]⟩
abbrev S4x2035x256 : Shape := ⟨3, ![4, 2035, 256]⟩
abbrev S4x2034x256 : Shape := ⟨3, ![4, 2034, 256]⟩
abbrev S4x2033x256 : Shape := ⟨3, ![4, 2033, 256]⟩
abbrev S4x256x4x2048 : Shape := ⟨4, ![4, 256, 4, 2048]⟩
abbrev S1x1x1024 : Shape := ⟨3, ![1, 1, 1024]⟩

abbrev nBuf : Space → Nat
  | .hbm => 188
  | .vmem => 0
  | .smem => 0
  | _ => 0

abbrev hbmTy0_0 (i : Nat) : BufTy := match i % 128 with
  | 0 => ⟨S4x2048x1152, .f32⟩
  | 1 => ⟨S4x256x256, .f32⟩
  | 2 => ⟨S1024, .f32⟩
  | 3 => ⟨S4x2048x1024, .f32⟩
  | 4 => ⟨S4x2048x4x256, .f32⟩
  | 5 => ⟨S2048, .i32⟩
  | 6 => ⟨S_, .i32⟩
  | 7 => ⟨S2048, .i32⟩
  | 8 => ⟨S2048, .i32⟩
  | 9 => ⟨S2048, .f32⟩
  | 10 => ⟨S4x2048x1x256, .f32⟩
  | 11 => ⟨S4x2048x256, .f32⟩
  | 12 => ⟨S4x2047x256, .f32⟩
  | 13 => ⟨S_, .i32⟩
  | 14 => ⟨S_, .f32⟩
  | 15 => ⟨S4x2048x256, .f32⟩
  | 16 => ⟨S4x2048x256, .f32⟩
  | 17 => ⟨S_, .f32⟩
  | 18 => ⟨S2048, .f32⟩
  | 19 => ⟨S2048, .f32⟩
  | 20 => ⟨S1x2048x1, .f32⟩
  | 21 => ⟨S4x2048x256, .f32⟩
  | 22 => ⟨S4x2048x256, .f32⟩
  | 23 => ⟨S4x2048x256, .f32⟩
  | 24 => ⟨S4x2048x1x256, .f32⟩
  | 25 => ⟨S4x2048x256, .f32⟩
  | 26 => ⟨S4x2047x256, .f32⟩
  | 27 => ⟨S_, .i32⟩
  | 28 => ⟨S_, .f32⟩
  | 29 => ⟨S4x2048x256, .f32⟩
  | 30 => ⟨S4x2048x256, .f32⟩
  | 31 => ⟨S4x2046x256, .f32⟩
  | 32 => ⟨S_, .i32⟩
  | 33 => ⟨S_, .f32⟩
  | 34 => ⟨S4x2048x256, .f32⟩
  | 35 => ⟨S4x2048x256, .f32⟩
  | 36 => ⟨S4x2045x256, .f32⟩
  | 37 => ⟨S_, .i32⟩
  | 38 => ⟨S_, .f32⟩
  | 39 => ⟨S4x2048x256, .f32⟩
  | 40 => ⟨S4x2048x256, .f32⟩
  | 41 => ⟨S_, .f32⟩
  | 42 => ⟨S2048, .f32⟩
  | 43 => ⟨S2048, .f32⟩
  | 44 => ⟨S1x2048x1, .f32⟩
  | 45 => ⟨S4x2048x256, .f32⟩
  | 46 => ⟨S4x2048x256, .f32⟩
  | 47 => ⟨S4x2048x256, .f32⟩
  | 48 => ⟨S4x2048x1x256, .f32⟩
  | 49 => ⟨S4x2048x256, .f32⟩
  | 50 => ⟨S4x2047x256, .f32⟩
  | 51 => ⟨S_, .i32⟩
  | 52 => ⟨S_, .f32⟩
  | 53 => ⟨S4x2048x256, .f32⟩
  | 54 => ⟨S4x2048x256, .f32⟩
  | 55 => ⟨S4x2046x256, .f32⟩
  | 56 => ⟨S_, .i32⟩
  | 57 => ⟨S_, .f32⟩
  | 58 => ⟨S4x2048x256, .f32⟩
  | 59 => ⟨S4x2048x256, .f32⟩
  | 60 => ⟨S4x2045x256, .f32⟩
  | 61 => ⟨S_, .i32⟩
  | 62 => ⟨S_, .f32⟩
  | 63 => ⟨S4x2048x256, .f32⟩
  | 64 => ⟨S4x2048x256, .f32⟩
  | 65 => ⟨S4x2044x256, .f32⟩
  | 66 => ⟨S_, .i32⟩
  | 67 => ⟨S_, .f32⟩
  | 68 => ⟨S4x2048x256, .f32⟩
  | 69 => ⟨S4x2048x256, .f32⟩
  | 70 => ⟨S4x2043x256, .f32⟩
  | 71 => ⟨S_, .i32⟩
  | 72 => ⟨S_, .f32⟩
  | 73 => ⟨S4x2048x256, .f32⟩
  | 74 => ⟨S4x2048x256, .f32⟩
  | 75 => ⟨S4x2042x256, .f32⟩
  | 76 => ⟨S_, .i32⟩
  | 77 => ⟨S_, .f32⟩
  | 78 => ⟨S4x2048x256, .f32⟩
  | 79 => ⟨S4x2048x256, .f32⟩
  | 80 => ⟨S4x2041x256, .f32⟩
  | 81 => ⟨S_, .i32⟩
  | 82 => ⟨S_, .f32⟩
  | 83 => ⟨S4x2048x256, .f32⟩
  | 84 => ⟨S4x2048x256, .f32⟩
  | 85 => ⟨S_, .f32⟩
  | 86 => ⟨S2048, .f32⟩
  | 87 => ⟨S2048, .f32⟩
  | 88 => ⟨S1x2048x1, .f32⟩
  | 89 => ⟨S4x2048x256, .f32⟩
  | 90 => ⟨S4x2048x256, .f32⟩
  | 91 => ⟨S4x2048x256, .f32⟩
  | 92 => ⟨S4x2048x1x256, .f32⟩
  | 93 => ⟨S4x2048x256, .f32⟩
  | 94 => ⟨S4x2047x256, .f32⟩
  | 95 => ⟨S_, .i32⟩
  | 96 => ⟨S_, .f32⟩
  | 97 => ⟨S4x2048x256, .f32⟩
  | 98 => ⟨S4x2048x256, .f32⟩
  | 99 => ⟨S4x2046x256, .f32⟩
  | 100 => ⟨S_, .i32⟩
  | 101 => ⟨S_, .f32⟩
  | 102 => ⟨S4x2048x256, .f32⟩
  | 103 => ⟨S4x2048x256, .f32⟩
  | 104 => ⟨S4x2045x256, .f32⟩
  | 105 => ⟨S_, .i32⟩
  | 106 => ⟨S_, .f32⟩
  | 107 => ⟨S4x2048x256, .f32⟩
  | 108 => ⟨S4x2048x256, .f32⟩
  | 109 => ⟨S4x2044x256, .f32⟩
  | 110 => ⟨S_, .i32⟩
  | 111 => ⟨S_, .f32⟩
  | 112 => ⟨S4x2048x256, .f32⟩
  | 113 => ⟨S4x2048x256, .f32⟩
  | 114 => ⟨S4x2043x256, .f32⟩
  | 115 => ⟨S_, .i32⟩
  | 116 => ⟨S_, .f32⟩
  | 117 => ⟨S4x2048x256, .f32⟩
  | 118 => ⟨S4x2048x256, .f32⟩
  | 119 => ⟨S4x2042x256, .f32⟩
  | 120 => ⟨S_, .i32⟩
  | 121 => ⟨S_, .f32⟩
  | 122 => ⟨S4x2048x256, .f32⟩
  | 123 => ⟨S4x2048x256, .f32⟩
  | 124 => ⟨S4x2041x256, .f32⟩
  | 125 => ⟨S_, .i32⟩
  | 126 => ⟨S_, .f32⟩
  | 127 => ⟨S4x2048x256, .f32⟩
  | _ => ⟨S4x2048x1152, .f32⟩

abbrev hbmTy0_1 (i : Nat) : BufTy := match i % 128 with
  | 0 => ⟨S4x2048x256, .f32⟩
  | 1 => ⟨S4x2040x256, .f32⟩
  | 2 => ⟨S_, .i32⟩
  | 3 => ⟨S_, .f32⟩
  | 4 => ⟨S4x2048x256, .f32⟩
  | 5 => ⟨S4x2048x256, .f32⟩
  | 6 => ⟨S4x2039x256, .f32⟩
  | 7 => ⟨S_, .i32⟩
  | 8 => ⟨S_, .f32⟩
  | 9 => ⟨S4x2048x256, .f32⟩
  | 10 => ⟨S4x2048x256, .f32⟩
  | 11 => ⟨S4x2038x256, .f32⟩
  | 12 => ⟨S_, .i32⟩
  | 13 => ⟨S_, .f32⟩
  | 14 => ⟨S4x2048x256, .f32⟩
  | 15 => ⟨S4x2048x256, .f32⟩
  | 16 => ⟨S4x2037x256, .f32⟩
  | 17 => ⟨S_, .i32⟩
  | 18 => ⟨S_, .f32⟩
  | 19 => ⟨S4x2048x256, .f32⟩
  | 20 => ⟨S4x2048x256, .f32⟩
  | 21 => ⟨S4x2036x256, .f32⟩
  | 22 => ⟨S_, .i32⟩
  | 23 => ⟨S_, .f32⟩
  | 24 => ⟨S4x2048x256, .f32⟩
  | 25 => ⟨S4x2048x256, .f32⟩
  | 26 => ⟨S4x2035x256, .f32⟩
  | 27 => ⟨S_, .i32⟩
  | 28 => ⟨S_, .f32⟩
  | 29 => ⟨S4x2048x256, .f32⟩
  | 30 => ⟨S4x2048x256, .f32⟩
  | 31 => ⟨S4x2034x256, .f32⟩
  | 32 => ⟨S_, .i32⟩
  | 33 => ⟨S_, .f32⟩
  | 34 => ⟨S4x2048x256, .f32⟩
  | 35 => ⟨S4x2048x256, .f32⟩
  | 36 => ⟨S4x2033x256, .f32⟩
  | 37 => ⟨S_, .i32⟩
  | 38 => ⟨S_, .f32⟩
  | 39 => ⟨S4x2048x256, .f32⟩
  | 40 => ⟨S4x2048x256, .f32⟩
  | 41 => ⟨S_, .f32⟩
  | 42 => ⟨S2048, .f32⟩
  | 43 => ⟨S2048, .f32⟩
  | 44 => ⟨S1x2048x1, .f32⟩
  | 45 => ⟨S4x2048x256, .f32⟩
  | 46 => ⟨S4x2048x256, .f32⟩
  | 47 => ⟨S4x2048x256, .f32⟩
  | 48 => ⟨S4x2048x1x256, .f32⟩
  | 49 => ⟨S4x2048x1x256, .f32⟩
  | 50 => ⟨S4x2048x1x256, .f32⟩
  | 51 => ⟨S4x2048x1x256, .f32⟩
  | 52 => ⟨S4x2048x4x256, .f32⟩
  | 53 => ⟨S4x256x4x2048, .f32⟩
  | 54 => ⟨S4x2048x4x256, .f32⟩
  | 55 => ⟨S4x2048x1024, .f32⟩
  | 56 => ⟨S1x1x1024, .f32⟩
  | 57 => ⟨S4x2048x1024, .f32⟩
  | 58 => ⟨S4x2048x1024, .f32⟩
  | 59 => ⟨S4x2048x1024, .bf16⟩
  | _ => ⟨S4x2048x1152, .f32⟩

abbrev hbmTy (i : Nat) : BufTy := match i / 128 with
  | 0 => hbmTy0_0 i
  | 1 => hbmTy0_1 i
  | _ => ⟨S4x2048x1152, .f32⟩

abbrev bufTy : (tb : Table) → Fin (tcTables nBuf tb) → BufTy
  | .hbm, ⟨i, _⟩ => hbmTy i
  | _, _ => ⟨S4x2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_call1_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_call2_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_call3_v0 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_call4_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_call5_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_7 : Ref sig .tc := ⟨.hbm, 61, rfl⟩
abbrev main_call6_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_call7_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_call8_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_call9_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_call10_v0 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_13 : Ref sig .tc := ⟨.hbm, 95, rfl⟩
abbrev main_call11_v0 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_14 : Ref sig .tc := ⟨.hbm, 100, rfl⟩
abbrev main_call12_v0 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_call13_v0 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_16 : Ref sig .tc := ⟨.hbm, 110, rfl⟩
abbrev main_call14_v0 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_17 : Ref sig .tc := ⟨.hbm, 115, rfl⟩
abbrev main_call15_v0 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_18 : Ref sig .tc := ⟨.hbm, 120, rfl⟩
abbrev main_call16_v0 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_19 : Ref sig .tc := ⟨.hbm, 125, rfl⟩
abbrev main_call17_v0 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_c_20 : Ref sig .tc := ⟨.hbm, 130, rfl⟩
abbrev main_call18_v0 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_c_21 : Ref sig .tc := ⟨.hbm, 135, rfl⟩
abbrev main_call19_v0 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_c_22 : Ref sig .tc := ⟨.hbm, 140, rfl⟩
abbrev main_call20_v0 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_c_23 : Ref sig .tc := ⟨.hbm, 145, rfl⟩
abbrev main_call21_v0 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_c_24 : Ref sig .tc := ⟨.hbm, 150, rfl⟩
abbrev main_call22_v0 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_c_25 : Ref sig .tc := ⟨.hbm, 155, rfl⟩
abbrev main_call23_v0 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_c_26 : Ref sig .tc := ⟨.hbm, 160, rfl⟩
abbrev main_call24_v0 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_c_27 : Ref sig .tc := ⟨.hbm, 165, rfl⟩
abbrev main_call25_v0 : Ref sig .tc := ⟨.hbm, 166, rfl⟩
abbrev main_v108 : Ref sig .tc := ⟨.hbm, 167, rfl⟩
abbrev main_v109 : Ref sig .tc := ⟨.hbm, 168, rfl⟩
abbrev main_cst_28 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩

abbrev nD : Nat := 1
abbrev τ : Topo := Topo.v7x

variable {F : FTy → Type} [FloatOps F]
-- ==== Mod.lean ====
abbrev S4x4096 : Shape := ⟨2, ![4, 4096]⟩
abbrev S2x4096x24576 : Shape := ⟨3, ![2, 4096, 24576]⟩
abbrev S2x24576 : Shape := ⟨2, ![2, 24576]⟩
abbrev S_ : Shape := ⟨0, ![]⟩
abbrev S8x4096 : Shape := ⟨2, ![8, 4096]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 8
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S2x4096x24576, .f32⟩
  | .hbm, ⟨2, _⟩ => ⟨S2x24576, .f32⟩
  | .hbm, ⟨3, _⟩ => ⟨S_, .i32⟩
  | .hbm, ⟨4, _⟩ => ⟨S_, .f32⟩
  | .hbm, ⟨5, _⟩ => ⟨S8x4096, .f32⟩
  | .hbm, ⟨6, _⟩ => ⟨S2x1x24576, .f32⟩
  | .hbm, ⟨7, _⟩ => ⟨S2x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S4x4096 : Shape := ⟨2, ![4, 4096]⟩
abbrev S2x4096x24576 : Shape := ⟨3, ![2, 4096, 24576]⟩
abbrev S2x24576 : Shape := ⟨2, ![2, 24576]⟩
abbrev S_ : Shape := ⟨0, ![]⟩
abbrev S8x4096 : Shape := ⟨2, ![8, 4096]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩
abbrev S1x8x24576 : Shape := ⟨3, ![1, 8, 24576]⟩
abbrev S2x8x24576 : Shape := ⟨3, ![2, 8, 24576]⟩

abbrev nBuf : Space → Nat
  | .hbm => 34
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S2x4096x24576, .f32⟩
  | .hbm, ⟨2, _⟩ => ⟨S2x24576, .f32⟩
  | .hbm, ⟨3, _⟩ => ⟨S_, .f32⟩
  | .hbm, ⟨4, _⟩ => ⟨S4x4096, .f32⟩
  | .hbm, ⟨5, _⟩ => ⟨S8x4096, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S8x4096, .f32⟩
  | .hbm, ⟨15, _⟩ => ⟨S1x4096x24576, .f32⟩
  | .hbm, ⟨16, _⟩ => ⟨S4096x24576, .f32⟩
  | .hbm, ⟨17, _⟩ => ⟨S8x24576, .f32⟩
  | .hbm, ⟨18, _⟩ => ⟨S1x24576, .f32⟩
  | .hbm, ⟨19, _⟩ => ⟨S24576, .f32⟩
  | .hbm, ⟨20, _⟩ => ⟨S1x24576, .f32⟩
  | .hbm, ⟨21, _⟩ => ⟨S8x24576, .f32⟩
  | .hbm, ⟨22, _⟩ => ⟨S8x24576, .f32⟩
  | .hbm, ⟨23, _⟩ => ⟨S1x4096x24576, .f32⟩
  | .hbm, ⟨24, _⟩ => ⟨S4096x24576, .f32⟩
  | .hbm, ⟨25, _⟩ => ⟨S8x24576, .f32⟩
  | .hbm, ⟨26, _⟩ => ⟨S1x24576, .f32⟩
  | .hbm, ⟨27, _⟩ => ⟨S24576, .f32⟩
  | .hbm, ⟨28, _⟩ => ⟨S1x24576, .f32⟩
  | .hbm, ⟨29, _⟩ => ⟨S8x24576, .f32⟩
  | .hbm, ⟨30, _⟩ => ⟨S8x24576, .f32⟩
  | .hbm, ⟨31, _⟩ => ⟨S1x8x24576, .f32⟩
  | .hbm, ⟨32, _⟩ => ⟨S1x8x24576, .f32⟩
  | .hbm, ⟨33, _⟩ => ⟨S2x8x24576, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== PreNorm.lean ====
abbrev S4x2048x4096 : Shape := ⟨3, ![4, 2048, 4096]⟩
abbrev S2x4x4096 : Shape := ⟨3, ![2, 4, 4096]⟩
abbrev S2x4x6x1x4096 : Shape := ⟨5, ![2, 4, 6, 1, 4096]⟩
abbrev S2x4x1x4096 : Shape := ⟨4, ![2, 4, 1, 4096]⟩
abbrev S1x256x4096 : Shape := ⟨3, ![1, 256, 4096]⟩
abbrev S1x1x1x4096 : Shape := ⟨4, ![1, 1, 1, 4096]⟩
abbrev S1x1x1x1x4096 : Shape := ⟨5, ![1, 1, 1, 1, 4096]⟩
abbrev S256x4096 : Shape := ⟨2, ![256, 4096]⟩
abbrev S1x4096 : Shape := ⟨2, ![1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S2x4x4096, .f32⟩
  | .hbm, ⟨2, _⟩ => ⟨S2x4x6x1x4096, .f32⟩
  | .hbm, ⟨3, _⟩ => ⟨S2x4x1x4096, .f32⟩
  | .hbm, ⟨4, _⟩ => ⟨S4x2048x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x1x1x4096, .f32⟩
  | .local _ .vmem, ⟨3, _⟩ => ⟨S1x1x1x1x4096, .f32⟩
  | .local _ .vmem, ⟨4, _⟩ => ⟨S1x1x1x1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S1x256x4096, .bf16⟩
  | .local _ .vmem, ⟨8, _⟩ => ⟨S1x256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, arg0.toNat, c1_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PreNormRefIdeal.lean ====
abbrev S4x2048x4096 : Shape := ⟨3, ![4, 2048, 4096]⟩
abbrev S2x4x4096 : Shape := ⟨3, ![2, 4, 4096]⟩
abbrev S2x4x6x1x4096 : Shape := ⟨5, ![2, 4, 6, 1, 4096]⟩
abbrev S1x1x4096 : Shape := ⟨3, ![1, 1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x4x1x1x4096 : Shape := ⟨5, ![1, 4, 1, 1, 4096]⟩
abbrev S4x1x4096 : Shape := ⟨3, ![4, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x4x4096, .f32⟩
  | .hbm, ⟨2, _⟩ => ⟨S2x4x6x1x4096, .f32⟩
  | .hbm, ⟨3, _⟩ => ⟨S1x1x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S1x4x1x1x4096, .f32⟩
  | .hbm, ⟨22, _⟩ => ⟨S4x1x4096, .f32⟩
  | .hbm, ⟨23, _⟩ => ⟨S_, .f32⟩
  | .hbm, ⟨24, _⟩ => ⟨S4x1x4096, .f32⟩
  | .hbm, ⟨25, _⟩ => ⟨S4x1x4096, .f32⟩
  | .hbm, ⟨26, _⟩ => ⟨S4x2048x4096, .f32⟩
  | .hbm, ⟨27, _⟩ => ⟨S4x2048x4096, .f32⟩
  | .hbm, ⟨28, _⟩ => ⟨S1x4x1x1x4096, .f32⟩
  | .hbm, ⟨29, _⟩ => ⟨S4x1x4096, .f32⟩
  | .hbm, ⟨30, _⟩ => ⟨S4x2048x4096, .f32⟩
  | .hbm, ⟨31, _⟩ => ⟨S4x2048x4096, .f32⟩
  | .hbm, ⟨32, _⟩ => ⟨S4x2048x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Resid.lean ====
abbrev S4x2048x4096 : Shape := ⟨3, ![4, 2048, 4096]⟩
abbrev S2x4x4096 : Shape := ⟨3, ![2, 4, 4096]⟩
abbrev S2x4x6x1x4096 : Shape := ⟨5, ![2, 4, 6, 1, 4096]⟩
abbrev S2x4x1x4096 : Shape := ⟨4, ![2, 4, 1, 4096]⟩
abbrev S1x256x4096 : Shape := ⟨3, ![1, 256, 4096]⟩
abbrev S1x1x1x4096 : Shape := ⟨4, ![1, 1, 1, 4096]⟩
abbrev S1x1x1x1x4096 : Shape := ⟨5, ![1, 1, 1, 1, 4096]⟩
abbrev S256x4096 : Shape := ⟨2, ![256, 4096]⟩
abbrev S1x4096 : Shape := ⟨2, ![1, 4096]⟩
abbrev S256 : Shape := ⟨1, ![256]⟩
abbrev S256x1 : Shape := ⟨2, ![256, 1]⟩

abbrev nBuf : Space → Nat
  | .hbm => 7
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S2x4x4096, .f32⟩
  | .hbm, ⟨3, _⟩ => ⟨S2x4x6x1x4096, .f32⟩
  | .hbm, ⟨4, _⟩ => ⟨S2x4x1x4096, .f32⟩
  | .hbm, ⟨5, _⟩ => ⟨S4x2048x4096, .f32⟩
  | .hbm, ⟨6, _⟩ => ⟨S4x2048x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x1x1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S1x1x1x4096, .f32⟩
  | .local _ .vmem, ⟨8, _⟩ => ⟨S1x1x1x1x4096, .f32⟩
  | .local _ .vmem, ⟨9, _⟩ => ⟨S1x1x1x1x4096, .f32⟩
  | .local _ .vmem, ⟨10, _⟩ => ⟨S1x1x1x1x4096, .f32⟩
  | .local _ .vmem, ⟨11, _⟩ => ⟨S1x1x1x1x4096, .f32⟩
  | .local _ .vmem, ⟨12, _⟩ => ⟨S1x256x4096, .f32⟩
  | .local _ .vmem, ⟨13, _⟩ => ⟨S1x256x4096, .f32⟩
  | .local _ .vmem, ⟨14, _⟩ => ⟨S1x256x4096, .bf16⟩
  | .local _ .vmem, ⟨15, _⟩ => ⟨S1x256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, arg0.toNat, c2_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, arg0.toNat, c4_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, arg0.toNat, c3_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ResidRefIdeal.lean ====
abbrev S4x2048x4096 : Shape := ⟨3, ![4, 2048, 4096]⟩
abbrev S2x4x4096 : Shape := ⟨3, ![2, 4, 4096]⟩
abbrev S2x4x6x1x4096 : Shape := ⟨5, ![2, 4, 6, 1, 4096]⟩
abbrev S1x4x1x1x4096 : Shape := ⟨5, ![1, 4, 1, 1, 4096]⟩
abbrev S4x1x4096 : Shape := ⟨3, ![4, 1, 4096]⟩
abbrev S1x1x4096 : Shape := ⟨3, ![1, 1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S2x4x4096, .f32⟩
  | .hbm, ⟨3, _⟩ => ⟨S2x4x6x1x4096, .f32⟩
  | .hbm, ⟨4, _⟩ => ⟨S1x4x1x1x4096, .f32⟩
  | .hbm, ⟨5, _⟩ => ⟨S4x1x4096, .f32⟩
  | .hbm, ⟨6, _⟩ => ⟨S1x1x4096, .f32⟩
  | .hbm, ⟨7, _⟩ => ⟨S4096, .f32⟩
  | .hbm, ⟨8, _⟩ => ⟨S4x2048x4096, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S1x1x4096, .f32⟩
  | .hbm, ⟨28, _⟩ => ⟨S4096, .f32⟩
  | .hbm, ⟨29, _⟩ => ⟨S4x2048x4096, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x4096, .f32⟩
  | .hbm, ⟨41, _⟩ => ⟨S4x2048x4096, .f32⟩
  | .hbm, ⟨42, _⟩ => ⟨S1x1x4096, .f32⟩
  | .hbm, ⟨43, _⟩ => ⟨S4x2048x4096, .f32⟩
  | .hbm, ⟨44, _⟩ => ⟨S4x2048x4096, .f32⟩
  | .hbm, ⟨45, _⟩ => ⟨S1x4x1x1x4096, .f32⟩
  | .hbm, ⟨46, _⟩ => ⟨S4x1x4096, .f32⟩
  | .hbm, ⟨47, _⟩ => ⟨S_, .f32⟩
  | .hbm, ⟨48, _⟩ => ⟨S4x1x4096, .f32⟩
  | .hbm, ⟨49, _⟩ => ⟨S4x1x4096, .f32⟩
  | .hbm, ⟨50, _⟩ => ⟨S4x2048x4096, .f32⟩
  | .hbm, ⟨51, _⟩ => ⟨S4x2048x4096, .f32⟩
  | .hbm, ⟨52, _⟩ => ⟨S1x4x1x1x4096, .f32⟩
  | .hbm, ⟨53, _⟩ => ⟨S4x1x4096, .f32⟩
  | .hbm, ⟨54, _⟩ => ⟨S4x2048x4096, .f32⟩
  | .hbm, ⟨55, _⟩ => ⟨S4x2048x4096, .f32⟩
  | .hbm, ⟨56, _⟩ => ⟨S4x2048x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Next.lean ====
abbrev S4x2048x4096 : Shape := ⟨3, ![4, 2048, 4096]⟩
abbrev S2x4x4096 : Shape := ⟨3, ![2, 4, 4096]⟩
abbrev S2x4x6x1x4096 : Shape := ⟨5, ![2, 4, 6, 1, 4096]⟩
abbrev S2x4x1x4096 : Shape := ⟨4, ![2, 4, 1, 4096]⟩
abbrev S1x256x4096 : Shape := ⟨3, ![1, 256, 4096]⟩
abbrev S1x1x1x4096 : Shape := ⟨4, ![1, 1, 1, 4096]⟩
abbrev S1x1x1x1x4096 : Shape := ⟨5, ![1, 1, 1, 1, 4096]⟩
abbrev S256x4096 : Shape := ⟨2, ![256, 4096]⟩
abbrev S1x4096 : Shape := ⟨2, ![1, 4096]⟩
abbrev S256 : Shape := ⟨1, ![256]⟩
abbrev S256x1 : Shape := ⟨2, ![256, 1]⟩

abbrev nBuf : Space → Nat
  | .hbm => 7
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S2x4x4096, .f32⟩
  | .hbm, ⟨3, _⟩ => ⟨S2x4x6x1x4096, .f32⟩
  | .hbm, ⟨4, _⟩ => ⟨S2x4x1x4096, .f32⟩
  | .hbm, ⟨5, _⟩ => ⟨S4x2048x4096, .f32⟩
  | .hbm, ⟨6, _⟩ => ⟨S4x2048x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x1x1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S1x1x1x4096, .f32⟩
  | .local _ .vmem, ⟨8, _⟩ => ⟨S1x1x1x1x4096, .f32⟩
  | .local _ .vmem, ⟨9, _⟩ => ⟨S1x1x1x1x4096, .f32⟩
  | .local _ .vmem, ⟨10, _⟩ => ⟨S1x1x1x1x4096, .f32⟩
  | .local _ .vmem, ⟨11, _⟩ => ⟨S1x1x1x1x4096, .f32⟩
  | .local _ .vmem, ⟨12, _⟩ => ⟨S1x256x4096, .f32⟩
  | .local _ .vmem, ⟨13, _⟩ => ⟨S1x256x4096, .f32⟩
  | .local _ .vmem, ⟨14, _⟩ => ⟨S1x256x4096, .bf16⟩
  | .local _ .vmem, ⟨15, _⟩ => ⟨S1x256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  let c0_i32_1 : BitVec 32 := 0#32
  let c0_i32_2 : BitVec 32 := 0#32
  ![c0_i32.toNat, arg0.toNat, c5_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, arg0.toNat, c1_i32_0.toNat, c0_i32.toNat, c0_i32_1.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== NextRefIdeal.lean ====
abbrev S4x2048x4096 : Shape := ⟨3, ![4, 2048, 4096]⟩
abbrev S2x4x4096 : Shape := ⟨3, ![2, 4, 4096]⟩
abbrev S2x4x6x1x4096 : Shape := ⟨5, ![2, 4, 6, 1, 4096]⟩
abbrev S1x4x1x1x4096 : Shape := ⟨5, ![1, 4, 1, 1, 4096]⟩
abbrev S4x1x4096 : Shape := ⟨3, ![4, 1, 4096]⟩
abbrev S1x1x4096 : Shape := ⟨3, ![1, 1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S2x4x4096, .f32⟩
  | .hbm, ⟨3, _⟩ => ⟨S2x4x6x1x4096, .f32⟩
  | .hbm, ⟨4, _⟩ => ⟨S1x4x1x1x4096, .f32⟩
  | .hbm, ⟨5, _⟩ => ⟨S4x1x4096, .f32⟩
  | .hbm, ⟨6, _⟩ => ⟨S1x1x4096, .f32⟩
  | .hbm, ⟨7, _⟩ => ⟨S4096, .f32⟩
  | .hbm, ⟨8, _⟩ => ⟨S4x2048x4096, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S1x1x4096, .f32⟩
  | .hbm, ⟨28, _⟩ => ⟨S4096, .f32⟩
  | .hbm, ⟨29, _⟩ => ⟨S4x2048x4096, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x4096, .f32⟩
  | .hbm, ⟨41, _⟩ => ⟨S4x2048x4096, .f32⟩
  | .hbm, ⟨42, _⟩ => ⟨S1x1x4096, .f32⟩
  | .hbm, ⟨43, _⟩ => ⟨S4x2048x4096, .f32⟩
  | .hbm, ⟨44, _⟩ => ⟨S4x2048x4096, .f32⟩
  | .hbm, ⟨45, _⟩ => ⟨S1x4x1x1x4096, .f32⟩
  | .hbm, ⟨46, _⟩ => ⟨S4x1x4096, .f32⟩
  | .hbm, ⟨47, _⟩ => ⟨S_, .f32⟩
  | .hbm, ⟨48, _⟩ => ⟨S4x1x4096, .f32⟩
  | .hbm, ⟨49, _⟩ => ⟨S4x1x4096, .f32⟩
  | .hbm, ⟨50, _⟩ => ⟨S4x2048x4096, .f32⟩
  | .hbm, ⟨51, _⟩ => ⟨S4x2048x4096, .f32⟩
  | .hbm, ⟨52, _⟩ => ⟨S1x4x1x1x4096, .f32⟩
  | .hbm, ⟨53, _⟩ => ⟨S4x1x4096, .f32⟩
  | .hbm, ⟨54, _⟩ => ⟨S4x2048x4096, .f32⟩
  | .hbm, ⟨55, _⟩ => ⟨S4x2048x4096, .f32⟩
  | .hbm, ⟨56, _⟩ => ⟨S4x2048x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== ExpGU.lean ====
abbrev S40 : Shape := ⟨1, ![40]⟩
abbrev S1 : Shape := ⟨1, ![1]⟩
abbrev S20480x4096 : Shape := ⟨2, ![20480, 4096]⟩
abbrev S1x8x4096x4096 : Shape := ⟨4, ![1, 8, 4096, 4096]⟩
abbrev S512x4096 : Shape := ⟨2, ![512, 4096]⟩
abbrev S1x1x4096x512 : Shape := ⟨4, ![1, 1, 4096, 512]⟩
abbrev S512x512 : Shape := ⟨2, ![512, 512]⟩
abbrev S4096x512 : Shape := ⟨2, ![4096, 512]⟩

abbrev nBuf : Space → Nat
  | .hbm => 4
  | .vmem => 8
  | .smem => 2
  | _ => 0

abbrev bufTy : (tb : Table) → Fin (tcTables nBuf tb) → BufTy
  | .hbm, ⟨0, _⟩ => ⟨S20480x4096, .bf16⟩
  | .hbm, ⟨1, _⟩ => ⟨S1x8x4096x4096, .f32⟩
  | .hbm, ⟨2, _⟩ => ⟨S1x8x4096x4096, .f32⟩
  | .hbm, ⟨3, _⟩ => ⟨S20480x4096, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S512x512, .bf16⟩
  | .local _ .vmem, ⟨7, _⟩ => ⟨S512x512, .bf16⟩
  | .local _ .smem, ⟨0, _⟩ => ⟨S40, .i32⟩
  | .local _ .smem, ⟨1, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 40], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ExpGURefIdeal.lean ====
abbrev S40 : Shape := ⟨1, ![40]⟩
abbrev S1 : Shape := ⟨1, ![1]⟩
abbrev S20480x4096 : Shape := ⟨2, ![20480, 4096]⟩
abbrev S1x8x4096x4096 : Shape := ⟨4, ![1, 8, 4096, 4096]⟩
abbrev S8 : Shape := ⟨1, ![8]⟩
abbrev S8x1 : Shape := ⟨2, ![8, 1]⟩
abbrev S1x40 : Shape := ⟨2, ![1, 40]⟩
abbrev S8x40 : Shape := ⟨2, ![8, 40]⟩
abbrev S1x1 : Shape := ⟨2, ![1, 1]⟩
abbrev S8x40x512 : Shape := ⟨3, ![8, 40, 512]⟩
abbrev S8x20480 : Shape := ⟨2, ![8, 20480]⟩
abbrev S_ : Shape := ⟨0, ![]⟩
abbrev S1x20480 : Shape := ⟨2, ![1, 20480]⟩
abbrev S20480 : Shape := ⟨1, ![20480]⟩
abbrev S20480x1 : Shape := ⟨2, ![20480, 1]⟩
abbrev S1x1x4096x4096 : Shape := ⟨4, ![1, 1, 4096, 4096]⟩
abbrev S4096x4096 : Shape := ⟨2, ![4096, 4096]⟩

abbrev nBuf : Space → Nat
  | .hbm => 202
  | .vmem => 0
  | .smem => 0
  | _ => 0

abbrev hbmTy0_0 (i : Nat) : BufTy := match i % 128 with
  | 0 => ⟨S40, .i32⟩
  | 1 => ⟨S1, .i32⟩
  | 2 => ⟨S20480x4096, .bf16⟩
  | 3 => ⟨S1x8x4096x4096, .f32⟩
  | 4 => ⟨S1x8x4096x4096, .f32⟩
  | 5 => ⟨S20480x4096, .f32⟩
  | 6 => ⟨S8, .i32⟩
  | 7 => ⟨S8x1, .i32⟩
  | 8 => ⟨S40, .i32⟩
  | 9 => ⟨S1x40, .i32⟩
  | 10 => ⟨S1x40, .i32⟩
  | 11 => ⟨S8x40, .i32⟩
  | 12 => ⟨S8x40, .i32⟩
  | 13 => ⟨S8x40, .i1⟩
  | 14 => ⟨S1x1, .i32⟩
  | 15 => ⟨S1x40, .i32⟩
  | 16 => ⟨S1x40, .i1⟩
  | 17 => ⟨S8x40, .i1⟩
  | 18 => ⟨S8x40, .i1⟩
  | 19 => ⟨S8x40, .i32⟩
  | 20 => ⟨S8x40, .f32⟩
  | 21 => ⟨S8x40x512, .f32⟩
  | 22 => ⟨S8x20480, .f32⟩
  | 23 => ⟨S_, .f32⟩
  | 24 => ⟨S20480x4096, .f32⟩
  | 25 => ⟨S1x20480, .f32⟩
  | 26 => ⟨S20480, .f32⟩
  | 27 => ⟨S20480x1, .f32⟩
  | 28 => ⟨S1x1x4096x4096, .f32⟩
  | 29 => ⟨S4096x4096, .f32⟩
  | 30 => ⟨S20480x4096, .f32⟩
  | 31 => ⟨S20480x4096, .f32⟩
  | 32 => ⟨S20480x4096, .f32⟩
  | 33 => ⟨S_, .f32⟩
  | 34 => ⟨S20480x4096, .f32⟩
  | 35 => ⟨S20480x4096, .f32⟩
  | 36 => ⟨S_, .f32⟩
  | 37 => ⟨S20480x4096, .f32⟩
  | 38 => ⟨S20480x4096, .f32⟩
  | 39 => ⟨S20480x4096, .f32⟩
  | 40 => ⟨S1x1x4096x4096, .f32⟩
  | 41 => ⟨S4096x4096, .f32⟩
  | 42 => ⟨S20480x4096, .f32⟩
  | 43 => ⟨S20480x4096, .f32⟩
  | 44 => ⟨S20480x4096, .f32⟩
  | 45 => ⟨S20480x4096, .f32⟩
  | 46 => ⟨S20480x4096, .f32⟩
  | 47 => ⟨S1x20480, .f32⟩
  | 48 => ⟨S20480, .f32⟩
  | 49 => ⟨S20480x1, .f32⟩
  | 50 => ⟨S1x1x4096x4096, .f32⟩
  | 51 => ⟨S4096x4096, .f32⟩
  | 52 => ⟨S20480x4096, .f32⟩
  | 53 => ⟨S20480x4096, .f32⟩
  | 54 => ⟨S20480x4096, .f32⟩
  | 55 => ⟨S_, .f32⟩
  | 56 => ⟨S20480x4096, .f32⟩
  | 57 => ⟨S20480x4096, .f32⟩
  | 58 => ⟨S_, .f32⟩
  | 59 => ⟨S20480x4096, .f32⟩
  | 60 => ⟨S20480x4096, .f32⟩
  | 61 => ⟨S20480x4096, .f32⟩
  | 62 => ⟨S1x1x4096x4096, .f32⟩
  | 63 => ⟨S4096x4096, .f32⟩
  | 64 => ⟨S20480x4096, .f32⟩
  | 65 => ⟨S20480x4096, .f32⟩
  | 66 => ⟨S20480x4096, .f32⟩
  | 67 => ⟨S20480x4096, .f32⟩
  | 68 => ⟨S20480x4096, .f32⟩
  | 69 => ⟨S1x20480, .f32⟩
  | 70 => ⟨S20480, .f32⟩
  | 71 => ⟨S20480x1, .f32⟩
  | 72 => ⟨S1x1x4096x4096, .f32⟩
  | 73 => ⟨S4096x4096, .f32⟩
  | 74 => ⟨S20480x4096, .f32⟩
  | 75 => ⟨S20480x4096, .f32⟩
  | 76 => ⟨S20480x4096, .f32⟩
  | 77 => ⟨S_, .f32⟩
  | 78 => ⟨S20480x4096, .f32⟩
  | 79 => ⟨S20480x4096, .f32⟩
  | 80 => ⟨S_, .f32⟩
  | 81 => ⟨S20480x4096, .f32⟩
  | 82 => ⟨S20480x4096, .f32⟩
  | 83 => ⟨S20480x4096, .f32⟩
  | 84 => ⟨S1x1x4096x4096, .f32⟩
  | 85 => ⟨S4096x4096, .f32⟩
  | 86 => ⟨S20480x4096, .f32⟩
  | 87 => ⟨S20480x4096, .f32⟩
  | 88 => ⟨S20480x4096, .f32⟩
  | 89 => ⟨S20480x4096, .f32⟩
  | 90 => ⟨S20480x4096, .f32⟩
  | 91 => ⟨S1x20480, .f32⟩
  | 92 => ⟨S20480, .f32⟩
  | 93 => ⟨S20480x1, .f32⟩
  | 94 => ⟨S1x1x4096x4096, .f32⟩
  | 95 => ⟨S4096x4096, .f32⟩
  | 96 => ⟨S20480x4096, .f32⟩
  | 97 => ⟨S20480x4096, .f32⟩
  | 98 => ⟨S20480x4096, .f32⟩
  | 99 => ⟨S_, .f32⟩
  | 100 => ⟨S20480x4096, .f32⟩
  | 101 => ⟨S20480x4096, .f32⟩
  | 102 => ⟨S_, .f32⟩
  | 103 => ⟨S20480x4096, .f32⟩
  | 104 => ⟨S20480x4096, .f32⟩
  | 105 => ⟨S20480x4096, .f32⟩
  | 106 => ⟨S1x1x4096x4096, .f32⟩
  | 107 => ⟨S4096x4096, .f32⟩
  | 108 => ⟨S20480x4096, .f32⟩
  | 109 => ⟨S20480x4096, .f32⟩
  | 110 => ⟨S20480x4096, .f32⟩
  | 111 => ⟨S20480x4096, .f32⟩
  | 112 => ⟨S20480x4096, .f32⟩
  | 113 => ⟨S1x20480, .f32⟩
  | 114 => ⟨S20480, .f32⟩
  | 115 => ⟨S20480x1, .f32⟩
  | 116 => ⟨S1x1x4096x4096, .f32⟩
  | 117 => ⟨S4096x4096, .f32⟩
  | 118 => ⟨S20480x4096, .f32⟩
  | 119 => ⟨S20480x4096, .f32⟩
  | 120 => ⟨S20480x4096, .f32⟩
  | 121 => ⟨S_, .f32⟩
  | 122 => ⟨S20480x4096, .f32⟩
  | 123 => ⟨S20480x4096, .f32⟩
  | 124 => ⟨S_, .f32⟩
  | 125 => ⟨S20480x4096, .f32⟩
  | 126 => ⟨S20480x4096, .f32⟩
  | 127 => ⟨S20480x4096, .f32⟩
  | _ => ⟨S40, .i32⟩

abbrev hbmTy0_1 (i : Nat) : BufTy := match i % 128 with
  | 0 => ⟨S1x1x4096x4096, .f32⟩
  | 1 => ⟨S4096x4096, .f32⟩
  | 2 => ⟨S20480x4096, .f32⟩
  | 3 => ⟨S20480x4096, .f32⟩
  | 4 => ⟨S20480x4096, .f32⟩
  | 5 => ⟨S20480x4096, .f32⟩
  | 6 => ⟨S20480x4096, .f32⟩
  | 7 => ⟨S1x20480, .f32⟩
  | 8 => ⟨S20480, .f32⟩
  | 9 => ⟨S20480x1, .f32⟩
  | 10 => ⟨S1x1x4096x4096, .f32⟩
  | 11 => ⟨S4096x4096, .f32⟩
  | 12 => ⟨S20480x4096, .f32⟩
  | 13 => ⟨S20480x4096, .f32⟩
  | 14 => ⟨S20480x4096, .f32⟩
  | 15 => ⟨S_, .f32⟩
  | 16 => ⟨S20480x4096, .f32⟩
  | 17 => ⟨S20480x4096, .f32⟩
  | 18 => ⟨S_, .f32⟩
  | 19 => ⟨S20480x4096, .f32⟩
  | 20 => ⟨S20480x4096, .f32⟩
  | 21 => ⟨S20480x4096, .f32⟩
  | 22 => ⟨S1x1x4096x4096, .f32⟩
  | 23 => ⟨S4096x4096, .f32⟩
  | 24 => ⟨S20480x4096, .f32⟩
  | 25 => ⟨S20480x4096, .f32⟩
  | 26 => ⟨S20480x4096, .f32⟩
  | 27 => ⟨S20480x4096, .f32⟩
  | 28 => ⟨S20480x4096, .f32⟩
  | 29 => ⟨S1x20480, .f32⟩
  | 30 => ⟨S20480, .f32⟩
  | 31 => ⟨S20480x1, .f32⟩
  | 32 => ⟨S1x1x4096x4096, .f32⟩
  | 33 => ⟨S4096x4096, .f32⟩
  | 34 => ⟨S20480x4096, .f32⟩
  | 35 => ⟨S20480x4096, .f32⟩
  | 36 => ⟨S20480x4096, .f32⟩
  | 37 => ⟨S_, .f32⟩
  | 38 => ⟨S20480x4096, .f32⟩
  | 39 => ⟨S20480x4096, .f32⟩
  | 40 => ⟨S_, .f32⟩
  | 41 => ⟨S20480x4096, .f32⟩
  | 42 => ⟨S20480x4096, .f32⟩
  | 43 => ⟨S20480x4096, .f32⟩
  | 44 => ⟨S1x1x4096x4096, .f32⟩
  | 45 => ⟨S4096x4096, .f32⟩
  | 46 => ⟨S20480x4096, .f32⟩
  | 47 => ⟨S20480x4096, .f32⟩
  | 48 => ⟨S20480x4096, .f32⟩
  | 49 => ⟨S20480x4096, .f32⟩
  | 50 => ⟨S20480x4096, .f32⟩
  | 51 => ⟨S1x20480, .f32⟩
  | 52 => ⟨S20480, .f32⟩
  | 53 => ⟨S20480x1, .f32⟩
  | 54 => ⟨S1x1x4096x4096, .f32⟩
  | 55 => ⟨S4096x4096, .f32⟩
  | 56 => ⟨S20480x4096, .f32⟩
  | 57 => ⟨S20480x4096, .f32⟩
  | 58 => ⟨S20480x4096, .f32⟩
  | 59 => ⟨S_, .f32⟩
  | 60 => ⟨S20480x4096, .f32⟩
  | 61 => ⟨S20480x4096, .f32⟩
  | 62 => ⟨S_, .f32⟩
  | 63 => ⟨S20480x4096, .f32⟩
  | 64 => ⟨S20480x4096, .f32⟩
  | 65 => ⟨S20480x4096, .f32⟩
  | 66 => ⟨S1x1x4096x4096, .f32⟩
  | 67 => ⟨S4096x4096, .f32⟩
  | 68 => ⟨S20480x4096, .f32⟩
  | 69 => ⟨S20480x4096, .f32⟩
  | 70 => ⟨S20480x4096, .f32⟩
  | 71 => ⟨S20480x4096, .f32⟩
  | 72 => ⟨S20480x4096, .f32⟩
  | 73 => ⟨S20480x4096, .bf16⟩
  | _ => ⟨S40, .i32⟩

abbrev hbmTy (i : Nat) : BufTy := match i / 128 with
  | 0 => hbmTy0_0 i
  | 1 => hbmTy0_1 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call3_v0 : Ref sig .tc := ⟨.hbm, 97, rfl⟩
abbrev main_call3_v1 : Ref sig .tc := ⟨.hbm, 98, rfl⟩
abbrev main_call3_cst : Ref sig .tc := ⟨.hbm, 99, rfl⟩
abbrev main_call3_v2 : Ref sig .tc := ⟨.hbm, 100, rfl⟩
abbrev main_call3_v3 : Ref sig .tc := ⟨.hbm, 101, rfl⟩
abbrev main_call3_cst_0 : Ref sig .tc := ⟨.hbm, 102, rfl⟩
abbrev main_call3_v4 : Ref sig .tc := ⟨.hbm, 103, rfl⟩
abbrev main_call3_v5 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call4_v0 : Ref sig .tc := ⟨.hbm, 119, rfl⟩
abbrev main_call4_v1 : Ref sig .tc := ⟨.hbm, 120, rfl⟩
abbrev main_call4_cst : Ref sig .tc := ⟨.hbm, 121, rfl⟩
abbrev main_call4_v2 : Ref sig .tc := ⟨.hbm, 122, rfl⟩
abbrev main_call4_v3 : Ref sig .tc := ⟨.hbm, 123, rfl⟩
abbrev main_call4_cst_0 : Ref sig .tc := ⟨.hbm, 124, rfl⟩
abbrev main_call4_v4 : Ref sig .tc := ⟨.hbm, 125, rfl⟩
abbrev main_call4_v5 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_call5_v0 : Ref sig .tc := ⟨.hbm, 141, rfl⟩
abbrev main_call5_v1 : Ref sig .tc := ⟨.hbm, 142, rfl⟩
abbrev main_call5_cst : Ref sig .tc := ⟨.hbm, 143, rfl⟩
abbrev main_call5_v2 : Ref sig .tc := ⟨.hbm, 144, rfl⟩
abbrev main_call5_v3 : Ref sig .tc := ⟨.hbm, 145, rfl⟩
abbrev main_call5_cst_0 : Ref sig .tc := ⟨.hbm, 146, rfl⟩
abbrev main_call5_v4 : Ref sig .tc := ⟨.hbm, 147, rfl⟩
abbrev main_call5_v5 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_call6_v0 : Ref sig .tc := ⟨.hbm, 163, rfl⟩
abbrev main_call6_v1 : Ref sig .tc := ⟨.hbm, 164, rfl⟩
abbrev main_call6_cst : Ref sig .tc := ⟨.hbm, 165, rfl⟩
abbrev main_call6_v2 : Ref sig .tc := ⟨.hbm, 166, rfl⟩
abbrev main_call6_v3 : Ref sig .tc := ⟨.hbm, 167, rfl⟩
abbrev main_call6_cst_0 : Ref sig .tc := ⟨.hbm, 168, rfl⟩
abbrev main_call6_v4 : Ref sig .tc := ⟨.hbm, 169, rfl⟩
abbrev main_call6_v5 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_call7_v0 : Ref sig .tc := ⟨.hbm, 185, rfl⟩
abbrev main_call7_v1 : Ref sig .tc := ⟨.hbm, 186, rfl⟩
abbrev main_call7_cst : Ref sig .tc := ⟨.hbm, 187, rfl⟩
abbrev main_call7_v2 : Ref sig .tc := ⟨.hbm, 188, rfl⟩
abbrev main_call7_v3 : Ref sig .tc := ⟨.hbm, 189, rfl⟩
abbrev main_call7_cst_0 : Ref sig .tc := ⟨.hbm, 190, rfl⟩
abbrev main_call7_v4 : Ref sig .tc := ⟨.hbm, 191, rfl⟩
abbrev main_call7_v5 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩

abbrev nD : Nat := 1
abbrev τ : Topo := Topo.v7x

variable {F : FTy → Type} [FloatOps F]
-- ==== ExpDown.lean ====
abbrev S40 : Shape := ⟨1, ![40]⟩
abbrev S1 : Shape := ⟨1, ![1]⟩
abbrev S20480x4096 : Shape := ⟨2, ![20480, 4096]⟩
abbrev S1x8x4096x4096 : Shape := ⟨4, ![1, 8, 4096, 4096]⟩
abbrev S512x4096 : Shape := ⟨2, ![512, 4096]⟩
abbrev S1x1x4096x512 : Shape := ⟨4, ![1, 1, 4096, 512]⟩
abbrev S512x512 : Shape := ⟨2, ![512, 512]⟩
abbrev S4096x512 : Shape := ⟨2, ![4096, 512]⟩

abbrev nBuf : Space → Nat
  | .hbm => 3
  | .vmem => 6
  | .smem => 2
  | _ => 0

abbrev bufTy : (tb : Table) → Fin (tcTables nBuf tb) → BufTy
  | .hbm, ⟨0, _⟩ => ⟨S20480x4096, .bf16⟩
  | .hbm, ⟨1, _⟩ => ⟨S1x8x4096x4096, .f32⟩
  | .hbm, ⟨2, _⟩ => ⟨S20480x4096, .f32⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S512x512, .f32⟩
  | .local _ .vmem, ⟨5, _⟩ => ⟨S512x512, .f32⟩
  | .local _ .smem, ⟨0, _⟩ => ⟨S40, .i32⟩
  | .local _ .smem, ⟨1, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 40], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ExpDownRefIdeal.lean ====
abbrev S40 : Shape := ⟨1, ![40]⟩
abbrev S1 : Shape := ⟨1, ![1]⟩
abbrev S20480x4096 : Shape := ⟨2, ![20480, 4096]⟩
abbrev S1x8x4096x4096 : Shape := ⟨4, ![1, 8, 4096, 4096]⟩
abbrev S8 : Shape := ⟨1, ![8]⟩
abbrev S8x1 : Shape := ⟨2, ![8, 1]⟩
abbrev S1x40 : Shape := ⟨2, ![1, 40]⟩
abbrev S8x40 : Shape := ⟨2, ![8, 40]⟩
abbrev S1x1 : Shape := ⟨2, ![1, 1]⟩
abbrev S8x40x512 : Shape := ⟨3, ![8, 40, 512]⟩
abbrev S8x20480 : Shape := ⟨2, ![8, 20480]⟩
abbrev S_ : Shape := ⟨0, ![]⟩
abbrev S1x20480 : Shape := ⟨2, ![1, 20480]⟩
abbrev S20480 : Shape := ⟨1, ![20480]⟩
abbrev S20480x1 : Shape := ⟨2, ![20480, 1]⟩
abbrev S1x1x4096x4096 : Shape := ⟨4, ![1, 1, 4096, 4096]⟩
abbrev S4096x4096 : Shape := ⟨2, ![4096, 4096]⟩

abbrev nBuf : Space → Nat
  | .hbm => 96
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S20480x4096, .bf16⟩
  | .hbm, ⟨3, _⟩ => ⟨S1x8x4096x4096, .f32⟩
  | .hbm, ⟨4, _⟩ => ⟨S20480x4096, .f32⟩
  | .hbm, ⟨5, _⟩ => ⟨S8, .i32⟩
  | .hbm, ⟨6, _⟩ => ⟨S8x1, .i32⟩
  | .hbm, ⟨7, _⟩ => ⟨S40, .i32⟩
  | .hbm, ⟨8, _⟩ => ⟨S1x40, .i32⟩
  | .hbm, ⟨9, _⟩ => ⟨S1x40, .i32⟩
  | .hbm, ⟨10, _⟩ => ⟨S8x40, .i32⟩
  | .hbm, ⟨11, _⟩ => ⟨S8x40, .i32⟩
  | .hbm, ⟨12, _⟩ => ⟨S8x40, .i1⟩
  | .hbm, ⟨13, _⟩ => ⟨S1x1, .i32⟩
  | .hbm, ⟨14, _⟩ => ⟨S1x40, .i32⟩
  | .hbm, ⟨15, _⟩ => ⟨S1x40, .i1⟩
  | .hbm, ⟨16, _⟩ => ⟨S8x40, .i1⟩
  | .hbm, ⟨17, _⟩ => ⟨S8x40, .i1⟩
  | .hbm, ⟨18, _⟩ => ⟨S8x40, .i32⟩
  | .hbm, ⟨19, _⟩ => ⟨S8x40, .f32⟩
  | .hbm, ⟨20, _⟩ => ⟨S8x40x512, .f32⟩
  | .hbm, ⟨21, _⟩ => ⟨S8x20480, .f32⟩
  | .hbm, ⟨22, _⟩ => ⟨S_, .f32⟩
  | .hbm, ⟨23, _⟩ => ⟨S20480x4096, .f32⟩
  | .hbm, ⟨24, _⟩ => ⟨S1x20480, .f32⟩
  | .hbm, ⟨25, _⟩ => ⟨S20480, .f32⟩
  | .hbm, ⟨26, _⟩ => ⟨S20480x1, .f32⟩
  | .hbm, ⟨27, _⟩ => ⟨S1x1x4096x4096, .f32⟩
  | .hbm, ⟨28, _⟩ => ⟨S4096x4096, .f32⟩
  | .hbm, ⟨29, _⟩ => ⟨S20480x4096, .f32⟩
  | .hbm, ⟨30, _⟩ => ⟨S20480x4096, .f32⟩
  | .hbm, ⟨31, _⟩ => ⟨S20480x4096, .f32⟩
  | .hbm, ⟨32, _⟩ => ⟨S20480x4096, .f32⟩
  | .hbm, ⟨33, _⟩ => ⟨S1x20480, .f32⟩
  | .hbm, ⟨34, _⟩ => ⟨S20480, .f32⟩
  | .hbm, ⟨35, _⟩ => ⟨S20480x1, .f32⟩
  | .hbm, ⟨36, _⟩ => ⟨S1x1x4096x4096, .f32⟩
  | .hbm, ⟨37, _⟩ => ⟨S4096x4096, .f32⟩
  | .hbm, ⟨38, _⟩ => ⟨S20480x4096, .f32⟩
  | .hbm, ⟨39, _⟩ => ⟨S20480x4096, .f32⟩
  | .hbm, ⟨40, _⟩ => ⟨S20480x4096, .f32⟩
  | .hbm, ⟨41, _⟩ => ⟨S20480x4096, .f32⟩
  | .hbm, ⟨42, _⟩ => ⟨S1x20480, .f32⟩
  | .hbm, ⟨43, _⟩ => ⟨S20480, .f32⟩
  | .hbm, ⟨44, _⟩ => ⟨S20480x1, .f32⟩
  | .hbm, ⟨45, _⟩ => ⟨S1x1x4096x4096, .f32⟩
  | .hbm, ⟨46, _⟩ => ⟨S4096x4096, .f32⟩
  | .hbm, ⟨47, _⟩ => ⟨S20480x4096, .f32⟩
  | .hbm, ⟨48, _⟩ => ⟨S20480x4096, .f32⟩
  | .hbm, ⟨49, _⟩ => ⟨S20480x4096, .f32⟩
  | .hbm, ⟨50, _⟩ => ⟨S20480x4096, .f32⟩
  | .hbm, ⟨51, _⟩ => ⟨S1x20480, .f32⟩
  | .hbm, ⟨52, _⟩ => ⟨S20480, .f32⟩
  | .hbm, ⟨53, _⟩ => ⟨S20480x1, .f32⟩
  | .hbm, ⟨54, _⟩ => ⟨S1x1x4096x4096, .f32⟩
  | .hbm, ⟨55, _⟩ => ⟨S4096x4096, .f32⟩
  | .hbm, ⟨56, _⟩ => ⟨S20480x4096, .f32⟩
  | .hbm, ⟨57, _⟩ => ⟨S20480x4096, .f32⟩
  | .hbm, ⟨58, _⟩ => ⟨S20480x4096, .f32⟩
  | .hbm, ⟨59, _⟩ => ⟨S20480x4096, .f32⟩
  | .hbm, ⟨60, _⟩ => ⟨S1x20480, .f32⟩
  | .hbm, ⟨61, _⟩ => ⟨S20480, .f32⟩
  | .hbm, ⟨62, _⟩ => ⟨S20480x1, .f32⟩
  | .hbm, ⟨63, _⟩ => ⟨S1x1x4096x4096, .f32⟩
  | .hbm, ⟨64, _⟩ => ⟨S4096x4096, .f32⟩
  | .hbm, ⟨65, _⟩ => ⟨S20480x4096, .f32⟩
  | .hbm, ⟨66, _⟩ => ⟨S20480x4096, .f32⟩
  | .hbm, ⟨67, _⟩ => ⟨S20480x4096, .f32⟩
  | .hbm, ⟨68, _⟩ => ⟨S20480x4096, .f32⟩
  | .hbm, ⟨69, _⟩ => ⟨S1x20480, .f32⟩
  | .hbm, ⟨70, _⟩ => ⟨S20480, .f32⟩
  | .hbm, ⟨71, _⟩ => ⟨S20480x1, .f32⟩
  | .hbm, ⟨72, _⟩ => ⟨S1x1x4096x4096, .f32⟩
  | .hbm, ⟨73, _⟩ => ⟨S4096x4096, .f32⟩
  | .hbm, ⟨74, _⟩ => ⟨S20480x4096, .f32⟩
  | .hbm, ⟨75, _⟩ => ⟨S20480x4096, .f32⟩
  | .hbm, ⟨76, _⟩ => ⟨S20480x4096, .f32⟩
  | .hbm, ⟨77, _⟩ => ⟨S20480x4096, .f32⟩
  | .hbm, ⟨78, _⟩ => ⟨S1x20480, .f32⟩
  | .hbm, ⟨79, _⟩ => ⟨S20480, .f32⟩
  | .hbm, ⟨80, _⟩ => ⟨S20480x1, .f32⟩
  | .hbm, ⟨81, _⟩ => ⟨S1x1x4096x4096, .f32⟩
  | .hbm, ⟨82, _⟩ => ⟨S4096x4096, .f32⟩
  | .hbm, ⟨83, _⟩ => ⟨S20480x4096, .f32⟩
  | .hbm, ⟨84, _⟩ => ⟨S20480x4096, .f32⟩
  | .hbm, ⟨85, _⟩ => ⟨S20480x4096, .f32⟩
  | .hbm, ⟨86, _⟩ => ⟨S20480x4096, .f32⟩
  | .hbm, ⟨87, _⟩ => ⟨S1x20480, .f32⟩
  | .hbm, ⟨88, _⟩ => ⟨S20480, .f32⟩
  | .hbm, ⟨89, _⟩ => ⟨S20480x1, .f32⟩
  | .hbm, ⟨90, _⟩ => ⟨S1x1x4096x4096, .f32⟩
  | .hbm, ⟨91, _⟩ => ⟨S4096x4096, .f32⟩
  | .hbm, ⟨92, _⟩ => ⟨S20480x4096, .f32⟩
  | .hbm, ⟨93, _⟩ => ⟨S20480x4096, .f32⟩
  | .hbm, ⟨94, _⟩ => ⟨S20480x4096, .f32⟩
  | .hbm, ⟨95, _⟩ => ⟨S20480x4096, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩

abbrev nD : Nat := 1
abbrev τ : Topo := Topo.v7x

variable {F : FTy → Type} [FloatOps F]
-- ==== Proof.AttnBlock.lean ====
/- What the attention kernel does with the blocks it reads, as functions of those blocks: the scores of 512 queries against 512 keys, cut into four
   chunks of 128 lanes; the state (largest score, weights' sum, weighted values) after the first block of keys; the state after one more block; the
   output from the last state. The body's stores are then these functions of the blocks it loads, for every float interpretation. -/
module

public import proofs.«01_k».proof.Proof.Gen.KernelIdeal.Value

@[expose] public section

noncomputable section

namespace Cert.Attn

open Cert.KernelIdeal Cert.KernelIdeal.Gen Idealize.ShloMosaic Idealize.ShloMosaic.TcCoe

variable {F : FTy → Type} [FloatOps F]

/-- The scores of a block of queries against a block of keys. -/
def scores (q k : Vec F S1x1x512x128 .bf16) : FVec F S512x512 .f32 :=
  matmul dot_S512x128_S512x128_S512x512_1_1_0_0_n_n none (shapeCast S512x128 q shapeCasts_S1x1x512x128_S512x128)
    (shapeCast S512x128 k shapeCasts_S1x1x512x128_S512x128) (constant S512x512 .f32 0x00000000#32)

/-- The lanes 128 n … of a block of scores are inside it. -/
theorem slices_chunk (n : Fin 4) : S512x512.Slices ![0, 128 * n.val] S512x128 := by
  revert n; decide

/-- Chunk n of a block of scores, with the forget gates' sums of its queries and keys. -/
def gated (s : FVec F S512x512 .f32) (fq : Vec F S512x128 .f32) (fk : Fin 4 → Vec F S1x1x1x128 .f32) (n : Fin 4) : FVec F S512x128 .f32 :=
  addf (extractStridedSlice S512x128 ![0, 128 * n.val] s (slices_chunk n))
    (subf fq (broadcastTo S512x128 (shapeCast S1x128 (fk n) shapeCasts_S1x1x1x128_S1x128) broadcasts_S1x128_S512x128))

/-- Chunk n of a block on the diagonal: the keys after the query are put at −∞. -/
def masked (c : Fin 4 → FVec F S512x128 .f32) (n : Fin 4) : FVec F S512x128 .f32 :=
  select (cmpi .sle (addi (iota .tc S512x128 32 [1] iota_S512x128_d1_w32) (broadcast S512x128 (BitVec.ofNat 32 (128 * n.val))))
      (iota .tc S512x128 32 [0] iota_S512x128_d0_w32))
    (c n) (broadcast S512x128 (Scalar.ofBits .f32 0xFF800000#32))

/-- Each row's largest score in a block, one column. -/
def top (c : Fin 4 → FVec F S512x128 .f32) : FVec F S512x1 .f32 :=
  shapeCast S512x1 (multiReduction .maximumf [1] S512 (maximumf (maximumf (maximumf (c 0) (c 1)) (c 2)) (c 3)) 0xFF800000#32
    reduces_S512x128_S512 (.inl rfl) rfl) shapeCasts_S512_S512x1

/-- A block's weights against the running largest score m. -/
def weight (c : Fin 4 → FVec F S512x128 .f32) (m : FVec F S512x128 .f32) (n : Fin 4) : FVec F S512x128 .f32 := exp (subf (c n) m)

/-- The four chunks of weights, added lane by lane. -/
def weightSum (p : Fin 4 → FVec F S512x128 .f32) : FVec F S512x128 .f32 := addf (addf (addf (p 0) (p 1)) (p 2)) (p 3)

/-- The values of a block, weighted. -/
def weighted (p : Fin 4 → FVec F S512x128 .f32) (v : Vec F S1x1x512x128 .bf16) : FVec F S512x128 .f32 :=
  matmul dot_S512x512_S512x128_S512x128_1_0_0_1_n_n none
    (truncf .bf16 (concatenate S512x512 1 [⟨S512x128, p 0⟩, ⟨S512x128, p 1⟩, ⟨S512x128, p 2⟩, ⟨S512x128, p 3⟩]
      concatenates_S512x128_S512x128_S512x128_S512x128_S512x512_d1) bitsLt_bf16_f32)
    (shapeCast S512x128 v shapeCasts_S1x1x512x128_S512x128) (constant S512x128 .f32 0x00000000#32)

/-- What is carried from one block of keys to the next: the largest score, the weights' sum by lanes, the weighted values. -/
structure State (F : FTy → Type) where
  m : FVec F S512x128 .f32
  l : FVec F S512x128 .f32
  acc : FVec F S512x128 .f32

/-- The state after the first block of keys. -/
def first (c : Fin 4 → FVec F S512x128 .f32) (v : Vec F S1x1x512x128 .bf16) : State F :=
  let m := broadcastTo S512x128 (shapeCast S512x1 (top c) shapeCasts_S512x1_S512x1) broadcasts_S512x1_S512x128
  ⟨m, weightSum (weight c m), weighted (weight c m) v⟩

/-- The state after one more block of keys. -/
def later (st : State F) (c : Fin 4 → FVec F S512x128 .f32) (v : Vec F S1x1x512x128 .bf16) : State F :=
  let m := maximumf st.m (broadcastTo S512x128 (top c) broadcasts_S512x1_S512x128)
  let α := exp (subf st.m m)
  ⟨m, addf (mulf α st.l) (weightSum (weight c m)), addf (mulf α st.acc) (weighted (weight c m) v)⟩

/-- The output block: the weighted values over the weights' sum. -/
def finish (st : State F) : FVec F S1x512x128 .bf16 :=
  shapeCast S1x512x128 (truncf .bf16 (divf st.acc (broadcastTo S512x128
    (shapeCast S512x1 (multiReduction .add [1] S512 st.l 0x00000000#32 reduces_S512x128_S512 (.inl rfl) rfl) shapeCasts_S512_S512x1)
    broadcasts_S512x1_S512x128)) bitsLt_bf16_f32) shapeCasts_S512x128_S1x512x128

/-- The state after the keys' blocks 0 … j (as many as there are numbers), the queries being block i: every block but the diagonal's free. -/
def state (q k v : Fin 4 → Vec F S1x1x512x128 .bf16) (fq : Fin 4 → Vec F S512x128 .f32) (fk : Fin 4 → Fin 4 → Vec F S1x1x1x128 .f32) (i : Fin 4) :
    List (Fin 4) → State F
  | [] => first (gated (scores (q i) (k 0)) (fq i) (fk 0)) (v 0)
  | j :: js => later (state q k v fq fk i js) (gated (scores (q i) (k j)) (fq i) (fk j)) (v j)

/-- The state after the diagonal block. -/
def full (q k v : Fin 4 → Vec F S1x1x512x128 .bf16) (fq : Fin 4 → Vec F S512x128 .f32) (fk : Fin 4 → Fin 4 → Vec F S1x1x1x128 .f32) (i : Fin 4)
    (js : List (Fin 4)) : State F :=
  later (state q k v fq fk i js) (masked (gated (scores (q i) (k i)) (fq i) (fk i))) (v i)

/-- The state of the first block of queries: its only block of keys is the diagonal's. -/
def full₀ (q k v : Fin 4 → Vec F S1x1x512x128 .bf16) (fq : Fin 4 → Vec F S512x128 .f32) (fk : Fin 4 → Fin 4 → Vec F S1x1x1x128 .f32) : State F :=
  first (masked (gated (scores (q 0) (k 0)) (fq 0) (fk 0))) (v 0)

/-- The rows 512 i … of one head's queries, keys or values. -/
theorem inb_rows (i : Fin 4) : ∀ a, (![0, 0, 512 * i.val, 0] : Fin 4 → ℕ) a + S1x1x512x128.size a ≤ S1x1x2048x128.size a := by
  revert i; decide

/-- The lanes 512 j + 128 n … of the keys' gate sums. -/
theorem inb_lanes (j n : Fin 4) : ∀ a, (![0, 0, 0, 512 * j.val + 128 * n.val] : Fin 4 → ℕ) a + S1x1x1x128.size a ≤ S1x1x1x2048.size a := by
  revert j n; decide

/-- The rows 512 i … of the queries' gate sums. -/
theorem inb_gate (i : Fin 4) : ∀ a, (![512 * i.val, 0] : Fin 2 → ℕ) a + S512x128.size a ≤ S2048x128.size a := by
  revert i; decide

/-- The box of rows 512 n … of one head's queries, keys or values. -/
abbrev rowsBox (n : Fin 4) : Rect S1x1x2048x128 := Rect.unit (s := S1x1x2048x128) ![0, 0, 512 * n.val, 0] S1x1x512x128.size (inb_rows n)

/-- The box of lanes 512 j + 128 n … of the keys' gate sums. -/
abbrev lanesBox (j n : Fin 4) : Rect S1x1x1x2048 := Rect.unit (s := S1x1x1x2048) ![0, 0, 0, 512 * j.val + 128 * n.val] S1x1x1x128.size (inb_lanes j n)

/-- The box of rows 512 n … of the queries' gate sums. -/
abbrev gateBox (n : Fin 4) : Rect S2048x128 := Rect.unit (s := S2048x128) ![512 * n.val, 0] S512x128.size (inb_gate n)

/-- The body's stores: the four output blocks, last first. -/
theorem pieces_eq (c : Dev nD) (i : grid0.Coords) (arg2 : Memref sig .tc .vmem S1x1x2048x128 .bf16) (harg2 : arg2.IsWhole)
    (arg3 : Memref sig .tc .vmem S1x1x2048x128 .bf16) (harg3 : arg3.IsWhole) (arg4 : Memref sig .tc .vmem S1x1x2048x128 .bf16) (harg4 : arg4.IsWhole)
    (arg5 : Memref sig .tc .vmem S1x2048x128 .f32) (harg5 : arg5.IsWhole) (arg6 : Memref sig .tc .vmem S1x1x1x2048 .f32) (harg6 : arg6.IsWhole)
    (arg7 : Memref sig .tc .vmem S1x2048x128 .bf16) (harg7 : arg7.IsWhole) (arg8 : Memref sig .tc .vmem S2048x128 .f32) (harg8 : arg8.IsWhole)
    (x0 x1 x2 : Vec F S1x1x2048x128 .bf16) (x3 : Vec F S1x2048x128 .f32) (x4 : Vec F S1x1x1x2048 .f32)
    (q k v : Fin 4 → Vec F S1x1x512x128 .bf16) (fq : Fin 4 → Vec F S512x128 .f32) (fk : Fin 4 → Fin 4 → Vec F S1x1x1x128 .f32)
    (hq : q = fun n => View.readAt (Elt F) arg2.view (rowsBox n).toLoadRect (harg2.unread x0))
    (hk : k = fun n => View.readAt (Elt F) arg3.view (rowsBox n).toLoadRect (harg3.unread x1))
    (hv : v = fun n => View.readAt (Elt F) arg4.view (rowsBox n).toLoadRect (harg4.unread x2))
    (hfq : fq = fun n => arg8.view.readCov
      [⟨Rect.unit (s := S2048x128) ![0, 0] S2048x128.size inb_S2048x128_S2048x128_0_0, k0_pay2 i (View.readAt (Elt F) arg5.view
        (Rect.unit (s := S1x2048x128) ![0, 0, 0] S1x2048x128.size inb_S1x2048x128_S1x2048x128_0_0_0).toLoadRect (harg5.unread x3))⟩]
      (gateBox n).toLoadRect)
    (hfk : fk = fun j n => View.readAt (Elt F) arg6.view
      (lanesBox j n).toLoadRect (harg6.unread x4)) :
    (kernelRun0_A c i arg2 harg2 arg3 harg3 arg4 harg4 arg5 harg5 arg6 harg6 arg7 harg7 arg8 harg8 x0 x1 x2 x3 x4).1
    = [⟨Rect.unit (s := S1x2048x128) ![0, 1536, 0] S1x512x128.size inb_S1x2048x128_S1x512x128_0_1536_0, finish (full q k v fq fk 3 [2, 1])⟩,
       ⟨Rect.unit (s := S1x2048x128) ![0, 1024, 0] S1x512x128.size inb_S1x2048x128_S1x512x128_0_1024_0, finish (full q k v fq fk 2 [1])⟩,
       ⟨Rect.unit (s := S1x2048x128) ![0, 512, 0] S1x512x128.size inb_S1x2048x128_S1x512x128_0_512_0, finish (full q k v fq fk 1 [])⟩,
       ⟨Rect.unit (s := S1x2048x128) ![0, 0, 0] S1x512x128.size inb_S1x2048x128_S1x512x128_0_0_0, finish (full₀ q k v fq fk)⟩] := by
  subst hq hk hv hfq hfk
  sl_kernel_rfl

end Cert.Attn

end
-- ==== Proof.AttnRead.lean ====
/- The functions of AttnBlock.lean at the real interpretation, read at one row and lane. -/
module

public import proofs.«01_k».proof.Proof.AttnBlock
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.WordCmp
public import Idealize.ShloMosaic.Lib.WholeRead
public import Idealize.ShloMosaic.Lib.Pipeline.Value

@[expose] public section

set_option maxRecDepth 16384

noncomputable section

namespace Cert.Attn

open Cert.KernelIdeal Cert.KernelIdeal.Gen Idealize.ShloMosaic Idealize.ShloMosaic.TcCoe

theorem ofBits_bot : Ideal.ofBits .f32 0xFF800000#32 = ⊥ := by simp [Ideal.ofBits, Ideal.ieee]

/-- A score is the sum over the head's features of the query's times the key's. -/
theorem scores_apply (q k : Vec Ideal S1x1x512x128 .bf16) (r c : Fin 512) :
    scores q k (ix2 r c) = ∑ d : Fin 128, (q (ix4 0 0 r d) * k (ix4 0 0 c d) : EReal) := by
  pointwise [scores]

theorem gated_apply (s : FVec Ideal S512x512 .f32) (fq : Vec Ideal S512x128 .f32) (fk : Fin 4 → Vec Ideal S1x1x1x128 .f32) (n : Fin 4)
    (r : Fin 512) (l : Fin 128) :
    gated s fq fk n (ix2 r l)
      = ((s (ix2 r ⟨128 * n.val + l.val, by omega⟩) + (fq (ix2 r l) - fk n (ix4 0 0 0 l)) : EReal)) := by
  pointwise [gated]

theorem masked_apply (c : Fin 4 → FVec Ideal S512x128 .f32) (n : Fin 4) (r : Fin 512) (l : Fin 128) :
    masked c n (ix2 r l) = if 128 * n.val + l.val ≤ r.val then (c n (ix2 r l) : EReal) else ⊥ := by
  pointwise [masked]
  have h : IntOp.addi (BitVec.ofNat 32 l.val) (BitVec.ofNat 32 (128 * n.val)) = BitVec.ofNat 32 (128 * n.val + l.val) := by
    rw [Nat.add_comm, BitVec.ofNat_add]; rfl
  rw [h, ofBits_bot, WordCmp.cmpi_sle_ofNat (by omega) (by omega)]
  by_cases hc : 128 * n.val + l.val ≤ r.val <;> simp [hc, Scalar.select]

theorem top_apply (c : Fin 4 → FVec Ideal S512x128 .f32) (r : Fin 512) :
    top c (ix2 r 0) = (Finset.univ : Finset (Fin 128)).fold max (⊥ : EReal) fun l =>
      max (max (max (c 0 (ix2 r l)) (c 1 (ix2 r l))) (c 2 (ix2 r l))) (c 3 (ix2 r l)) := by
  pointwise [top]
  rw [ofBits_bot]

theorem weight_apply (c : Fin 4 → FVec Ideal S512x128 .f32) (m : FVec Ideal S512x128 .f32) (n : Fin 4) (r : Fin 512) (l : Fin 128) :
    weight c m n (ix2 r l) = Ideal.exp ((c n (ix2 r l) : EReal) - m (ix2 r l)) := rfl

theorem weightSum_apply (p : Fin 4 → FVec Ideal S512x128 .f32) (r : Fin 512) (l : Fin 128) :
    weightSum p (ix2 r l) = ∑ n : Fin 4, (p n (ix2 r l) : EReal) := by
  rw [Fin.sum_univ_four]; rfl

/-- The four chunks side by side: lane u of the row is lane u mod 128 of chunk u div 128. -/
theorem concat_apply (p : Fin 4 → FVec Ideal S512x128 .f32) (r u : Fin 512) :
    concatenate S512x512 1 [⟨S512x128, p 0⟩, ⟨S512x128, p 1⟩, ⟨S512x128, p 2⟩, ⟨S512x128, p 3⟩]
      concatenates_S512x128_S512x128_S512x128_S512x128_S512x512_d1 (ix2 r u)
      = p ⟨u.val / 128, by omega⟩ (ix2 r ⟨u.val % 128, by omega⟩) :=
  concatenate_ofFn_apply (t := S512x512) (s₁ := S512x128) 1 p concatenates_S512x128_S512x128_S512x128_S512x128_S512x512_d1 rfl 128 rfl
    (ix2 r u) ⟨u.val / 128, by omega⟩ rfl (ix2 r ⟨u.val % 128, by omega⟩) rfl
    (fun b hb => by match b with | 0 => rfl | 1 => exact absurd rfl hb)

theorem weighted_apply (p : Fin 4 → FVec Ideal S512x128 .f32) (v : Vec Ideal S1x1x512x128 .bf16) (r : Fin 512) (d : Fin 128) :
    weighted p v (ix2 r d)
      = ∑ u : Fin 512, (p ⟨u.val / 128, by omega⟩ (ix2 r ⟨u.val % 128, by omega⟩) * v (ix4 0 0 u d) : EReal) := by
  pointwise [weighted]
  exact Finset.sum_congr rfl fun u _ => congrArg (fun z : EReal => z * v (ix4 0 0 u d)) (concat_apply p r u)

theorem first_m (c : Fin 4 → FVec Ideal S512x128 .f32) (v : Vec Ideal S1x1x512x128 .bf16) (r : Fin 512) (l : Fin 128) :
    (first c v).m (ix2 r l) = top c (ix2 r 0) := by
  pointwise [first]

theorem first_l (c : Fin 4 → FVec Ideal S512x128 .f32) (v : Vec Ideal S1x1x512x128 .bf16) :
    (first c v).l = weightSum (weight c (first c v).m) := by unfold first; dsimp only

theorem first_acc (c : Fin 4 → FVec Ideal S512x128 .f32) (v : Vec Ideal S1x1x512x128 .bf16) :
    (first c v).acc = weighted (weight c (first c v).m) v := by unfold first; dsimp only

theorem later_m (st : State Ideal) (c : Fin 4 → FVec Ideal S512x128 .f32) (v : Vec Ideal S1x1x512x128 .bf16) (r : Fin 512) (l : Fin 128) :
    (later st c v).m (ix2 r l) = max (st.m (ix2 r l)) (top c (ix2 r 0) : EReal) := by
  pointwise [later]

theorem later_l (st : State Ideal) (c : Fin 4 → FVec Ideal S512x128 .f32) (v : Vec Ideal S1x1x512x128 .bf16) (r : Fin 512) (l : Fin 128) :
    (later st c v).l (ix2 r l) = (Ideal.exp (st.m (ix2 r l) - (later st c v).m (ix2 r l)) * st.l (ix2 r l)
      + weightSum (weight c (later st c v).m) (ix2 r l) : EReal) := rfl

theorem later_acc (st : State Ideal) (c : Fin 4 → FVec Ideal S512x128 .f32) (v : Vec Ideal S1x1x512x128 .bf16) (r : Fin 512) (l : Fin 128) :
    (later st c v).acc (ix2 r l) = (Ideal.exp (st.m (ix2 r l) - (later st c v).m (ix2 r l)) * st.acc (ix2 r l)
      + weighted (weight c (later st c v).m) v (ix2 r l) : EReal) := rfl

theorem finish_apply (st : State Ideal) (r : Fin 512) (d : Fin 128) :
    finish st (ix3 0 r d) = Ideal.div (st.acc (ix2 r d)) (∑ l : Fin 128, (st.l (ix2 r l) : EReal)) := by
  pointwise [finish]

/-! ## The loads -/

/-- The queries' gate sums as the body keeps them: every lane of a row holds the head's. -/
theorem gate_apply (i : grid0.Coords) (x : Vec Ideal S1x2048x128 .f32) (t : Fin 2048) (l : Fin 128) :
    k0_pay2 i x (ix2 t l) = x (ix3 0 t ⟨(i 1).val, by have := (i 1).isLt; simp at this; omega⟩) := by
  pointwise [k0_pay2]
  have hi : (i 1).val < 24 := by have := (i 1).isLt; simpa using this
  have h : ∀ y : Fin 128, Scalar.select (IntOp.cmpi .eq (BitVec.ofNat 32 y.val) (BitVec.ofNat 32 (i 1).val)) (x (ix3 0 t y) : EReal) 0
      = if y = ⟨(i 1).val, by omega⟩ then x (ix3 0 t y) else 0 := fun y => by
    rw [WordCmp.cmpi_eq_ofNat (by omega) (by omega)]
    by_cases hy : y.val = (i 1).val <;> simp [hy, Scalar.select, Fin.ext_iff]
  exact (Finset.sum_congr rfl fun y _ => h y).trans (by rw [Finset.sum_ite_eq']; simp)

end Cert.Attn

end
-- ==== Proof.AttnRow.lean ====
/- One row of softmax attention over the extended reals: weights taken against any real number in place of the row's largest score give one and the
   same quotient, and the running state of the blockwise computation is the sums over the keys seen so far. -/
module

public import Idealize.ShloMosaic.PureOps.Ideal
public import Mathlib.Data.EReal.Operations
public import Mathlib.Algebra.BigOperators.Fin
public import Mathlib.Tactic.FieldSimp

@[expose] public section

noncomputable section

namespace Cert.Attn

open Idealize.ShloMosaic

/-- The weight of a score against M: 0 where the key is masked. -/
def W (s : EReal) (M : ℝ) : ℝ := if s = ⊥ then 0 else Real.exp (s.toReal - M)

theorem W_nonneg (s : EReal) (M : ℝ) : 0 ≤ W s M := by unfold W; split <;> positivity

theorem W_pos {s : EReal} (h : s ≠ ⊥) (M : ℝ) : 0 < W s M := by rw [W, if_neg h]; positivity

theorem W_shift (s : EReal) (M M' : ℝ) : Real.exp (M - M') * W s M = W s M' := by
  unfold W; split
  · simp
  · rw [← Real.exp_add]; congr 1; ring

theorem exp_sub_coe {s : EReal} (h : s ≠ ⊤) (M : ℝ) : Ideal.exp (s - (M : EReal)) = (W s M : EReal) := by
  induction s with
  | bot => simp [W]
  | top => exact absurd rfl h
  | coe x => rw [← EReal.coe_sub, Ideal.exp_coe, W, if_neg (EReal.coe_ne_bot x), EReal.toReal_coe]

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem mul_sum {ι : Type*} (S : Finset ι) (a : ℝ) (ha : 0 ≤ a) (f : ι → EReal) : (a : EReal) * ∑ i ∈ S, f i = ∑ i ∈ S, (a : EReal) * f i := by
  classical
  induction S using Finset.induction_on with
  | empty => simp
  | insert b S hb ih =>
    rw [Finset.sum_insert hb, Finset.sum_insert hb, ← ih]
    exact EReal.left_distrib_of_nonneg_of_ne_top (by exact_mod_cast ha) (EReal.coe_ne_top a) _ _

/-- The largest of finitely many scores, none ⊤ and one not ⊥, is a real number. -/
theorem fold_real {ι : Type*} [Fintype ι] (f : ι → EReal) (ht : ∀ i, f i ≠ ⊤) (hb : ∃ i, f i ≠ ⊥) :
    ∃ M : ℝ, (Finset.univ : Finset ι).fold max ⊥ f = (M : EReal) := by
  have he : (Finset.univ : Finset ι).fold max ⊥ f = Finset.univ.sup f := rfl
  obtain ⟨i, hi⟩ := hb
  have h1 : Finset.univ.sup f ≠ ⊥ := fun h => hi (le_bot_iff.1 (h ▸ Finset.le_sup (f := f) (Finset.mem_univ i)))
  have h2 : Finset.univ.sup f ≠ ⊤ := ((Finset.sup_lt_iff bot_lt_top).2 fun j _ => lt_top_iff_ne_top.2 (ht j)).ne
  exact ⟨(Finset.univ.sup f).toReal, by rw [he, EReal.coe_toReal h2 h1]⟩

theorem max_real {a b : EReal} {x y : ℝ} (ha : a = x) (hb : b = y) : ∃ M : ℝ, max a b = (M : EReal) :=
  ⟨max x y, by rw [ha, hb]; exact (EReal.coe_strictMono.monotone.map_max).symm⟩

/-- What a row's state says after the blocks of keys in S: the weights' sums by lane and the weighted values, against one real M. -/
def Holds (S : Finset (Fin 4)) (sc : Fin 4 → Fin 4 → Fin 128 → EReal) (V : Fin 4 → Fin 512 → Fin 128 → EReal) (m l acc : Fin 128 → EReal) : Prop :=
  ∃ M : ℝ, (∀ x, m x = (M : EReal))
    ∧ (∀ x, l x = ∑ j ∈ S, ∑ n : Fin 4, (W (sc j n x) M : EReal))
    ∧ ∀ d, acc d = ∑ j ∈ S, ∑ u : Fin 512, (W (sc j ⟨u.val / 128, by omega⟩ ⟨u.val % 128, by omega⟩) M : EReal) * V j u d

/-- The keys of a row, by blocks. -/
def key (j : Fin 4) (u : Fin 512) : Fin 2048 := ⟨512 * j.val + u.val, by omega⟩

/-- A sum over the keys is the sum over the blocks of the sums over each block's keys. -/
theorem sum_key (f : Fin 2048 → EReal) : ∑ j : Fin 4, ∑ u : Fin 512, f (key j u) = ∑ t : Fin 2048, f t := by
  rw [← Fintype.sum_prod_type' (f := fun j u => f (key j u)), ← Equiv.sum_comp (finProdFinEquiv (m := 4) (n := 512)) f]
  exact Finset.sum_congr rfl fun p _ => congrArg f (Fin.ext (by simp [key, finProdFinEquiv, Nat.add_comm]))

/-- A sum over a block's keys is the sum over the lanes of the sums over the chunks. -/
theorem sum_lane (f : Fin 512 → EReal) :
    ∑ x : Fin 128, ∑ n : Fin 4, f ⟨128 * n.val + x.val, by omega⟩ = ∑ u : Fin 512, f u := by
  rw [Finset.sum_comm, ← Fintype.sum_prod_type' (f := fun (n : Fin 4) (x : Fin 128) => f ⟨128 * n.val + x.val, by omega⟩),
    ← Equiv.sum_comp (finProdFinEquiv (m := 4) (n := 128)) f]
  exact Finset.sum_congr rfl fun p _ => congrArg f (Fin.ext (by simp [finProdFinEquiv, Nat.add_comm]))

/-- The quotient of the weighted values and the weights' sum is softmax's sum of the values, whatever M and M' are. -/
theorem quotient_eq (s v : Fin 2048 → EReal) (M M' : ℝ) (hs : ∀ u, s u ≠ ⊤) (hb : ∃ u, s u ≠ ⊥) :
    Ideal.div (∑ u, (W (s u) M : EReal) * v u) (∑ u, (W (s u) M : EReal))
      = ∑ u, Ideal.div (Ideal.exp (s u - (M' : EReal))) (∑ t, Ideal.exp (s t - (M' : EReal))) * v u := by
  have hL : ∀ N : ℝ, 0 < ∑ u, W (s u) N := fun N => by
    obtain ⟨u, hu⟩ := hb
    exact Finset.sum_pos' (fun i _ => W_nonneg _ _) ⟨u, Finset.mem_univ u, W_pos hu N⟩
  have hS : ∑ t, Ideal.exp (s t - (M' : EReal)) = ((∑ t, W (s t) M' : ℝ) : EReal) := by
    rw [coe_sum]; exact Finset.sum_congr rfl fun t _ => exp_sub_coe (hs t) M'
  rw [hS, ← coe_sum, Ideal.div_coe (hL M).ne', mul_comm, mul_sum _ _ (by have := (hL M).le; positivity)]
  refine Finset.sum_congr rfl fun u _ => ?_
  rw [Ideal.div_coe (hL M').ne', exp_sub_coe (hs u), ← mul_assoc, ← EReal.coe_mul, ← EReal.coe_mul]
  congr 2
  have h' : ∑ t, W (s t) M' = Real.exp (M - M') * ∑ t, W (s t) M := by
    rw [Finset.mul_sum]; exact Finset.sum_congr rfl fun t _ => (W_shift _ _ _).symm
  rw [h', ← W_shift (s u) M M']
  have := (hL M).ne'
  have := (Real.exp_pos (M - M')).ne'
  field_simp

/-- After all the blocks up to the last that is not masked, the row's output is softmax's sum of the values. -/
theorem Holds.out {S : Finset (Fin 4)} {s : Fin 2048 → EReal} {v : Fin 2048 → Fin 128 → EReal} {m l acc : Fin 128 → EReal}
    (h : Holds S (fun j n x => s (key j ⟨128 * n.val + x.val, by omega⟩)) (fun j u => v (key j u)) m l acc)
    (hS : ∀ j, j ∉ S → ∀ u, s (key j u) = ⊥) (hs : ∀ u, s u ≠ ⊤) (hb : ∃ u, s u ≠ ⊥) (M' : ℝ) (d : Fin 128) :
    Ideal.div (acc d) (∑ x, l x)
      = ∑ u, Ideal.div (Ideal.exp (s u - (M' : EReal))) (∑ t, Ideal.exp (s t - (M' : EReal))) * v u d := by
  obtain ⟨M, -, hl, hacc⟩ := h
  have e1 : acc d = ∑ u, (W (s u) M : EReal) * v u d := by
    rw [hacc, ← sum_key fun u => (W (s u) M : EReal) * v u d, Finset.sum_subset (Finset.subset_univ S)]
    · refine Finset.sum_congr rfl fun j _ => Finset.sum_congr rfl fun u _ => ?_
      have : (⟨128 * (u.val / 128) + u.val % 128, by omega⟩ : Fin 512) = u := Fin.ext (Nat.div_add_mod _ _)
      simp only [this]
    · intro j _ hj
      refine Finset.sum_eq_zero fun u _ => ?_
      simp only [hS j hj, W, if_true, EReal.coe_zero, zero_mul]
  have e2 : ∑ x, l x = ∑ u, (W (s u) M : EReal) := by
    rw [← sum_key fun u => (W (s u) M : EReal), ← Finset.sum_subset (Finset.subset_univ S)]
    · simp only [hl]
      rw [Finset.sum_comm]
      exact Finset.sum_congr rfl fun j _ => sum_lane fun u => (W (s (key j u)) M : EReal)
    · intro j _ hj
      exact Finset.sum_eq_zero fun u _ => by simp only [hS j hj, W, if_true, EReal.coe_zero]
  rw [e1, e2]
  exact quotient_eq s (fun u => v u d) M M' hs hb

end Cert.Attn

end
-- ==== Proof.AttnState.lean ====
/- The state of the blockwise computation, row by row: after the blocks of keys up to the diagonal's, a row of the output block is softmax's sum of the
   values over all the keys, those after the query masked. -/
module

public import proofs.«01_k».proof.Proof.AttnRead
public import proofs.«01_k».proof.Proof.AttnRow

@[expose] public section

set_option maxRecDepth 16384

noncomputable section

namespace Cert.Attn

open Cert.KernelIdeal Cert.KernelIdeal.Gen Idealize.ShloMosaic Idealize.ShloMosaic.TcCoe

/-- Row r of a state holds the sums over the blocks of keys in S, the scores being s and the values V. -/
def Tracks (S : Finset (Fin 4)) (s : Fin 2048 → EReal) (V : Fin 2048 → Fin 128 → EReal) (r : Fin 512) (st : State Ideal) : Prop :=
  Holds S (fun j n x => s (key j ⟨128 * n.val + x.val, by omega⟩)) (fun j u => V (key j u)) (fun x => st.m (ix2 r x)) (fun x => st.l (ix2 r x))
    (fun d => st.acc (ix2 r d))

/-- Row r of a block's chunks is the row's scores against the keys of block j. -/
def Scores (s : Fin 2048 → EReal) (r : Fin 512) (j : Fin 4) (c : Fin 4 → FVec Ideal S512x128 .f32) : Prop :=
  ∀ (n : Fin 4) (x : Fin 128), c n (ix2 r x) = s (key j ⟨128 * n.val + x.val, by omega⟩)

section Step

variable {s : Fin 2048 → EReal} {V : Fin 2048 → Fin 128 → EReal} {r : Fin 512} {j : Fin 4} {c : Fin 4 → FVec Ideal S512x128 .f32}
  {v : Vec Ideal S1x1x512x128 .bf16} (hc : Scores s r j c) (hv : ∀ u d, v (ix4 0 0 u d) = V (key j u) d) (hs : ∀ u, s u ≠ ⊤)

theorem chunk_eq (u : Fin 512) : (⟨128 * (u.val / 128) + u.val % 128, by omega⟩ : Fin 512) = u := Fin.ext (Nat.div_add_mod _ _)

include hc hs in
theorem top_real (hb : ∃ u, s (key j u) ≠ ⊥) : ∃ M : ℝ, top c (ix2 r 0) = (M : EReal) := by
  rw [top_apply]
  refine fold_real _ (fun l => ?_) ?_
  · simp only [hc _ l]
    refine (max_lt (max_lt (max_lt ?_ ?_) ?_) ?_).ne <;> exact lt_top_iff_ne_top.2 (hs _)
  · obtain ⟨u, hu⟩ := hb
    refine ⟨⟨u.val % 128, by omega⟩, fun h => hu ?_⟩
    have hle : s (key j u) ≤ ⊥ := by
      rw [← h, ← congrArg (fun y => s (key j y)) (chunk_eq u), ← hc ⟨u.val / 128, by omega⟩ ⟨u.val % 128, by omega⟩]
      have hn : ∀ n : Fin 4, c n (ix2 r ⟨u.val % 128, by omega⟩) ≤ max (max (max (c 0 (ix2 r ⟨u.val % 128, by omega⟩) : EReal)
          (c 1 (ix2 r ⟨u.val % 128, by omega⟩))) (c 2 (ix2 r ⟨u.val % 128, by omega⟩))) (c 3 (ix2 r ⟨u.val % 128, by omega⟩)) := by
        intro n; fin_cases n <;> simp
      exact hn _
    exact le_bot_iff.1 hle

include hc hs in
theorem weight_eq (m : FVec Ideal S512x128 .f32) (M : ℝ) (hm : ∀ x, m (ix2 r x) = (M : EReal)) (n : Fin 4) (x : Fin 128) :
    weight c m n (ix2 r x) = (W (s (key j ⟨128 * n.val + x.val, by omega⟩)) M : EReal) := by
  rw [weight_apply, hm, hc]; exact exp_sub_coe (hs _) M

include hc hs in
theorem weightSum_eq (m : FVec Ideal S512x128 .f32) (M : ℝ) (hm : ∀ x, m (ix2 r x) = (M : EReal)) (x : Fin 128) :
    weightSum (weight c m) (ix2 r x) = ∑ n : Fin 4, (W (s (key j ⟨128 * n.val + x.val, by omega⟩)) M : EReal) := by
  rw [weightSum_apply]; exact Finset.sum_congr rfl fun n _ => weight_eq hc hs m M hm n x

include hc hv hs in
theorem weighted_eq (m : FVec Ideal S512x128 .f32) (M : ℝ) (hm : ∀ x, m (ix2 r x) = (M : EReal)) (d : Fin 128) :
    weighted (weight c m) v (ix2 r d)
      = ∑ u : Fin 512, (W (s (key j ⟨128 * (u.val / 128) + u.val % 128, by omega⟩)) M : EReal) * V (key j u) d := by
  rw [weighted_apply]
  refine Finset.sum_congr rfl fun u _ => ?_
  rw [hv u d]
  exact congrArg (fun a : EReal => a * V (key j u) d) (weight_eq hc hs m M hm _ _)

include hc hv hs in
/-- After the first block of keys the state holds that block's sums. -/
theorem tracks_first (hb : ∃ u, s (key j u) ≠ ⊥) : Tracks {j} s V r (first c v) := by
  obtain ⟨M, hM⟩ := top_real hc hs hb
  have hm : ∀ x, (first c v).m (ix2 r x) = (M : EReal) := fun x => (first_m c v r x).trans hM
  refine ⟨M, hm, fun x => ?_, fun d => ?_⟩
  · rw [Finset.sum_singleton, first_l]; beta_reduce; rw [weightSum_eq hc hs (first c v).m M hm x]
  · rw [Finset.sum_singleton, first_acc]; beta_reduce; rw [weighted_eq hc hv hs (first c v).m M hm d]

include hc hv hs in
/-- One more block of keys adds its sums. -/
theorem tracks_later (hb : ∃ u, s (key j u) ≠ ⊥) {S : Finset (Fin 4)} {st : State Ideal} (h : Tracks S s V r st) (hj : j ∉ S) :
    Tracks (insert j S) s V r (later st c v) := by
  obtain ⟨M, h0, hl, hacc⟩ := h
  obtain ⟨T, hT⟩ := top_real hc hs hb
  obtain ⟨N, hN⟩ := max_real (h0 0) hT
  have hm : ∀ x, (later st c v).m (ix2 r x) = (N : EReal) := fun x => by
    rw [later_m]; exact (congrArg (fun z : EReal => max z (top c (ix2 r 0))) ((h0 x).trans (h0 0).symm)).trans hN
  have hα : ∀ x, Ideal.exp ((st.m (ix2 r x) : EReal) - (later st c v).m (ix2 r x)) = (Real.exp (M - N) : EReal) := fun x => by
    rw [hm x]; exact (congrArg (fun z : EReal => Ideal.exp (z - (N : EReal))) (h0 x)).trans (by rw [← EReal.coe_sub, Ideal.exp_coe])
  refine ⟨N, hm, fun x => ?_, fun d => ?_⟩
  · refine (later_l st c v r x).trans ?_
    rw [Finset.sum_insert hj, add_comm, hα x, weightSum_eq hc hs _ N hm x]
    refine congrArg (fun z : EReal => _ + z) ?_
    refine (congrArg (fun z : EReal => (Real.exp (M - N) : EReal) * z) (hl x)).trans ?_
    rw [mul_sum _ _ (Real.exp_pos _).le]
    refine Finset.sum_congr rfl fun i _ => ?_
    rw [mul_sum _ _ (Real.exp_pos _).le]
    exact Finset.sum_congr rfl fun n _ => by rw [← EReal.coe_mul, W_shift]
  · refine (later_acc st c v r d).trans ?_
    rw [Finset.sum_insert hj, add_comm, hα d, weighted_eq hc hv hs _ N hm d]
    refine congrArg (fun z : EReal => _ + z) ?_
    refine (congrArg (fun z : EReal => (Real.exp (M - N) : EReal) * z) (hacc d)).trans ?_
    rw [mul_sum _ _ (Real.exp_pos _).le]
    refine Finset.sum_congr rfl fun i _ => ?_
    rw [mul_sum _ _ (Real.exp_pos _).le]
    exact Finset.sum_congr rfl fun u _ => by rw [← mul_assoc, ← EReal.coe_mul, W_shift]

end Step

/-! ## The four output blocks -/

/-- The score of query t against key u before the mask. -/
def sigma (Q K : Fin 2048 → Fin 128 → EReal) (G : Fin 2048 → EReal) (t u : Fin 2048) : EReal := ∑ d : Fin 128, Q t d * K u d + (G t - G u)

/-- … and masked: the keys after the query at −∞. -/
def score (Q K : Fin 2048 → Fin 128 → EReal) (G : Fin 2048 → EReal) (t u : Fin 2048) : EReal := if u.val ≤ t.val then sigma Q K G t u else ⊥

/-- What the loaded blocks are: the rows of the queries, keys, values and gate sums. -/
structure Blocks (Q K V : Fin 2048 → Fin 128 → EReal) (G : Fin 2048 → EReal) (q k v : Fin 4 → Vec Ideal S1x1x512x128 .bf16)
    (fq : Fin 4 → Vec Ideal S512x128 .f32) (fk : Fin 4 → Fin 4 → Vec Ideal S1x1x1x128 .f32) : Prop where
  hq : ∀ n r d, q n (ix4 0 0 r d) = Q (key n r) d
  hk : ∀ n r d, k n (ix4 0 0 r d) = K (key n r) d
  hv : ∀ n r d, v n (ix4 0 0 r d) = V (key n r) d
  hfq : ∀ n r l, fq n (ix2 r l) = G (key n r)
  hfk : ∀ (j n : Fin 4) (l : Fin 128), fk j n (ix4 0 0 0 l) = G (key j ⟨128 * n.val + l.val, by omega⟩)

section Rows

variable {Q K V : Fin 2048 → Fin 128 → EReal} {G : Fin 2048 → EReal} {q k v : Fin 4 → Vec Ideal S1x1x512x128 .bf16}
  {fq : Fin 4 → Vec Ideal S512x128 .f32} {fk : Fin 4 → Fin 4 → Vec Ideal S1x1x1x128 .f32} (B : Blocks Q K V G q k v fq fk)
  (hσ : ∀ t u, ∃ x : ℝ, sigma Q K G t u = (x : EReal))

include B in
theorem gated_eq (i j : Fin 4) (r : Fin 512) (n : Fin 4) (x : Fin 128) :
    gated (scores (q i) (k j)) (fq i) (fk j) n (ix2 r x) = sigma Q K G (key i r) (key j ⟨128 * n.val + x.val, by omega⟩) := by
  rw [gated_apply, scores_apply]
  simp only [B.hq, B.hk, B.hfq, B.hfk]
  rfl

include B in
/-- A block of keys before the queries' is not masked. -/
theorem scores_free {i j : Fin 4} (h : j.val < i.val) (r : Fin 512) :
    Scores (score Q K G (key i r)) r j (gated (scores (q i) (k j)) (fq i) (fk j)) := fun n x => by
  rw [gated_eq B, score, if_pos (by simp only [key]; omega)]

include B in
/-- The diagonal block is masked where the key comes after the query. -/
theorem scores_diag (i : Fin 4) (r : Fin 512) :
    Scores (score Q K G (key i r)) r i (masked (gated (scores (q i) (k i)) (fq i) (fk i))) := fun n x => by
  rw [masked_apply, gated_eq B, score]
  refine if_congr ?_ rfl rfl
  simp only [key]; omega

include hσ in
theorem score_ne_top (t u : Fin 2048) : score Q K G t u ≠ ⊤ := by
  unfold score; split
  · obtain ⟨x, hx⟩ := hσ t u; rw [hx]; exact EReal.coe_ne_top x
  · exact bot_ne_top

include hσ in
theorem score_ne_bot {t u : Fin 2048} (h : u.val ≤ t.val) : score Q K G t u ≠ ⊥ := by
  rw [score, if_pos h]; obtain ⟨x, hx⟩ := hσ t u; rw [hx]; exact EReal.coe_ne_bot x

include hσ in
theorem block_ne_bot {i j : Fin 4} (h : j.val ≤ i.val) (r : Fin 512) : ∃ u, score Q K G (key i r) (key j u) ≠ ⊥ :=
  ⟨0, score_ne_bot hσ (by simp only [key]; simp; omega)⟩

/-- Softmax's sum of the values for query t, the weights taken against M. -/
def out (Q K V : Fin 2048 → Fin 128 → EReal) (G : Fin 2048 → EReal) (t : Fin 2048) (M : ℝ) (d : Fin 128) : EReal :=
  ∑ u, Ideal.div (Ideal.exp (score Q K G t u - (M : EReal))) (∑ w, Ideal.exp (score Q K G t w - (M : EReal))) * V u d

include hσ in
/-- A state that holds every block up to the queries' own finishes as softmax's sum. -/
theorem finish_eq {S : Finset (Fin 4)} {i : Fin 4} {r : Fin 512} {st : State Ideal} (h : Tracks S (score Q K G (key i r)) V r st)
    (hS : ∀ j : Fin 4, j ∉ S → i.val < j.val) (M : ℝ) (d : Fin 128) : finish st (ix3 0 r d) = out Q K V G (key i r) M d := by
  rw [finish_apply]
  refine Holds.out h (fun j hj u => ?_) (score_ne_top hσ _) ⟨key i r, score_ne_bot hσ le_rfl⟩ M d
  have := hS j hj
  rw [score, if_neg (by simp only [key]; omega)]

include B hσ in
theorem out₀ (r : Fin 512) (M : ℝ) (d : Fin 128) : finish (full₀ q k v fq fk) (ix3 0 r d) = out Q K V G (key 0 r) M d :=
  finish_eq hσ (tracks_first (scores_diag B 0 r) (B.hv 0) (score_ne_top hσ _) (block_ne_bot hσ le_rfl r)) (by decide) M d

include B hσ in
theorem out₁ (r : Fin 512) (M : ℝ) (d : Fin 128) : finish (full q k v fq fk 1 []) (ix3 0 r d) = out Q K V G (key 1 r) M d :=
  finish_eq hσ
    (tracks_later (scores_diag B 1 r) (B.hv 1) (score_ne_top hσ _) (block_ne_bot hσ le_rfl r)
      (tracks_first (scores_free B (by decide) r) (B.hv 0) (score_ne_top hσ _) (block_ne_bot hσ (by decide) r)) (by decide))
    (by decide) M d

include B hσ in
theorem out₂ (r : Fin 512) (M : ℝ) (d : Fin 128) : finish (full q k v fq fk 2 [1]) (ix3 0 r d) = out Q K V G (key 2 r) M d :=
  finish_eq hσ
    (tracks_later (scores_diag B 2 r) (B.hv 2) (score_ne_top hσ _) (block_ne_bot hσ le_rfl r)
      (tracks_later (scores_free B (by decide) r) (B.hv 1) (score_ne_top hσ _) (block_ne_bot hσ (by decide) r)
        (tracks_first (scores_free B (by decide) r) (B.hv 0) (score_ne_top hσ _) (block_ne_bot hσ (by decide) r)) (by decide)) (by decide))
    (by decide) M d

include B hσ in
theorem out₃ (r : Fin 512) (M : ℝ) (d : Fin 128) : finish (full q k v fq fk 3 [2, 1]) (ix3 0 r d) = out Q K V G (key 3 r) M d :=
  finish_eq hσ
    (tracks_later (scores_diag B 3 r) (B.hv 3) (score_ne_top hσ _) (block_ne_bot hσ le_rfl r)
      (tracks_later (scores_free B (by decide) r) (B.hv 2) (score_ne_top hσ _) (block_ne_bot hσ (by decide) r)
        (tracks_later (scores_free B (by decide) r) (B.hv 1) (score_ne_top hσ _) (block_ne_bot hσ (by decide) r)
          (tracks_first (scores_free B (by decide) r) (B.hv 0) (score_ne_top hσ _) (block_ne_bot hσ (by decide) r)) (by decide)) (by decide))
      (by decide))
    (by decide) M d

end Rows

end Cert.Attn

end
-- ==== Proof.AttnTile.lean ====
/- One step of the attention kernel: the block that it stores is softmax's sum of the values for each query of one head. -/
module

public import proofs.«01_k».proof.Proof.AttnState
public import proofs.«01_k».proof.Proof.Gen.KernelIdeal.Frame
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe

/-- A load of the rows 512 n … of one head's queries, keys or values. -/
theorem rows_read (a : Memref sig .tc .vmem S1x1x2048x128 .bf16) (ha : a.IsWhole) (x : Vec Ideal S1x1x2048x128 .bf16) (n : Fin 4) (r : Fin 512)
    (d : Fin 128) :
    View.readAt (Elt Ideal) a.view (rowsBox n).toLoadRect (ha.unread x) (ix4 0 0 r d) = x (ix4 0 0 (key n r) d) := by
  refine (ha.readAt_unread x _ _).trans (congrArg x ?_)
  funext b
  match b with
  | 0 => rfl
  | 1 => rfl
  | 2 => exact Fin.ext (show 512 * n.val + 1 * r.val = 512 * n.val + r.val by omega)
  | 3 => exact Fin.ext (show 0 + 1 * d.val = d.val by omega)

/-- A load of 128 of the keys' gate sums. -/
theorem lanes_read (a : Memref sig .tc .vmem S1x1x1x2048 .f32) (ha : a.IsWhole) (x : Vec Ideal S1x1x1x2048 .f32) (j n : Fin 4) (l : Fin 128) :
    View.readAt (Elt Ideal) a.view (lanesBox j n).toLoadRect (ha.unread x) (ix4 0 0 0 l) = x (ix4 0 0 0 (key j ⟨128 * n.val + l.val, by omega⟩)) := by
  refine (ha.readAt_unread x _ _).trans (congrArg x ?_)
  funext b
  match b with
  | 0 => rfl
  | 1 => rfl
  | 2 => rfl
  | 3 => exact Fin.ext (show 512 * j.val + 128 * n.val + 1 * l.val = 512 * j.val + (128 * n.val + l.val) by omega)

/-- A load of the rows 512 n … of the queries' gate sums, from what was stored whole. -/
theorem gate_read (a : View sig .tc .vmem S2048x128 .f32) (w : FVec Ideal S2048x128 .f32) (n : Fin 4) (r : Fin 512) (l : Fin 128) :
    a.readCov (Val := Elt Ideal) [⟨Rect.unit (s := S2048x128) ![0, 0] S2048x128.size inb_S2048x128_S2048x128_0_0, w⟩] (gateBox n).toLoadRect (ix2 r l)
      = w (ix2 (key n r) l) := by
  rw [View.readCov_eq_canon', View.canon_unit_zero (by funext b; fin_cases b <;> rfl)]
  refine congrArg w ?_
  funext b
  match b with
  | 0 => exact Fin.ext (show 512 * n.val + 1 * r.val = 512 * n.val + r.val by omega)
  | 1 => exact Fin.ext (show 0 + 1 * l.val = l.val by omega)

/-- The loads of one step are the rows of the head's queries, keys, values and gate sums. -/
theorem blocks (i : grid0.Coords) (arg2 : Memref sig .tc .vmem S1x1x2048x128 .bf16) (harg2 : arg2.IsWhole)
    (arg3 : Memref sig .tc .vmem S1x1x2048x128 .bf16) (harg3 : arg3.IsWhole) (arg4 : Memref sig .tc .vmem S1x1x2048x128 .bf16) (harg4 : arg4.IsWhole)
    (arg5 : Memref sig .tc .vmem S1x2048x128 .f32) (harg5 : arg5.IsWhole) (arg6 : Memref sig .tc .vmem S1x1x1x2048 .f32) (harg6 : arg6.IsWhole)
    (arg8 : Memref sig .tc .vmem S2048x128 .f32)
    (x0 x1 x2 : Vec Ideal S1x1x2048x128 .bf16) (x3 : Vec Ideal S1x2048x128 .f32) (x4 : Vec Ideal S1x1x1x2048 .f32)
    (Q K V : Fin 2048 → Fin 128 → EReal) (G : Fin 2048 → EReal)
    (h0 : ∀ t d, x0 (ix4 0 0 t d) = Q t d) (h1 : ∀ t d, x1 (ix4 0 0 t d) = K t d) (h2 : ∀ t d, x2 (ix4 0 0 t d) = V t d)
    (h3 : ∀ t, x3 (ix3 0 t ⟨(i 1).val, by have := (i 1).isLt; simp at this; omega⟩) = G t) (h4 : ∀ t, x4 (ix4 0 0 0 t) = G t) :
    Blocks Q K V G (fun n => View.readAt (Elt Ideal) arg2.view (rowsBox n).toLoadRect (harg2.unread x0))
      (fun n => View.readAt (Elt Ideal) arg3.view (rowsBox n).toLoadRect (harg3.unread x1))
      (fun n => View.readAt (Elt Ideal) arg4.view (rowsBox n).toLoadRect (harg4.unread x2))
      (fun n => arg8.view.readCov
        [⟨Rect.unit (s := S2048x128) ![0, 0] S2048x128.size inb_S2048x128_S2048x128_0_0, k0_pay2 i (View.readAt (Elt Ideal) arg5.view
          (Rect.unit (s := S1x2048x128) ![0, 0, 0] S1x2048x128.size inb_S1x2048x128_S1x2048x128_0_0_0).toLoadRect (harg5.unread x3))⟩]
        (gateBox n).toLoadRect)
      (fun j n => View.readAt (Elt Ideal) arg6.view (lanesBox j n).toLoadRect (harg6.unread x4)) where
  hq n r d := (rows_read arg2 harg2 x0 n r d).trans (h0 _ _)
  hk n r d := (rows_read arg3 harg3 x1 n r d).trans (h1 _ _)
  hv n r d := (rows_read arg4 harg4 x2 n r d).trans (h2 _ _)
  hfq n r l := by
    refine (gate_read arg8.view _ n r l).trans ((gate_apply i _ (key n r) l).trans ?_)
    refine (harg5.readAt_unread x3 _ _).trans (Eq.trans (congrArg x3 ?_) (h3 (key n r)))
    funext b
    match b with
    | 0 => rfl
    | 1 => exact Fin.ext (show 0 + 1 * (key n r).val = (key n r).val by omega)
    | 2 => exact Fin.ext (show 0 + 1 * (i 1).val = (i 1).val by omega)
  hfk j n l := (lanes_read arg6 harg6 x4 j n l).trans (h4 _)

/-- The stored block at query t and feature d. -/
theorem block_apply (c : Dev nD) (i : grid0.Coords) (arg2 : Memref sig .tc .vmem S1x1x2048x128 .bf16) (harg2 : arg2.IsWhole)
    (arg3 : Memref sig .tc .vmem S1x1x2048x128 .bf16) (harg3 : arg3.IsWhole) (arg4 : Memref sig .tc .vmem S1x1x2048x128 .bf16) (harg4 : arg4.IsWhole)
    (arg5 : Memref sig .tc .vmem S1x2048x128 .f32) (harg5 : arg5.IsWhole) (arg6 : Memref sig .tc .vmem S1x1x1x2048 .f32) (harg6 : arg6.IsWhole)
    (arg7 : Memref sig .tc .vmem S1x2048x128 .bf16) (harg7 : arg7.IsWhole) (arg8 : Memref sig .tc .vmem S2048x128 .f32) (harg8 : arg8.IsWhole)
    (x0 x1 x2 : Vec Ideal S1x1x2048x128 .bf16) (x3 : Vec Ideal S1x2048x128 .f32) (x4 : Vec Ideal S1x1x1x2048 .f32)
    (Q K V : Fin 2048 → Fin 128 → EReal) (G : Fin 2048 → EReal)
    (h0 : ∀ t d, x0 (ix4 0 0 t d) = Q t d) (h1 : ∀ t d, x1 (ix4 0 0 t d) = K t d) (h2 : ∀ t d, x2 (ix4 0 0 t d) = V t d)
    (h3 : ∀ t, x3 (ix3 0 t ⟨(i 1).val, by have := (i 1).isLt; simp at this; omega⟩) = G t) (h4 : ∀ t, x4 (ix4 0 0 0 t) = G t)
    (hσ : ∀ t u, ∃ x : ℝ, sigma Q K G t u = (x : EReal)) (M : ℝ) (y : S1x2048x128.Idx) :
    out0_A_5 c i arg2 harg2 arg3 harg3 arg4 harg4 arg5 harg5 arg6 harg6 arg7 harg7 arg8 harg8 x0 x1 x2 x3 x4 y = out Q K V G (y 1) M (y 2) := by
  have B := blocks i arg2 harg2 arg3 harg3 arg4 harg4 arg5 harg5 arg6 harg6 arg8 x0 x1 x2 x3 x4 Q K V G h0 h1 h2 h3 h4
  have hp := pieces_eq (F := Ideal) c i arg2 harg2 arg3 harg3 arg4 harg4 arg5 harg5 arg6 harg6 arg7 harg7 arg8 harg8 x0 x1 x2 x3 x4 _ _ _ _ _ rfl rfl rfl rfl rfl
  have hc := cover0_A_5 (F := Ideal) c i arg2 harg2 arg3 harg3 arg4 harg4 arg5 harg5 arg6 harg6 arg7 harg7 arg8 harg8 x0 x1 x2 x3 x4
  unfold out0_A_5
  rw [View.read_writes_eq_canon _ _ _ hc]
  rw [hp] at hc ⊢
  refine View.canon_apply_of_pieces (fun y : S1x2048x128.Idx => out Q K V G (y 1) M (y 2)) _ ?_ y (hc y)
  have at_ : ∀ (n : Fin 4) (x : S1x512x128.Idx) (z : S1x2048x128.Idx), (z 1).val = 512 * n.val + (x 1).val → (z 2).val = (x 2).val →
      out Q K V G (key n (x 1)) M (x 2) = out Q K V G (z 1) M (z 2) := fun n x z e1 e2 => by
    rw [show z 1 = key n (x 1) from Fin.ext e1, show z 2 = x 2 from Fin.ext e2]
  have ex : ∀ x : S1x512x128.Idx, x = ix3 0 (x 1) (x 2) := fun x => by
    funext b
    match b with
    | 0 => exact Fin.ext (by have : (x 0).val < 1 := (x 0).isLt; show (x 0).val = 0; omega)
    | 1 => rfl
    | 2 => rfl
  intro p hpm x
  rcases List.mem_cons.mp hpm with rfl | hpm
  · refine (congrArg _ (ex x)).trans ((out₃ B hσ (x 1) M (x 2)).trans (at_ 3 x _ ?_ ?_))
    · show 1536 + 1 * (x 1).val = 512 * 3 + (x 1).val; omega
    · show 0 + 1 * (x 2).val = (x 2).val; omega
  rcases List.mem_cons.mp hpm with rfl | hpm
  · refine (congrArg _ (ex x)).trans ((out₂ B hσ (x 1) M (x 2)).trans (at_ 2 x _ ?_ ?_))
    · show 1024 + 1 * (x 1).val = 512 * 2 + (x 1).val; omega
    · show 0 + 1 * (x 2).val = (x 2).val; omega
  rcases List.mem_cons.mp hpm with rfl | hpm
  · refine (congrArg _ (ex x)).trans ((out₁ B hσ (x 1) M (x 2)).trans (at_ 1 x _ ?_ ?_))
    · show 512 + 1 * (x 1).val = 512 * 1 + (x 1).val; omega
    · show 0 + 1 * (x 2).val = (x 2).val; omega
  rcases List.mem_cons.mp hpm with rfl | hpm
  · refine (congrArg _ (ex x)).trans ((out₀ B hσ (x 1) M (x 2)).trans (at_ 0 x _ ?_ ?_))
    · show 0 + 1 * (x 1).val = 512 * 0 + (x 1).val; omega
    · show 0 + 1 * (x 2).val = (x 2).val; omega
  nomatch hpm

end Cert.Attn

end
-- ==== Proof.AttnIdx.lean ====
/- The attention's grid: the blocks of each step. -/
module

public import proofs.«01_k».proof.Proof.Gen.KernelIdeal.Value
public import Idealize.ShloMosaic.Lib.StableHlo.RunRead
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen

theorem idx : ∀ t : Fin cfg0.N, win0_0.index t = ![(grid0.coords t 1).val, (grid0.coords t 0).val, 0, 0]
    ∧ win0_1.index t = ![24 + (grid0.coords t 1).val, (grid0.coords t 0).val, 0, 0]
    ∧ win0_2.index t = ![48 + (grid0.coords t 1).val, (grid0.coords t 0).val, 0, 0]
    ∧ win0_3.index t = ![(grid0.coords t 0).val, 0, 0] ∧ win0_4.index t = ![(grid0.coords t 0).val, (grid0.coords t 1).val, 0, 0]
    ∧ win0_5.index t = ![(grid0.coords t 0).val, 0, (grid0.coords t 1).val] ∧ (grid0.coords t 0).val < 4 ∧ (grid0.coords t 1).val < 24 :=
  (by decide +kernel : ∀ t : Fin grid0.N, _)

/-- The sequence and the head of point `t`. -/
def seq (t : Fin cfg0.N) : Fin 4 := ⟨(grid0.coords t 0).val, (idx t).2.2.2.2.2.2.1⟩
def head (t : Fin cfg0.N) : Fin 24 := ⟨(grid0.coords t 1).val, (idx t).2.2.2.2.2.2.2⟩

/-- The place in the result of an index of point `t`'s block. -/
theorem place (t : Fin cfg0.N) (y : S1x2048x128.Idx) :
    ((cfg0.win 5).blk t).view.emb y = ix3 (seq t) (y 1) ⟨128 * (head t).val + (y 2).val, by have := (head t).isLt; have h : (y 2).val < 128 := (y 2).isLt; omega⟩ := by
  have h : (y 0).val < 1 := (y 0).isLt
  blk_ext [idx t, seq, head]

end Cert.Attn

end
-- ==== Proof.AttnHost.lean ====
/- The arrays that the host prepares for the attention kernel, read at an index: the heads' scaled queries, keys and values, and the forget gates' sums
   by position and by head. -/
module

public import proofs.«01_k».proof.Proof.Gen.KernelIdeal.Frame
public import Idealize.ShloMosaic.Lib.StableHlo.RunRead
public import Idealize.ShloMosaic.Lib.Claim
public import Idealize.ShloMosaic.Lib.Pointwise.Tactic
public import Idealize.ShloMosaic.Lib.Pointwise.Reshape
public import Idealize.ShloMosaic.Lib.Pointwise.SelectCore

@[expose] public section

set_option maxRecDepth 16384

noncomputable section

namespace Cert.Attn

open Cert.KernelIdeal Cert.KernelIdeal.Gen Idealize.ShloMosaic Idealize.ShloMosaic.TcCoe Idealize.ShloMosaic.StableHlo

variable {F : FTy → Type} [FloatOps F]

/-- The queries, scaled. -/
def scaled (q : FVec F S4x2048x24x128 .f32) : FVec F S4x2048x24x128 .f32 :=
  mulf q (broadcastInDim S4x2048x24x128 ![] bcast_S_S4x2048x24x128 (constant S_ .f32 0x3DB504F3#32))

/-- The heads' queries, keys and values in one array. -/
def heads (q k v : FVec F S4x2048x24x128 .f32) : FVec F S72x4x2048x128 .bf16 :=
  truncf .bf16 (shapeCast S72x4x2048x128 (transpose S3x24x4x2048x128 [0, 3, 1, 2, 4]
    (concatenate S3x4x2048x24x128 0
      [⟨S1x4x2048x24x128, broadcastInDim S1x4x2048x24x128 ![1, 2, 3, 4] bcast_S4x2048x24x128_S1x4x2048x24x128_1_2_3_4 (scaled q)⟩,
       ⟨S1x4x2048x24x128, broadcastInDim S1x4x2048x24x128 ![1, 2, 3, 4] bcast_S4x2048x24x128_S1x4x2048x24x128_1_2_3_4 k⟩,
       ⟨S1x4x2048x24x128, broadcastInDim S1x4x2048x24x128 ![1, 2, 3, 4] bcast_S4x2048x24x128_S1x4x2048x24x128_1_2_3_4 v⟩]
      concatenates_S1x4x2048x24x128_S1x4x2048x24x128_S1x4x2048x24x128_S3x4x2048x24x128_d0)
    transposes_S3x4x2048x24x128_S3x24x4x2048x128_0_3_1_2_4) shapeCasts_S3x24x4x2048x128_S72x4x2048x128) bitsLt_bf16_f32

/-- The gate sums, the heads padded to 128 lanes. -/
def gates (g : FVec F S4x2048x24 .f32) : FVec F S4x2048x128 .f32 :=
  pad S4x2048x128 ![0, 0, 0] ![0, 0, 104] ![0, 0, 0] g (sitofp .f32 (constantI S_ 32 0#32)) pads_S4x2048x24_S4x2048x128_000_000_01040 h_S_

/-- … and by head. -/
def gatesT (g : FVec F S4x2048x24 .f32) : FVec F S4x128x1x2048 .f32 :=
  shapeCast S4x128x1x2048 (transpose S4x128x2048 [0, 2, 1] (gates g) transposes_S4x2048x128_S4x128x2048_0_2_1) shapeCasts_S4x128x2048_S4x128x1x2048

section

variable (m : (ℓ : Loc nD τ sig) → Buf (Elt F) ℓ)

theorem V_heads (c : Dev nD) : V m c main_v8
    = heads (m ((c : Thread nD τ).loc main_arg0)) (m ((c : Thread nD τ).loc main_arg1)) (m ((c : Thread nD τ).loc main_arg2)) := by
  unfold_abbrev_sides
  after_reads_simp
  rfl

theorem V_gates (c : Dev nD) : V m c main_v9 = gates (m ((c : Thread nD τ).loc main_arg3)) := by
  unfold_abbrev_sides
  after_reads_simp
  rfl

theorem V_gatesT (c : Dev nD) : V m c main_v11 = gatesT (m ((c : Thread nD τ).loc main_arg3)) := by
  unfold_abbrev_sides
  after_reads_simp
  rfl

end

/-- The scale the queries are multiplied by. -/
def scale : EReal := Ideal.ofBits .f32 0x3DB504F3#32

theorem scale_real : ∃ x : ℝ, scale = (x : EReal) := by
  unfold scale
  simp only [Ideal.ofBits, Ideal.ieee]
  rw [if_neg (by decide), if_neg (by decide)]
  exact ⟨_, rfl⟩

variable (q k v : FVec Ideal S4x2048x24x128 .f32) (g : FVec Ideal S4x2048x24 .f32) (b : Fin 4) (t : Fin 2048) (h : Fin 24) (d : Fin 128)

theorem heads_q : heads q k v (ix4 ⟨h.val, by omega⟩ b t d) = (q (ix4 b t h d) * scale : EReal) := by
  pointwise [heads, scaled]
  rw [dif_pos (by omega)]
  have e : (⟨h.val % 24, by omega⟩ : Fin 24) = h := Fin.ext (Nat.mod_eq_of_lt h.isLt)
  rw [e]; rfl

theorem heads_k : heads q k v (ix4 ⟨24 + h.val, by omega⟩ b t d) = k (ix4 b t h d) := by
  pointwise [heads, scaled]
  rw [dif_neg (by omega), dif_pos (by omega)]

theorem heads_v : heads q k v (ix4 ⟨48 + h.val, by omega⟩ b t d) = v (ix4 b t h d) := by
  pointwise [heads, scaled]
  rw [dif_neg (by omega), dif_neg (by omega)]

theorem gates_apply : gates g (ix3 b t ⟨h.val, by omega⟩) = g (ix3 b t h) := by
  pointwise [gates]

theorem gatesT_apply : gatesT g (ix4 b ⟨h.val, by omega⟩ 0 t) = g (ix3 b t h) := by
  pointwise [gatesT, gates]

end Cert.Attn

end
-- ==== Proof.AttnRef.lean ====
/- The reference attention read at an index: its scores, each row's largest, and the result as softmax's sum of the values. -/
module

public import proofs.«01_k».proof.Proof.Gen.ReferenceIdeal.Read
public import proofs.«01_k».proof.Proof.AttnState
public import proofs.«01_k».proof.Proof.AttnHost
public import Idealize.ShloMosaic.Lib.IdealHost
public import Idealize.ShloMosaic.Lib.Pointwise.SelectCore

@[expose] public section

set_option maxRecDepth 16384

noncomputable section

namespace Cert.Attn

open Cert.ReferenceIdeal Cert.ReferenceIdeal.Read Idealize.ShloMosaic Idealize.ShloMosaic.TcCoe

variable (q k v : FVec Ideal S4x2048x24x128 .f32) (g : FVec Ideal S4x2048x24 .f32) (b : Fin 4) (h : Fin 24)

/-- The reference's masked scores. -/
theorem ref_score (t u : Fin 2048) :
    val_main_v17 (F := Ideal) q k g (ix4 b h t u)
      = if u.val ≤ t.val then ((∑ d : Fin 128, q (ix4 b t h d) * k (ix4 b u h d)) * scale + g (ix3 b t h) - g (ix3 b u h) : EReal) else ⊥ := by
  pointwise [val_main_v17, val_main_call0_v2, val_main_call0_v1, val_main_call0_v0, val_main_cst_0, val_main_v16, val_main_v15, val_main_v14,
    val_main_v13, val_main_v12, val_main_v11, val_main_v10, val_main_v9, val_main_v8, val_main_v7, val_main_v6, val_main_v5, val_main_v4, val_main_v3,
    val_main_v2, val_main_cst, val_main_v1, val_main_v0]
  rw [WordCmp.cmpi_sle_ofNat (by omega) (by omega)]
  have hb : id (constant (F := Ideal) S_ .f32 0xFF800000#32) ix0 = (⊥ : EReal) := ofBits_bot
  rw [hb]
  by_cases hc : u.val ≤ t.val
  · rw [if_pos hc, decide_eq_true hc]; rfl
  · rw [if_neg hc, decide_eq_false hc]; rfl

/-- The largest over the last axis, from an opaque start. -/
theorem reduce_top (s : FVec Ideal S4x24x2048x2048 .f32) (z : FVec Ideal S_ .f32) (t : Fin 2048) :
    Host.reduce FloatOps.maximumf s z Gen.reducesTo_S4x24x2048x2048_S4x24x2048_d3 Gen.h_S_ (ix3 b h t)
      = (Finset.univ : Finset (Fin 2048)).fold max (z (Shape.Idx.first Gen.h_S_) : EReal) fun u => s (ix4 b h t u) := by
  pointwise

/-- The larger of −∞ and a value is the value. -/
theorem max_bot (s : FVec Ideal S4x24x2048 .f32) (t : Fin 2048) :
    maximumf (val_main_v19 (F := Ideal)) s (ix3 b h t) = (s (ix3 b h t) : EReal) := by
  have e : maximumf (val_main_v19 (F := Ideal)) s (ix3 b h t) = max (⊥ : EReal) (s (ix3 b h t)) := by
    pointwise [val_main_v19, val_main_cst_2]
    rw [ofBits_bot]
  exact e.trans (max_eq_right bot_le)

/-- A row's largest score. -/
theorem ref_top (t : Fin 2048) :
    val_main_v20 (F := Ideal) q k g (ix3 b h t)
      = (Finset.univ : Finset (Fin 2048)).fold max (⊥ : EReal) fun u => val_main_v17 (F := Ideal) q k g (ix4 b h t u) := by
  unfold val_main_v20 val_main_v18
  generalize val_main_v17 (F := Ideal) q k g = s
  have e : val_main_cst_1 (F := Ideal) (Shape.Idx.first Gen.h_S_) = (⊥ : EReal) := ofBits_bot
  rw [max_bot, reduce_top, e]

/-- A row's weights, before they are divided by their sum. -/
theorem ref_exp (t u : Fin 2048) :
    val_main_v24 (F := Ideal) q k g (ix4 b h t u)
      = Ideal.exp (val_main_v17 (F := Ideal) q k g (ix4 b h t u) - val_main_v20 (F := Ideal) q k g (ix3 b h t)) := by
  unfold val_main_v24 val_main_v23 val_main_v22 val_main_v21
  generalize val_main_v17 (F := Ideal) q k g = s
  generalize val_main_v20 (F := Ideal) q k g = m
  pointwise

/-- … and after. -/
theorem ref_weight (t u : Fin 2048) :
    val_main_v28 (F := Ideal) q k g (ix4 b h t u)
      = Ideal.div (val_main_v24 (F := Ideal) q k g (ix4 b h t u)) (∑ w : Fin 2048, (val_main_v24 (F := Ideal) q k g (ix4 b h t w) : EReal)) := by
  unfold val_main_v28 val_main_v27 val_main_v26 val_main_v25
  generalize val_main_v24 (F := Ideal) q k g = e
  pointwise [val_main_cst_3]

/-- The weighted values. -/
theorem ref_mix (t : Fin 2048) (d : Fin 128) :
    val_main_v29 (F := Ideal) q k v g (ix4 b h d t)
      = ∑ u : Fin 2048, (v (ix4 b u h d) * val_main_v28 (F := Ideal) q k g (ix4 b h t u) : EReal) := by
  unfold val_main_v29
  generalize val_main_v28 (F := Ideal) q k g = e
  pointwise

/-- The result is the weighted values, the heads side by side. -/
theorem ref_heads (t : Fin 2048) (d : Fin 128) :
    val_main_v32 (F := Ideal) q k v g (ix3 b t ⟨128 * h.val + d.val, by omega⟩) = val_main_v29 (F := Ideal) q k v g (ix4 b h d t) := by
  unfold val_main_v32 val_main_v31 val_main_v30
  generalize val_main_v29 (F := Ideal) q k v g = e
  pointwise

end Cert.Attn

end
-- ==== Proof.AttnFinite.lean ====
/- What the precondition says: every query, every key and every gate sum is a real number. -/
module

public import proofs.«01_k».proof.Proof.AttnRow
public import proofs.«01_k».proof.Proof.Gen.Pre_finite
public import Idealize.ShloMosaic.Lib.IdealHost
public import Idealize.ShloMosaic.Lib.Pointwise.Tactic

@[expose] public section

set_option maxRecDepth 16384

noncomputable section

namespace Cert.Attn

open Cert.Pre_finite Idealize.ShloMosaic Idealize.ShloMosaic.TcCoe

theorem ofBits_top : Ideal.ofBits .f32 0x7F800000#32 = ⊤ := by simp [Ideal.ofBits, Ideal.ieee]

/-- A magnitude below +∞ is a real number's. -/
theorem real_of_lt {x : EReal} (h : Ideal.cmp .olt (max x (-x)) (Ideal.ofBits .f32 0x7F800000#32) = 1#1) : ∃ r : ℝ, x = (r : EReal) := by
  rw [ofBits_top] at h
  induction x with
  | bot => simp [Ideal.cmp] at h
  | top => simp [Ideal.cmp] at h
  | coe r => exact ⟨r, rfl⟩

theorem and_one {a b : BitVec 1} (h : IntOp.andi a b = 1#1) : a = 1#1 ∧ b = 1#1 := by
  revert h; revert a b; decide

theorem fn_apply [Facts] (q k v : FVec Ideal S4x2048x24x128 .f32) (g : FVec Ideal S4x2048x24 .f32) (b : Fin 4) (t : Fin 2048) (h : Fin 24) (d : Fin 128) :
    Cert.Pre_finite.fn q k v g (ix4 b t h d)
      = IntOp.andi (IntOp.andi (Ideal.cmp .olt (max (q (ix4 b t h d) : EReal) (-(q (ix4 b t h d) : EReal))) (Ideal.ofBits .f32 0x7F800000#32))
          (Ideal.cmp .olt (max (k (ix4 b t h d) : EReal) (-(k (ix4 b t h d) : EReal))) (Ideal.ofBits .f32 0x7F800000#32)))
          (Ideal.cmp .olt (max (g (ix3 b t h) : EReal) (-(g (ix3 b t h) : EReal))) (Ideal.ofBits .f32 0x7F800000#32)) := by
  pointwise [Cert.Pre_finite.fn]
  rfl

theorem finite_real [Facts] {q k v : FVec Ideal S4x2048x24x128 .f32} {g : FVec Ideal S4x2048x24 .f32}
    (hp : Cert.Pre_finite.fn q k v g = fun _ => 1#1) (b : Fin 4) (t : Fin 2048) (h : Fin 24) :
    (∀ d : Fin 128, ∃ x : ℝ, q (ix4 b t h d) = (x : EReal)) ∧ (∀ d : Fin 128, ∃ x : ℝ, k (ix4 b t h d) = (x : EReal))
      ∧ ∃ x : ℝ, g (ix3 b t h) = (x : EReal) := by
  have e : ∀ d : Fin 128, _ := fun d => and_one ((fn_apply q k v g b t h d).symm.trans (congrFun hp _))
  exact ⟨fun d => real_of_lt (and_one (e d).1).1, fun d => real_of_lt (and_one (e d).1).2, real_of_lt (e 0).2⟩

end Cert.Attn

end
-- ==== Proof.AttnScore.lean ====
/- The reference attention is softmax's sum of the values over the kernel's scores, when the queries, keys and gate sums are real numbers: then
   scaling the queries scales the scores, and the gates' differences may be taken first. -/
module

public import proofs.«01_k».proof.Proof.AttnRef
public import proofs.«01_k».proof.Proof.AttnFinite

@[expose] public section

set_option maxRecDepth 16384

noncomputable section

namespace Cert.Attn

open Cert.ReferenceIdeal Cert.ReferenceIdeal.Read Idealize.ShloMosaic Idealize.ShloMosaic.TcCoe

variable (q k v : FVec Ideal S4x2048x24x128 .f32) (g : FVec Ideal S4x2048x24 .f32) (b : Fin 4) (h : Fin 24)

/-- One head's scaled queries, keys, values and gate sums. -/
def headQ (t : Fin 2048) (d : Fin 128) : EReal := q (ix4 b t h d) * scale
def headK (t : Fin 2048) (d : Fin 128) : EReal := k (ix4 b t h d)
def headV (t : Fin 2048) (d : Fin 128) : EReal := v (ix4 b t h d)
def headG (t : Fin 2048) : EReal := g (ix3 b t h)

/-- Both orders of scaling and of adding the gates are the same real number. -/
theorem scores_real (x y : Fin 128 → ℝ) (s a e : ℝ) :
    (∑ d : Fin 128, ((x d : EReal) * (s : EReal)) * (y d : EReal)) + ((a : EReal) - (e : EReal))
      = ((((∑ d : Fin 128, x d * y d) * s + a - e : ℝ)) : EReal)
    ∧ (∑ d : Fin 128, (x d : EReal) * (y d : EReal)) * (s : EReal) + (a : EReal) - (e : EReal)
      = ((((∑ d : Fin 128, x d * y d) * s + a - e : ℝ)) : EReal) := by
  constructor
  · have e1 : (∑ d : Fin 128, ((x d : EReal) * (s : EReal)) * (y d : EReal)) = ((∑ d : Fin 128, x d * s * y d : ℝ) : EReal) := by
      rw [coe_sum]; exact Finset.sum_congr rfl fun d _ => by rw [EReal.coe_mul, EReal.coe_mul]
    rw [e1, ← EReal.coe_sub, ← EReal.coe_add, Finset.sum_mul]
    refine congrArg _ ?_
    rw [add_sub_assoc]
    exact congrArg (· + (a - e)) (Finset.sum_congr rfl fun d _ => mul_right_comm _ _ _)
  · have e1 : (∑ d : Fin 128, (x d : EReal) * (y d : EReal)) = ((∑ d : Fin 128, x d * y d : ℝ) : EReal) := by
      rw [coe_sum]; exact Finset.sum_congr rfl fun d _ => by rw [EReal.coe_mul]
    rw [e1, ← EReal.coe_mul, ← EReal.coe_add, ← EReal.coe_sub]

section Real

variable {q k g} (hr : ∀ t : Fin 2048, (∀ d : Fin 128, ∃ x : ℝ, q (ix4 b t h d) = (x : EReal)) ∧ (∀ d : Fin 128, ∃ x : ℝ, k (ix4 b t h d) = (x : EReal))
  ∧ ∃ x : ℝ, g (ix3 b t h) = (x : EReal))

include hr

theorem sigma_ref (t u : Fin 2048) : ∃ x : ℝ, sigma (headQ q b h) (headK k b h) (headG g b h) t u = (x : EReal)
    ∧ (((∑ d : Fin 128, q (ix4 b t h d) * k (ix4 b u h d)) * scale + g (ix3 b t h) - g (ix3 b u h) : EReal)) = (x : EReal) := by
  choose x hx using (hr t).1
  choose y hy using (hr u).2.1
  obtain ⟨a, ha⟩ := (hr t).2.2
  obtain ⟨e, he⟩ := (hr u).2.2
  obtain ⟨s, hs⟩ := scale_real
  unfold sigma headQ headK headG
  simp only [hx, hy, ha, he, hs]
  exact ⟨_, scores_real x y s a e⟩

theorem score_ref (t u : Fin 2048) :
    val_main_v17 (F := Ideal) q k g (ix4 b h t u) = score (headQ q b h) (headK k b h) (headG g b h) t u := by
  rw [ref_score]
  unfold score
  obtain ⟨x, h1, h2⟩ := sigma_ref b h hr t u
  rw [h1, h2]

/-- The reference's result at query t and feature d of a head: softmax's sum against one real number of the query's. -/
theorem ref_out (t : Fin 2048) : ∃ M : ℝ, ∀ d : Fin 128,
    val_main_v32 (F := Ideal) q k v g (ix3 b t ⟨128 * h.val + d.val, by omega⟩)
      = out (headQ q b h) (headK k b h) (headV v b h) (headG g b h) t M d := by
  have hσ : ∀ t u, ∃ x : ℝ, sigma (headQ q b h) (headK k b h) (headG g b h) t u = (x : EReal) :=
    fun t u => (sigma_ref b h hr t u).imp fun _ e => e.1
  obtain ⟨M, hM⟩ := fold_real (fun u => score (headQ q b h) (headK k b h) (headG g b h) t u) (fun u => score_ne_top hσ t u)
    ⟨t, score_ne_bot hσ (le_refl t.val)⟩
  refine ⟨M, fun d => ?_⟩
  have hm : val_main_v20 (F := Ideal) q k g (ix3 b h t) = (M : EReal) := by
    rw [ref_top]; simp only [score_ref b h hr]; exact hM
  have he : ∀ u, val_main_v24 (F := Ideal) q k g (ix4 b h t u)
      = Ideal.exp (score (headQ q b h) (headK k b h) (headG g b h) t u - (M : EReal)) := fun u => by
    rw [ref_exp, score_ref b h hr, hm]
  rw [ref_heads, ref_mix]
  unfold out
  refine Finset.sum_congr rfl fun u _ => ?_
  rw [ref_weight]
  simp only [he]
  exact mul_comm _ _

end Real

end Cert.Attn

end
-- ==== Proof.AttnReadQ.lean ====
/- The block of queries that a step reads: one head's rows of one sequence. -/
module

public import proofs.«01_k».proof.Proof.AttnIdx
public import proofs.«01_k».proof.Proof.AttnHost
public import proofs.«01_k».proof.Proof.AttnScore
public import Idealize.ShloMosaic.Lib.StableHlo.RunRead
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen

variable (m : (ℓ : Loc nD τ sig) → Buf (Elt Ideal) ℓ)

theorem read_q (c : Dev nD) (t : Fin cfg0.N) (r : Fin 2048) (d : Fin 128) : (iblk m c 0 t : Vec Ideal S1x1x2048x128 .bf16) (ix4 0 0 r d)
    = headQ (m ((c : Thread nD τ).loc main_arg0)) (seq t) (head t) r d := by
  blk_simp [iblk]
  refine (congrFun (V_heads m c) _).trans ((congrArg (heads _ _ _) ?_).trans (heads_q _ _ _ (seq t) r (head t) d))
  blk_ext [idx t, seq, head]

end Cert.Attn

end
-- ==== Proof.AttnReadK.lean ====
/- The block of keys that a step reads: one head's rows of one sequence. -/
module

public import proofs.«01_k».proof.Proof.AttnIdx
public import proofs.«01_k».proof.Proof.AttnHost
public import proofs.«01_k».proof.Proof.AttnScore
public import Idealize.ShloMosaic.Lib.StableHlo.RunRead
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen

variable (m : (ℓ : Loc nD τ sig) → Buf (Elt Ideal) ℓ)

theorem read_k (c : Dev nD) (t : Fin cfg0.N) (r : Fin 2048) (d : Fin 128) : (iblk m c 1 t : Vec Ideal S1x1x2048x128 .bf16) (ix4 0 0 r d)
    = headK (m ((c : Thread nD τ).loc main_arg1)) (seq t) (head t) r d := by
  blk_simp [iblk]
  refine (congrFun (V_heads m c) _).trans ((congrArg (heads _ _ _) ?_).trans (heads_k _ _ _ (seq t) r (head t) d))
  blk_ext [idx t, seq, head]

end Cert.Attn

end
-- ==== Proof.AttnReadV.lean ====
/- The block of values that a step reads: one head's rows of one sequence. -/
module

public import proofs.«01_k».proof.Proof.AttnIdx
public import proofs.«01_k».proof.Proof.AttnHost
public import proofs.«01_k».proof.Proof.AttnScore
public import Idealize.ShloMosaic.Lib.StableHlo.RunRead
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen

variable (m : (ℓ : Loc nD τ sig) → Buf (Elt Ideal) ℓ)

theorem read_v (c : Dev nD) (t : Fin cfg0.N) (r : Fin 2048) (d : Fin 128) : (iblk m c 2 t : Vec Ideal S1x1x2048x128 .bf16) (ix4 0 0 r d)
    = headV (m ((c : Thread nD τ).loc main_arg2)) (seq t) (head t) r d := by
  blk_simp [iblk]
  refine (congrFun (V_heads m c) _).trans ((congrArg (heads _ _ _) ?_).trans (heads_v _ _ _ (seq t) r (head t) d))
  blk_ext [idx t, seq, head]

end Cert.Attn

end
-- ==== Proof.AttnReadG.lean ====
/- The blocks of gate sums that a step reads: one sequence's, and one head's. -/
module

public import proofs.«01_k».proof.Proof.AttnIdx
public import proofs.«01_k».proof.Proof.AttnHost
public import proofs.«01_k».proof.Proof.AttnScore
public import Idealize.ShloMosaic.Lib.StableHlo.RunRead
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen

variable (m : (ℓ : Loc nD τ sig) → Buf (Elt Ideal) ℓ)

theorem read_g (c : Dev nD) (t : Fin cfg0.N) (r : Fin 2048) (h : (grid0.coords t 1).val < 128) :
    (iblk m c 3 t : Vec Ideal S1x2048x128 .f32) (ix3 0 r ⟨(grid0.coords t 1).val, h⟩)
      = headG (m ((c : Thread nD τ).loc main_arg3)) (seq t) (head t) r := by
  blk_simp [iblk]
  refine (congrFun (V_gates m c) _).trans ((congrArg (gates _) ?_).trans (gates_apply _ (seq t) r (head t)))
  blk_ext [idx t, seq, head]

theorem read_gT (c : Dev nD) (t : Fin cfg0.N) (r : Fin 2048) : (iblk m c 4 t : Vec Ideal S1x1x1x2048 .f32) (ix4 0 0 0 r)
    = headG (m ((c : Thread nD τ).loc main_arg3)) (seq t) (head t) r := by
  blk_simp [iblk]
  refine (congrFun (V_gatesT m c) _).trans ((congrArg (gatesT _) ?_).trans (gatesT_apply _ (seq t) r (head t)))
  blk_ext [idx t, seq, head]

end Cert.Attn

end
-- ==== Proof.Attention.lean ====
/- The layer's attention: each step of the kernel stores one head of one sequence, and that is the reference's softmax attention at the head's place. -/
module

public import proofs.«01_k».proof.Defs
public import proofs.«01_k».proof.Proof.AttnTile
public import proofs.«01_k».proof.Proof.AttnReadQ
public import proofs.«01_k».proof.Proof.AttnReadK
public import proofs.«01_k».proof.Proof.AttnReadV
public import proofs.«01_k».proof.Proof.AttnReadG
public import Idealize.ShloMosaic.Lib.Claim
public import Idealize.ShloMosaic.Lib.StableHlo.RunRead
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen

/-- The reference's result. -/
abbrev result (q k v : FVec Ideal S4x2048x24x128 .f32) (g : FVec Ideal S4x2048x24 .f32) : FVec Ideal S4x2048x3072 .bf16 :=
  Cert.ReferenceIdeal.Read.val_main_v32 (F := Ideal) q k v g

variable {m : (ℓ : Loc nD τ sig) → Buf (Elt Ideal) ℓ}

section

variable [Cert.Pre_finite.Facts] (hpre : Cert.Pre_KernelIdeal_finite m) (c : Dev nD)

include hpre

/-- What the body stores at an index of a block is the reference at the block's place in the whole array. -/
theorem point (t : Fin cfg0.N) (y : S1x2048x128.Idx) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t)
        scM0_0 (Memref.isWhole_whole _) (iblk m c 0 t) (iblk m c 1 t) (iblk m c 2 t) (iblk m c 3 t) (iblk m c 4 t) y
      = result (m ((c : Thread nD τ).loc main_arg0)) (m ((c : Thread nD τ).loc main_arg1)) (m ((c : Thread nD τ).loc main_arg2))
          (m ((c : Thread nD τ).loc main_arg3)) (((cfg0.win 5).blk t).view.emb y) := by
  have hr := fun r => finite_real (hpre c) (seq t) r (head t)
  obtain ⟨M, hM⟩ := ref_out (v := m ((c : Thread nD τ).loc main_arg2)) (seq t) (head t) hr (y 1)
  refine (block_apply c (grid0.coords t) _ _ _ _ _ _ _ _ _ _ _ _ _ _ _ _ _ _ _ _ _ _ _ (read_q m c t) (read_k m c t) (read_v m c t)
    (fun r => read_g m c t r _) (read_gT m c t) (fun r u => (sigma_ref (seq t) (head t) hr r u).imp fun _ e => e.1) M y).trans ?_
  rw [place]
  exact (hM (y 2)).symm

/-- The result array after the run. -/
theorem final : (dats m 0 c).arrAt 5 (cfgs 0).N
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  unfold outsAt0
  exact point hpre c t y

end

end Cert.Attn

/-- The kernel and the reference agree. -/
theorem Cert.Proof.algebraic_Kernel : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
    · exact Cert.KernelIdeal.Gen.V_main_arg0 m c
    · exact Cert.KernelIdeal.Gen.V_main_arg1 m c
    · exact Cert.KernelIdeal.Gen.V_main_arg2 m c
    · exact Cert.KernelIdeal.Gen.V_main_arg3 m c
  · refine (θ_run _ _ _).mono (fun r h c => ?_) (Cert.ReferenceIdeal.Value.run m' g')
    refine ⟨(h c).1.trans ((Cert.ReferenceIdeal.Read.val_main_v32_eq m' c).trans ?_), (h c).2⟩
    obtain ⟨e0, e1, e2, e3⟩ := hagree c
    rw [e0, e1, e2, e3]
    exact (Cert.Attn.final hpre c).symm

end
-- ==== Proof.GateUp.lean ====
/- The feed-forward layer's gate and up projections: each tile of the kernel's result is the same tile of the whole product, so the kernel computes
   silu(h · wg) · (h · wu). -/
module

public import proofs.«01_k».proof.Defs
public import proofs.«01_k».proof.Proof.Gen.GateUpIdeal.Frame
public import proofs.«01_k».proof.Proof.Gen.GateUpRefIdeal.Run
public import proofs.«01_k».proof.Proof.Gen.GateUpRefIdeal.Read
public import Idealize.ShloMosaic.Lib.Claim
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.GateUpIdeal.Product

open Cert.GateUpIdeal Cert.GateUpIdeal.Gen

/-- The reference's result. -/
abbrev result (x0 : FVec Ideal S8192x4096 .f32) (x1 x2 : FVec Ideal S4096x11008 .f32) : FVec Ideal S8192x11008 .bf16 :=
  Cert.GateUpRefIdeal.Read.val_main_v4 (F := Ideal) x0 x1 x2

variable (m : (ℓ : Loc nD τ sig) → Buf (Elt Ideal) ℓ)

theorem idx : ∀ t : Fin cfg0.N, win0_0.index t = ![(grid0.coords t 0).val, 0] ∧ win0_1.index t = ![0, 0, (grid0.coords t 1).val]
    ∧ win0_2.index t = ![0, 0, (grid0.coords t 1).val] ∧ win0_3.index t = ![(grid0.coords t 0).val, (grid0.coords t 1).val] :=
  (by decide +kernel : ∀ t : Fin grid0.N, _)

/-- What the body stores at an index of a tile is the reference at the tile's place in the whole array. -/
theorem point (c : Dev nD) (t : Fin cfg0.N) (y) : k0_pay1 (iblk m c 0 t) (iblk m c 1 t) (iblk m c 2 t) y
    = result (m ((c : Thread nD τ).loc main_arg0)) (m ((c : Thread nD τ).loc main_arg1)) (m ((c : Thread nD τ).loc main_arg2))
        (((cfg0.win 3).blk t).view.emb y) := by
  pointwise [k0_pay1, result, Cert.GateUpRefIdeal.Read.val_main_v4, Cert.GateUpRefIdeal.Read.val_main_v3, Cert.GateUpRefIdeal.Read.val_main_v2,
    Cert.GateUpRefIdeal.Read.val_main_v1, Cert.GateUpRefIdeal.Read.val_main_v0, Cert.GateUpRefIdeal.Read.val_main_call0_v5,
    Cert.GateUpRefIdeal.Read.val_main_call0_v4, Cert.GateUpRefIdeal.Read.val_main_call0_v3, Cert.GateUpRefIdeal.Read.val_main_call0_v2,
    Cert.GateUpRefIdeal.Read.val_main_call0_v1, Cert.GateUpRefIdeal.Read.val_main_call0_v0, Cert.GateUpRefIdeal.Read.val_main_call0_cst,
    Cert.GateUpRefIdeal.Read.val_main_call0_cst_0]
  simp only [Ideal.logistic]
  blk_point [iblk, V, idx t]

/-- The result array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.GateUpIdeal.Product

/-- The kernel and the reference agree. -/
theorem Cert.Proof.algebraic_GateUp : Cert.algebraic_GateUpIdeal_GateUpRefIdeal (hGateUpIdeal := Cert.GateUpIdeal.Gen.facts)
    (hGateUpRefIdeal := Cert.GateUpRefIdeal.Gen.facts) := by
  pair_intro
  · run_from Cert.GateUpIdeal.Gen.run_main m g
  · run_from Cert.GateUpRefIdeal.Value.run m' g'
    exact (Cert.GateUpIdeal.Product.final m c).symm

end
-- ==== Proof.Down.lean ====
/- The feed-forward layer's down projection: each tile of the kernel's result is the same tile of the whole product. -/
module

public import proofs.«01_k».proof.Defs
public import proofs.«01_k».proof.Proof.Gen.DownIdeal.Frame
public import proofs.«01_k».proof.Proof.Gen.DownRefIdeal.Run
public import proofs.«01_k».proof.Proof.Gen.DownRefIdeal.Read
public import Idealize.ShloMosaic.Lib.Claim
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.DownIdeal.Product

open Cert.DownIdeal Cert.DownIdeal.Gen

/-- The reference's result. -/
abbrev result (x0 : FVec Ideal S8192x11008 .f32) (x1 : FVec Ideal S11008x4096 .f32) : FVec Ideal S8192x4096 .f32 :=
  Cert.DownRefIdeal.Read.val_main_v0 (F := Ideal) x0 x1

variable (m : (ℓ : Loc nD τ sig) → Buf (Elt Ideal) ℓ)

theorem idx : ∀ t : Fin cfg0.N, win0_0.index t = ![(grid0.coords t 0).val, 0] ∧ win0_1.index t = ![0, 0, (grid0.coords t 1).val]
    ∧ win0_2.index t = ![(grid0.coords t 0).val, (grid0.coords t 1).val] :=
  (by decide +kernel : ∀ t : Fin grid0.N, _)

/-- What the body stores at an index of a tile is the reference at the tile's place in the whole array. -/
theorem point (c : Dev nD) (t : Fin cfg0.N) (y) : k0_pay1 (iblk m c 0 t) (iblk m c 1 t) y
    = result (m ((c : Thread nD τ).loc main_arg0)) (m ((c : Thread nD τ).loc main_arg1)) (((cfg0.win 2).blk t).view.emb y) := by
  pointwise [k0_pay1, result, Cert.DownRefIdeal.Read.val_main_v0]
  blk_point [iblk, V, idx t]

/-- The result array after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DownIdeal.Product

/-- The kernel and the reference agree. -/
theorem Cert.Proof.algebraic_Down : Cert.algebraic_DownIdeal_DownRefIdeal (hDownIdeal := Cert.DownIdeal.Gen.facts)
    (hDownRefIdeal := Cert.DownRefIdeal.Gen.facts) := by
  pair_intro
  · run_from Cert.DownIdeal.Gen.run_main m g
  · run_from Cert.DownRefIdeal.Value.run m' g'
    exact (Cert.DownIdeal.Product.final m c).symm

end
-- ==== Proof.Qkv.lean ====
/- The layer's queries, keys and values: each tile of the kernel is the same tile of the whole product, the queries' columns scaled, cut into heads. -/
module

public import proofs.«01_k».proof.Defs
public import proofs.«01_k».proof.Proof.Gen.QkvIdeal.Frame
public import proofs.«01_k».proof.Proof.Gen.QkvRefIdeal.Run
public import proofs.«01_k».proof.Proof.Gen.QkvRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.QkvIdeal.Product

open Cert.QkvIdeal Cert.QkvIdeal.Gen

/-- The reference's result. -/
abbrev result (x0 : FVec Ideal S8192x4096 .f32) (x1 : FVec Ideal S4096x10264 .f32) : FVec Ideal S72x8192x128 .bf16 :=
  Cert.QkvRefIdeal.Read.val_main_v9 (F := Ideal) x0 x1

variable (m : (ℓ : Loc nD τ sig) → Buf (Elt Ideal) ℓ)

theorem idx : ∀ t : Fin cfg0.N, win0_0.index t = ![(grid0.coords t 0).val, 0] ∧ win0_1.index t = ![0, (grid0.coords t 1).val, 0]
    ∧ win0_2.index t = ![0, (grid0.coords t 1).val] ∧ win0_3.index t = ![(grid0.coords t 1).val, (grid0.coords t 0).val, 0]
    ∧ (grid0.coords t 1).val < 18 :=
  (by decide +kernel : ∀ t : Fin grid0.N, _)

/-- The weights' columns that point `t` uses, as the rows of a block. -/
def columns (w : FVec Ideal S4096x10264 .f32) (t : Fin cfg0.N) : FVec Ideal S1x512x4096 .f32 :=
  fun y => w (ix2 (y 2) ⟨(grid0.coords t 1).val * 512 + (y 1).val, by have := (idx t).2.2.2.2; have h : (y 1).val < 512 := (y 1).isLt; omega⟩)

theorem columns_eq (c : Dev nD) (t : Fin cfg0.N) : X0_1 m c t = columns (m ((c : Thread nD τ).loc main_arg1)) t := by
  funext y
  unfold X0_1 Pipeline.Window.fill
  rw [dif_pos (moved0_1 t _)]
  blk_simp [iblk]
  entry_read
  pointwise [columns]
  blk_ext [idx t]

/-- The scales of the columns at an index: the factor over the queries' columns, one over the others. -/
theorem scales (c : Dev nD) (j : S1x9216.Idx) :
    (V m c main_v2 : FVec Ideal S1x9216 .f32) j
      = if (j 1 : ℕ) < 3072 then Ideal.ofBits FTy.f32 1035273459#32 else Ideal.ofBits FTy.f32 1065353216#32 := by
  unfold_abbrev_sides
  after_reads_simp
  pointwise
  split_ifs <;> rfl

/-- The scaled product at an index is the reference at its place in the whole array. -/
theorem core (c : Dev nD) (t : Fin cfg0.N) (i : S1024x512.Idx) (j : S72x8192x128.Idx)
    (h0 : (j 0 : ℕ) = (grid0.coords t 1).val * 4 + (i 1 : ℕ) / 128) (h1 : (j 1 : ℕ) = (grid0.coords t 0).val * 1024 + (i 0 : ℕ))
    (h2 : (j 2 : ℕ) = (i 1 : ℕ) % 128) :
    k0_pay1 (F := Ideal) (iblk m c 0 t) (columns (m ((c : Thread nD τ).loc main_arg1)) t) (iblk m c 2 t) i
      = result (m ((c : Thread nD τ).loc main_arg0)) (m ((c : Thread nD τ).loc main_arg1)) j := by
  pointwise [k0_pay1, columns, result, Cert.QkvRefIdeal.Read.val_main_v9, Cert.QkvRefIdeal.Read.val_main_v8, Cert.QkvRefIdeal.Read.val_main_v7,
    Cert.QkvRefIdeal.Read.val_main_v6, Cert.QkvRefIdeal.Read.val_main_v5, Cert.QkvRefIdeal.Read.val_main_v4, Cert.QkvRefIdeal.Read.val_main_v3,
    Cert.QkvRefIdeal.Read.val_main_v2, Cert.QkvRefIdeal.Read.val_main_v1, Cert.QkvRefIdeal.Read.val_main_v0, Cert.QkvRefIdeal.Read.val_main_cst]
  have hx : ∀ x : Fin 4096, (iblk m c 0 t : FVec Ideal S1024x4096 .bf16) (ix2 (i 0) x)
      = (m ((c : Thread nD τ).loc main_arg0) : FVec Ideal S8192x4096 .f32) (ix2 (j 1) x) := by
    intro x
    blk_simp [iblk]
    entry_read
    pointwise
    blk_ext [idx t, h1]
  have hs : (iblk m c 2 t : FVec Ideal S1x512 .f32) (ix2 0 (i 1))
      = if (grid0.coords t 1).val * 512 + (i 1).val < 3072 then Ideal.ofBits FTy.f32 1035273459#32 else Ideal.ofBits FTy.f32 1065353216#32 := by
    blk_simp [iblk]
    refine (scales m c _).trans ?_
    blk_simp [idx t]
  have h3 : (i 1 : ℕ) < 512 := (i 1).isLt
  have hcol : (j 0 : ℕ) * 128 + (j 2 : ℕ) = (grid0.coords t 1).val * 512 + (i 1).val := by omega
  have one : Ideal.ofBits FTy.f32 1065353216#32 = 1 := Ideal.ofBits_one_f32
  have key : ∀ n n' : Fin 10264, n.val = n'.val → ∀ x : Fin 4096,
      (m ((c : Thread nD τ).loc main_arg1) : FVec Ideal S4096x10264 .f32) (ix2 x n)
        = (m ((c : Thread nD τ).loc main_arg1) : FVec Ideal S4096x10264 .f32) (ix2 x n') :=
    fun n n' h x => by rw [Fin.ext h]
  have hl : ∀ {a b : EReal}, a = b → a * 1 = b := fun h => by rw [mul_one, h]
  simp only [hx]
  rw [hs]
  by_cases h4 : (j 0 : ℕ) * 128 + (j 2 : ℕ) < 3072
  · rw [dif_pos h4, if_pos (by omega)]
    exact congrArg (· * Ideal.ofBits FTy.f32 1035273459#32)
      (Finset.sum_congr rfl fun x _ => congrArg _ (key _ _ hcol.symm x))
  · rw [dif_neg h4, if_neg (by omega), one]
    by_cases h5 : (j 0 : ℕ) * 128 + (j 2 : ℕ) - 3072 < 3072
    · rw [dif_pos h5]
      exact hl (Finset.sum_congr rfl fun x _ => congrArg _ (key _ _ (by dsimp only; omega) x))
    · rw [dif_neg h5]
      exact hl (Finset.sum_congr rfl fun x _ => congrArg _ (key _ _ (by dsimp only; omega) x))

/-- What the body stores at an index of a tile is the reference at the tile's place in the whole array. -/
theorem point (c : Dev nD) (t : Fin cfg0.N) (y : S4x1024x128.Idx) :
    out0_A_3 c (grid0.coords t) (ms0_0 t) (hs0_0 t) (ms0_1 t) (hs0_1 t) (ms0_2 t) (hs0_2 t) (ms0_3 t) (hs0_3 t) (iblk m c 0 t) (X0_1 m c t) (iblk m c 2 t) y
      = result (m ((c : Thread nD τ).loc main_arg0)) (m ((c : Thread nD τ).loc main_arg1)) (((cfg0.win 3).blk t).view.emb y) := by
  rw [columns_eq]
  frame_out
  obtain_idx i : S1024x512 := [(y 1 : ℕ), (y 0 : ℕ) * 128 + (y 2 : ℕ)] with hi
  refine Eq.trans (b := k0_pay1 (F := Ideal) (iblk m c 0 t) (columns (m ((c : Thread nD τ).loc main_arg1)) t) (iblk m c 2 t) i) ?_
    (core m c t i _ ?_ ?_ ?_)
  · canon_tiles x h
    all_goals (open_payloads; pointwise; blk_ext)
  all_goals (have h2 : (y 2 : ℕ) < 128 := (y 2).isLt; blk_simp [idx t] <;> try omega)

/-- The result array after the run. -/
theorem final (c : Dev nD) : (dats m 0 c).arrAt 3 (cfgs 0).N
    = result (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  exact point m c t y

end Cert.QkvIdeal.Product

/-- The kernel and the reference agree. -/
theorem Cert.Proof.algebraic_Qkv : Cert.algebraic_QkvIdeal_QkvRefIdeal (hQkvIdeal := Cert.QkvIdeal.Gen.facts)
    (hQkvRefIdeal := Cert.QkvRefIdeal.Gen.facts) := by
  pair_intro
  · run_from Cert.QkvIdeal.Gen.run_main m g
  · run_from Cert.QkvRefIdeal.Value.run m' g'
    exact (Cert.QkvIdeal.Product.final m c).symm

end
-- ==== Proof.OutProj.lean ====
/- The layer's output projection: the kernel multiplies the attention's columns and the pooled columns apart and adds; the reference multiplies them side by side. -/
module

public import proofs.«01_k».proof.Defs
public import proofs.«01_k».proof.Proof.Gen.OutProjIdeal.Frame
public import proofs.«01_k».proof.Proof.Gen.OutProjRefIdeal.Run
public import proofs.«01_k».proof.Proof.Gen.OutProjRefIdeal.Read
public import Idealize.ShloMosaic.Lib.Claim
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.OutProjIdeal.Product

open Cert.OutProjIdeal Cert.OutProjIdeal.Gen

/-- The reference's result. -/
abbrev result (x0 : FVec Ideal S8192x3072 .f32) (x1 : FVec Ideal S8192x1024 .f32) (x2 : FVec Ideal S4096x4096 .f32) : FVec Ideal S8192x4096 .f32 :=
  Cert.OutProjRefIdeal.Read.val_main_v1 (F := Ideal) x0 x1 x2

variable (m : (ℓ : Loc nD τ sig) → Buf (Elt Ideal) ℓ)

theorem idx : ∀ t : Fin cfg0.N, win0_0.index t = ![(grid0.coords t 0).val, 0] ∧ win0_1.index t = ![(grid0.coords t 0).val, 0]
    ∧ win0_2.index t = ![0, 0, (grid0.coords t 1).val] ∧ win0_3.index t = ![(grid0.coords t 0).val, (grid0.coords t 1).val] :=
  (by decide +kernel : ∀ t : Fin grid0.N, _)

/-- What the body stores at an index of a tile is the reference at the tile's place in the whole array. -/
theorem point (c : Dev nD) (t : Fin cfg0.N) (y) : k0_pay1 (iblk m c 2 t) (iblk m c 0 t) (iblk m c 1 t) y
    = result (m ((c : Thread nD τ).loc main_arg0)) (m ((c : Thread nD τ).loc main_arg1)) (m ((c : Thread nD τ).loc main_arg2))
        (((cfg0.win 3).blk t).view.emb y) := by
  pointwise [k0_pay1, result, Cert.OutProjRefIdeal.Read.val_main_v1, Cert.OutProjRefIdeal.Read.val_main_v0]
  blk_point [iblk, V, idx t]

/-- The result array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutProjIdeal.Product

/-- The kernel and the reference agree. -/
theorem Cert.Proof.algebraic_OutProj : Cert.algebraic_OutProjIdeal_OutProjRefIdeal (hOutProjIdeal := Cert.OutProjIdeal.Gen.facts)
    (hOutProjRefIdeal := Cert.OutProjRefIdeal.Gen.facts) := by
  pair_intro
  · run_from Cert.OutProjIdeal.Gen.run_main m g
  · run_from Cert.OutProjRefIdeal.Value.run m' g'
    exact (Cert.OutProjIdeal.Product.final m c).symm

end
-- ==== Proof.GatePool.lean ====
/- The product behind the layer's pooled columns and forget gates: each tile of the kernel is the same tile of the whole product, the columns set side by side and padded with zeros. -/
module

public import proofs.«01_k».proof.Defs
public import proofs.«01_k».proof.Proof.Gen.GatePoolIdeal.Frame
public import proofs.«01_k».proof.Proof.Gen.GatePoolRefIdeal.Run
public import proofs.«01_k».proof.Proof.Gen.GatePoolRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.GatePoolIdeal.Product

open Cert.GatePoolIdeal Cert.GatePoolIdeal.Gen

/-- The reference's result. -/
abbrev result (x0 : FVec Ideal S8192x4096 .f32) (x1 : FVec Ideal S4096x10264 .f32) : FVec Ideal S8192x1152 .f32 :=
  Cert.GatePoolRefIdeal.Read.val_main_v4 (F := Ideal) x0 x1

variable (m : (ℓ : Loc nD τ sig) → Buf (Elt Ideal) ℓ)

theorem idx : ∀ t : Fin cfg0.N, win0_0.index t = ![(grid0.coords t 0).val, 0] ∧ win0_1.index t = ![(grid0.coords t 1).val, 0]
    ∧ win0_2.index t = ![(grid0.coords t 0).val, (grid0.coords t 1).val] ∧ (grid0.coords t 1).val < 3 :=
  (by decide +kernel : ∀ t : Fin grid0.N, _)

/-- The activations in the narrower format are the activations. -/
theorem acts (c : Dev nD) (j : S8192x4096.Idx) :
    (V m c main_v5 : FVec Ideal S8192x4096 .bf16) j = (m ((c : Thread nD τ).loc main_arg0) : FVec Ideal S8192x4096 .f32) j := by
  entry_read
  pointwise

/-- The weights' columns set side by side, as the rows of an array. -/
def stacked (w : FVec Ideal S4096x10264 .f32) : FVec Ideal S1152x4096 .f32 :=
  concatenate S1152x4096 0 [⟨S1024x4096, extractStridedSlice S1024x4096 ![9240, 0] (transpose S10264x4096 [1, 0] w transposes_S4096x10264_S10264x4096_1_0) slices_S10264x4096_S1024x4096_9240_0⟩,
    ⟨S24x4096, extractStridedSlice S24x4096 ![9216, 0] (transpose S10264x4096 [1, 0] w transposes_S4096x10264_S10264x4096_1_0) slices_S10264x4096_S24x4096_9216_0⟩,
    ⟨S104x4096, broadcastInDim S104x4096 ![] bcast_S_S104x4096 (constant S_ .f32 0x00000000#32)⟩] concatenates_S1024x4096_S24x4096_S104x4096_S1152x4096_d0

theorem V_stacked (c : Dev nD) : V m c main_v4 = stacked (m ((c : Thread nD τ).loc main_arg1)) := by
  unfold_abbrev_sides
  after_reads_simp
  rfl

/-- The weights set side by side, at an index: the pooled columns, then the forget gates' columns, then zeros. -/
theorem weights (c : Dev nD) (j : S1152x4096.Idx) :
    (V m c main_v4 : FVec Ideal S1152x4096 .f32) j
      = (if h : (j 0 : ℕ) < 1024 then (m ((c : Thread nD τ).loc main_arg1) : FVec Ideal S4096x10264 .f32) (ix2 (j 1) ⟨9240 + (j 0 : ℕ), by omega⟩)
        else if h' : (j 0 : ℕ) - 1024 < 24 then (m ((c : Thread nD τ).loc main_arg1) : FVec Ideal S4096x10264 .f32) (ix2 (j 1) ⟨9216 + ((j 0 : ℕ) - 1024), by omega⟩)
        else (0 : EReal) : EReal) := by
  rw [V_stacked]
  generalize (m ((c : Thread nD τ).loc main_arg1) : FVec Ideal S4096x10264 .f32) = w
  pointwise [stacked]

/-- What the body stores at an index of a tile is the reference at the tile's place in the whole array. -/
theorem point (c : Dev nD) (t : Fin cfg0.N) (y) : k0_pay1 (iblk m c 0 t) (iblk m c 1 t) y
    = result (m ((c : Thread nD τ).loc main_arg0)) (m ((c : Thread nD τ).loc main_arg1)) (((cfg0.win 2).blk t).view.emb y) := by
  pointwise [k0_pay1, result, Cert.GatePoolRefIdeal.Read.val_main_v4, Cert.GatePoolRefIdeal.Read.val_main_v3, Cert.GatePoolRefIdeal.Read.val_main_cst, Cert.GatePoolRefIdeal.Read.val_main_v2, Cert.GatePoolRefIdeal.Read.val_main_v1, Cert.GatePoolRefIdeal.Read.val_main_v0]
  have hx : ∀ x : Fin 4096, (iblk m c 0 t : FVec Ideal S1024x4096 .bf16) (ix2 (y 0) x)
      = (m ((c : Thread nD τ).loc main_arg0) : FVec Ideal S8192x4096 .f32) (ix2 (((cfg0.win 2).blk t).view.emb y 0) x) := by
    intro x
    blk_simp [iblk]
    refine (acts m c _).trans ?_
    blk_ext [idx t]
  have hw : ∀ x : Fin 4096, (iblk m c 1 t : FVec Ideal S384x4096 .f32) (ix2 (y 1) x)
      = (if h : (grid0.coords t 1).val * 384 + (y 1 : ℕ) < 1024 then (m ((c : Thread nD τ).loc main_arg1) : FVec Ideal S4096x10264 .f32) (ix2 x ⟨9240 + ((grid0.coords t 1).val * 384 + (y 1 : ℕ)), by omega⟩)
        else if h' : (grid0.coords t 1).val * 384 + (y 1 : ℕ) - 1024 < 24 then (m ((c : Thread nD τ).loc main_arg1) : FVec Ideal S4096x10264 .f32) (ix2 x ⟨9216 + ((grid0.coords t 1).val * 384 + (y 1 : ℕ) - 1024), by omega⟩)
        else (0 : EReal) : EReal) := by
    intro x
    blk_simp [iblk]
    refine (weights m c _).trans ?_
    blk_simp [idx t]
    have e : (win0_1.blk t).view.emb (ix2 (y 1) x) 1 = x := by
      apply Fin.ext
      blk_simp [idx t]
    rw [e]
  simp only [hx, hw]
  blk_simp [idx t]
  by_cases h : (grid0.coords t 1).val * 384 + (y 1 : ℕ) < 1024
  · simp only [dif_pos h]
  · by_cases h' : (grid0.coords t 1).val * 384 + (y 1 : ℕ) - 1024 < 24
    · simp only [dif_neg h, dif_pos h']
    · simp only [dif_neg h, dif_neg h']
      exact Finset.sum_eq_zero fun x _ => mul_zero (M₀ := EReal) _

/-- The result array after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GatePoolIdeal.Product

/-- The kernel and the reference agree. -/
theorem Cert.Proof.algebraic_GatePool : Cert.algebraic_GatePoolIdeal_GatePoolRefIdeal (hGatePoolIdeal := Cert.GatePoolIdeal.Gen.facts)
    (hGatePoolRefIdeal := Cert.GatePoolRefIdeal.Gen.facts) := by
  pair_intro
  · run_from Cert.GatePoolIdeal.Gen.run_main m g
  · run_from Cert.GatePoolRefIdeal.Value.run m' g'
    exact (Cert.GatePoolIdeal.Product.final m c).symm

end
-- ==== Proof.PoolWindow.lean ====
/- The pooling mixer's windows as sums over the rows' numbers: a trailing window, its doubling, and the mean less the row itself. -/
module

public import Idealize.ShloMosaic.Lib.Claim
public import Idealize.ShloMosaic.Lib.IdealHost
public import Idealize.ShloMosaic.Lib.WordCmp
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.PoolWindow

/-- The value some rows back, and zero before the first row. -/
def back (f : ℕ → EReal) (k r : ℕ) : EReal := if k ≤ r then f (r - k) else 0

/-- The sum over the trailing window of some width. -/
def win (f : ℕ → EReal) (w r : ℕ) : EReal := ∑ k ∈ Finset.range w, back f k r

theorem back_zero (f : ℕ → EReal) (r : ℕ) : back f 0 r = f r := by
  simp [back]

theorem win_one (f : ℕ → EReal) (r : ℕ) : win f 1 r = f r := by
  simp [win, back]

/-- A window of twice the width is the window and the window its width back. -/
theorem win_double (f : ℕ → EReal) (w r : ℕ) : win f (w + w) r = win f w r + back (win f w) w r := by
  unfold win
  rw [Finset.sum_range_add]
  congr 1
  by_cases h : w ≤ r
  · rw [back, if_pos h]
    refine Finset.sum_congr rfl fun k _ => ?_
    by_cases hk : w + k ≤ r
    · rw [back, back, if_pos hk, if_pos (by omega), Nat.sub_add_eq]
    · rw [back, back, if_neg hk, if_neg (by omega)]
  · rw [back, if_neg h]
    refine Finset.sum_eq_zero fun k _ => ?_
    rw [back, if_neg (by omega)]

/-- The width of a group's window, as the number the reference writes. -/
def limit (g : ℕ) : EReal :=
  if g = 0 then Ideal.ofBits .f32 0x40000000#32 else if g = 1 then Ideal.ofBits .f32 0x40800000#32
  else if g = 2 then Ideal.ofBits .f32 0x41000000#32 else Ideal.ofBits .f32 0x41800000#32

/-- The mean over a group's window, as far as there are so many rows, less the row. -/
def mean (f : ℕ → EReal) (g r : ℕ) : EReal :=
  Ideal.div (win f (2 ^ (g + 1)) r)
    (min (FloatOps.sitofp (F := Ideal) FTy.f32 (IntOp.addi 1#32 (BitVec.ofNat 32 r)) : EReal) (limit g)) - f r

/-- The smaller of two words, converted, is the smaller of the two converted. -/
theorem sitofp_minsi (a b : BitVec 32) : (FloatOps.sitofp (F := Ideal) FTy.f32 (IntOp.minsi a b) : EReal)
    = min (FloatOps.sitofp (F := Ideal) FTy.f32 a : EReal) (FloatOps.sitofp (F := Ideal) FTy.f32 b : EReal) := by
  have key : ∀ x y : BitVec 32, x.toInt ≤ y.toInt →
      (FloatOps.sitofp (F := Ideal) FTy.f32 x : EReal) ≤ (FloatOps.sitofp (F := Ideal) FTy.f32 y : EReal) := by
    intro x y h
    show (((x.toInt : ℤ) : ℝ) : EReal) ≤ (((y.toInt : ℤ) : ℝ) : EReal)
    exact_mod_cast h
  unfold IntOp.minsi
  by_cases h : a.slt b = true
  · rw [if_pos h, min_eq_left (key a b (le_of_lt (BitVec.slt_iff_toInt_lt.mp h)))]
  · rw [if_neg h, min_eq_right (key b a (not_lt.mp fun q => h (BitVec.slt_iff_toInt_lt.mpr q)))]

/-- A group's width as the kernel counts it, converted. -/
theorem sitofp_width (g : ℕ) (h : g < 4) :
    (FloatOps.sitofp (F := Ideal) FTy.f32 (Scalar.shli (2#32) (BitVec.ofNat 32 g)) : EReal) = limit g := by
  have e : ∀ w : BitVec 32, (FloatOps.sitofp (F := Ideal) FTy.f32 w : EReal) = (((w.toInt : ℤ) : ℝ) : EReal) := fun _ => rfl
  obtain rfl | rfl | rfl | rfl : g = 0 ∨ g = 1 ∨ g = 2 ∨ g = 3 := by omega
  · rw [e, show (Scalar.shli (2#32) (BitVec.ofNat 32 0)).toInt = 2 by decide]
    simp [limit, Ideal.ofBits, Ideal.ieee, -EReal.coe_mul]; norm_num
  · rw [e, show (Scalar.shli (2#32) (BitVec.ofNat 32 1)).toInt = 4 by decide]
    simp [limit, Ideal.ofBits, Ideal.ieee, -EReal.coe_mul]; norm_num
  · rw [e, show (Scalar.shli (2#32) (BitVec.ofNat 32 2)).toInt = 8 by decide]
    simp [limit, Ideal.ofBits, Ideal.ieee, -EReal.coe_mul]; norm_num
  · rw [e, show (Scalar.shli (2#32) (BitVec.ofNat 32 3)).toInt = 16 by decide]
    simp [limit, Ideal.ofBits, Ideal.ieee, -EReal.coe_mul]; norm_num

end Cert.PoolWindow

end
-- ==== Proof.PoolTile.lean ====
/- The pooling mixer's windows in the kernel: a trailing window doubled by adding its own rows shifted. -/
module

public import proofs.«01_k».proof.Defs
public import proofs.«01_k».proof.Proof.PoolWindow
public import proofs.«01_k».proof.Proof.Gen.PoolIdeal.Frame
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.PoolIdeal.Product

open Cert.PoolIdeal Cert.PoolIdeal.Gen Cert.PoolWindow

/-- A column of a tile, by the rows' numbers. -/
def line (v : FVec Ideal S1x2048x256 .f32) (c : Fin 256) (n : ℕ) : EReal :=
  if h : n < 2048 then v (ix3 0 ⟨n, h⟩ c) else 0

theorem tile (v : FVec Ideal S1x2048x256 .f32) (y : S2048x256.Idx) : (k0_pay2 (F := Ideal) v y : EReal) = line v (y 1) (y 0) := by
  pointwise [k0_pay2]
  have h : ((y 0 : Fin 2048) : ℕ) < 2048 := (y 0).isLt
  have e : line v (y 1) (y 0) = v (ix3 0 ⟨((y 0 : Fin 2048) : ℕ), h⟩ (y 1)) := dif_pos h
  exact e.symm

theorem pick (f : ℕ → EReal) (r k : ℕ) (hr : r < 2048) (hk : k < 2048) (x : EReal) (hx : k ≤ r → x = f (r - k)) :
    (Scalar.select (IntOp.cmpi .sge (BitVec.ofNat 32 r) (BitVec.ofNat 32 k)) x 0 : EReal) = back f k r := by
  rw [WordCmp.cmpi_sge_ofNat (by omega) (by omega), WordCmp.select_decide, back]
  by_cases h : k ≤ r
  · rw [if_pos h, if_pos h, hx h]
  · rw [if_neg h, if_neg h]

/-- The step from the window of 1 to the window of 2. -/
theorem step_1 (v : FVec Ideal S1x2048x256 .f32) (s : FVec Ideal S2048x256 .f32)
    (hs : ∀ y : S2048x256.Idx, s y = win (line v (y 1)) 1 (y 0)) (y : S2048x256.Idx) :
    addf s (select (cmpi .sge (iota .tc S2048x256 32 [0] iota_S2048x256_d0_w32) (broadcast S2048x256 1#32))
      (dynamicRotate 0 1#32 none s rotates_S2048x256_d0) (broadcast S2048x256 (Scalar.ofBits .f32 0x00000000#32))) y
    = win (line v (y 1)) 2 (y 0) := by
  pointwise
  refine Eq.trans (congrArg₂ (· + ·) (hs y) ?_) (win_double (line v (y 1)) 1 (y 0)).symm
  refine pick _ _ 1 (y 0).isLt (by omega) _ fun h => ?_
  refine (hs _).trans ?_
  have hy : (y 0 : ℕ) < 2048 := (y 0).isLt
  show win (line v (y 1)) 1 (((y 0 : ℕ) + 2048 - 1) % 2048) = _
  rw [show ((y 0 : ℕ) + 2048 - 1) % 2048 = (y 0 : ℕ) - 1 by omega]

/-- The step from the window of 2 to the window of 4. -/
theorem step_2 (v : FVec Ideal S1x2048x256 .f32) (s : FVec Ideal S2048x256 .f32)
    (hs : ∀ y : S2048x256.Idx, s y = win (line v (y 1)) 2 (y 0)) (y : S2048x256.Idx) :
    addf s (select (cmpi .sge (iota .tc S2048x256 32 [0] iota_S2048x256_d0_w32) (broadcast S2048x256 2#32))
      (dynamicRotate 0 2#32 none s rotates_S2048x256_d0) (broadcast S2048x256 (Scalar.ofBits .f32 0x00000000#32))) y
    = win (line v (y 1)) 4 (y 0) := by
  pointwise
  refine Eq.trans (congrArg₂ (· + ·) (hs y) ?_) (win_double (line v (y 1)) 2 (y 0)).symm
  refine pick _ _ 2 (y 0).isLt (by omega) _ fun h => ?_
  refine (hs _).trans ?_
  have hy : (y 0 : ℕ) < 2048 := (y 0).isLt
  show win (line v (y 1)) 2 (((y 0 : ℕ) + 2048 - 2) % 2048) = _
  rw [show ((y 0 : ℕ) + 2048 - 2) % 2048 = (y 0 : ℕ) - 2 by omega]

/-- The step from the window of 4 to the window of 8. -/
theorem step_4 (v : FVec Ideal S1x2048x256 .f32) (s : FVec Ideal S2048x256 .f32)
    (hs : ∀ y : S2048x256.Idx, s y = win (line v (y 1)) 4 (y 0)) (y : S2048x256.Idx) :
    addf s (select (cmpi .sge (iota .tc S2048x256 32 [0] iota_S2048x256_d0_w32) (broadcast S2048x256 4#32))
      (dynamicRotate 0 4#32 none s rotates_S2048x256_d0) (broadcast S2048x256 (Scalar.ofBits .f32 0x00000000#32))) y
    = win (line v (y 1)) 8 (y 0) := by
  pointwise
  refine Eq.trans (congrArg₂ (· + ·) (hs y) ?_) (win_double (line v (y 1)) 4 (y 0)).symm
  refine pick _ _ 4 (y 0).isLt (by omega) _ fun h => ?_
  refine (hs _).trans ?_
  have hy : (y 0 : ℕ) < 2048 := (y 0).isLt
  show win (line v (y 1)) 4 (((y 0 : ℕ) + 2048 - 4) % 2048) = _
  rw [show ((y 0 : ℕ) + 2048 - 4) % 2048 = (y 0 : ℕ) - 4 by omega]

/-- The step from the window of 8 to the window of 16. -/
theorem step_8 (v : FVec Ideal S1x2048x256 .f32) (s : FVec Ideal S2048x256 .f32)
    (hs : ∀ y : S2048x256.Idx, s y = win (line v (y 1)) 8 (y 0)) (y : S2048x256.Idx) :
    addf s (select (cmpi .sge (iota .tc S2048x256 32 [0] iota_S2048x256_d0_w32) (broadcast S2048x256 8#32))
      (dynamicRotate 0 8#32 none s rotates_S2048x256_d0) (broadcast S2048x256 (Scalar.ofBits .f32 0x00000000#32))) y
    = win (line v (y 1)) 16 (y 0) := by
  pointwise
  refine Eq.trans (congrArg₂ (· + ·) (hs y) ?_) (win_double (line v (y 1)) 8 (y 0)).symm
  refine pick _ _ 8 (y 0).isLt (by omega) _ fun h => ?_
  refine (hs _).trans ?_
  have hy : (y 0 : ℕ) < 2048 := (y 0).isLt
  show win (line v (y 1)) 8 (((y 0 : ℕ) + 2048 - 8) % 2048) = _
  rw [show ((y 0 : ℕ) + 2048 - 8) % 2048 = (y 0 : ℕ) - 8 by omega]

/-- The window the kernel picks for a group. -/
theorem window (i : grid0.Coords) (v : FVec Ideal S1x2048x256 .f32) (y : S2048x256.Idx) :
    (k0_pay3 (F := Ideal) i v y : EReal) = win (line v (y 1)) (2 ^ ((i 1 : ℕ) + 1)) (y 0) := by
  have h0 : ∀ y : S2048x256.Idx, (k0_pay2 (F := Ideal) v y : EReal) = win (line v (y 1)) 1 (y 0) := fun y => (tile v y).trans (win_one _ _).symm
  have h1 := step_1 v _ h0
  have h2 := step_2 v _ h1
  have h3 := step_4 v _ h2
  have h4 := step_8 v _ h3
  have hi : (i 1 : ℕ) < 4 := (i 1).isLt
  obtain h | h | h | h : (i 1 : ℕ) = 0 ∨ (i 1 : ℕ) = 1 ∨ (i 1 : ℕ) = 2 ∨ (i 1 : ℕ) = 3 := by omega
  · unfold k0_pay3; rw [h]; exact h1 y
  · unfold k0_pay3; rw [h]; exact h2 y
  · unfold k0_pay3; rw [h]; exact h3 y
  · unfold k0_pay3; rw [h]; exact h4 y

/-- What the kernel subtracts and divides is the mean over the group's window less the row. -/
theorem centred (i : grid0.Coords) (v : FVec Ideal S1x2048x256 .f32) (y : S2048x256.Idx) :
    (Ideal.div (k0_pay3 (F := Ideal) i v y) (FloatOps.sitofp (F := Ideal) FTy.f32 (k0_pay4 i y) : EReal) - k0_pay2 (F := Ideal) v y : EReal)
      = mean (line v (y 1)) (i 1) (y 0) := by
  have e : (FloatOps.sitofp (F := Ideal) FTy.f32 (k0_pay4 i y) : EReal)
      = min (FloatOps.sitofp (F := Ideal) FTy.f32 (IntOp.addi 1#32 (BitVec.ofNat 32 (y 0 : ℕ))) : EReal) (limit (i 1)) := by
    rw [← sitofp_width (i 1) (i 1).isLt, ← sitofp_minsi]
    have e1 : k0_pay4 i y = IntOp.minsi (IntOp.addi (BitVec.ofNat 32 (y 0 : ℕ)) 1#32) (Scalar.shli (2#32) (BitVec.ofNat 32 (i 1 : ℕ))) := by
      pointwise [k0_pay4]
    rw [e1, show IntOp.addi (BitVec.ofNat 32 (y 0 : ℕ)) 1#32 = IntOp.addi 1#32 (BitVec.ofNat 32 (y 0 : ℕ)) from BitVec.add_comm _ _]
  rw [e, window i v y, tile v y]
  rfl

end Cert.PoolIdeal.Product

end
-- ==== Proof.PoolLines.lean ====
/- The channels of the pooling reference by the rows' numbers, and the rows some places back. -/
module

public import proofs.«01_k».proof.Defs
public import proofs.«01_k».proof.Proof.PoolWindow
public import proofs.«01_k».proof.Proof.Gen.PoolRefIdeal.Run
public import proofs.«01_k».proof.Proof.Gen.PoolRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.PoolRefIdeal.Windows

open Cert.PoolRefIdeal Cert.PoolRefIdeal.Gen Cert.PoolRefIdeal.Read Cert.PoolWindow

/-- A channel of one sequence, by the rows' numbers. -/
def line (u : FVec Ideal S4x2048x256 .f32) (b : Fin 4) (c : Fin 256) (n : ℕ) : EReal :=
  if h : n < 2048 then u (ix3 b ⟨n, h⟩ c) else 0

/-- A channel of the input, by the rows' numbers. -/
def column (x : FVec Ideal S4x2048x1152 .f32) (b : Fin 4) (g : Fin 4) (c : Fin 256) (n : ℕ) : EReal :=
  if h : n < 2048 then x (ix3 b ⟨n, h⟩ ⟨256 * (g : ℕ) + (c : ℕ), by omega⟩) else 0

theorem line_at (u : FVec Ideal S4x2048x256 .f32) (j : S4x2048x256.Idx) : line u (j 0) (j 2) (j 1) = u j := by
  refine (dif_pos (show ((j 1 : Fin 2048) : ℕ) < 2048 from (j 1).isLt)).trans ?_
  congr 1
  funext a
  fin_cases a <;> rfl

theorem padded (u : FVec Ideal S4x2048x256 .f32) (b : Fin 4) (c : Fin 256) (k n r : ℕ) (hr : r < 2048) (hn : n + k = 2048) (z : EReal) (hz : z = 0) :
    (if h : k ≤ r ∧ r - k < n then u (ix3 b ⟨r - k, by omega⟩ c) else z : EReal) = back (line u b c) k r := by
  unfold back line
  by_cases h : k ≤ r
  · rw [dif_pos ⟨h, by omega⟩, if_pos h, dif_pos (by omega)]
  · rw [dif_neg (fun q => h q.1), if_neg h, hz]

theorem zero_before : (FloatOps.sitofp (F := Ideal) FTy.f32 0#32 : EReal) = 0 := by
  show ((((0#32 : BitVec 32).toInt : ℤ) : ℝ) : EReal) = 0
  simp

/-- Group 0's channels in the input. -/
theorem group_0 (x0 : FVec Ideal S4x2048x1152 .f32) (b : Fin 4) (c : Fin 256) : line (val_main_v7 (F := Ideal) x0) b c = column x0 b 0 c := by
  funext n
  unfold line column
  by_cases h : n < 2048
  · rw [dif_pos h, dif_pos h]
    pointwise [val_main_v7, val_main_v6, val_main_v1, val_main_v0]
  · rw [dif_neg h, dif_neg h]

/-- Group 1's channels in the input. -/
theorem group_1 (x0 : FVec Ideal S4x2048x1152 .f32) (b : Fin 4) (c : Fin 256) : line (val_main_v18 (F := Ideal) x0) b c = column x0 b 1 c := by
  funext n
  unfold line column
  by_cases h : n < 2048
  · rw [dif_pos h, dif_pos h]
    pointwise [val_main_v18, val_main_v17, val_main_v1, val_main_v0]
  · rw [dif_neg h, dif_neg h]

/-- Group 2's channels in the input. -/
theorem group_2 (x0 : FVec Ideal S4x2048x1152 .f32) (b : Fin 4) (c : Fin 256) : line (val_main_v35 (F := Ideal) x0) b c = column x0 b 2 c := by
  funext n
  unfold line column
  by_cases h : n < 2048
  · rw [dif_pos h, dif_pos h]
    pointwise [val_main_v35, val_main_v34, val_main_v1, val_main_v0]
  · rw [dif_neg h, dif_neg h]

/-- Group 3's channels in the input. -/
theorem group_3 (x0 : FVec Ideal S4x2048x1152 .f32) (b : Fin 4) (c : Fin 256) : line (val_main_v64 (F := Ideal) x0) b c = column x0 b 3 c := by
  funext n
  unfold line column
  by_cases h : n < 2048
  · rw [dif_pos h, dif_pos h]
    pointwise [val_main_v64, val_main_v63, val_main_v1, val_main_v0]
  · rw [dif_neg h, dif_neg h]

end Cert.PoolRefIdeal.Windows

end
-- ==== Proof.PoolPads0.lean ====
/- The padded copies in the pooling reference, each the rows some places back. -/
module

public import proofs.«01_k».proof.Defs
public import proofs.«01_k».proof.Proof.PoolLines
public import proofs.«01_k».proof.Proof.Gen.PoolRefIdeal.Run
public import proofs.«01_k».proof.Proof.Gen.PoolRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.PoolRefIdeal.Windows

open Cert.PoolRefIdeal Cert.PoolRefIdeal.Gen Cert.PoolRefIdeal.Read Cert.PoolWindow

theorem pad_9 (x0 : FVec Ideal S4x2048x1152 .f32) (j : S4x2048x256.Idx) :
    val_main_v9 (F := Ideal) x0 j = back (line (val_main_v7 (F := Ideal) x0) (j 0) (j 2)) 1 (j 1) := by
  unfold val_main_v9 val_main_v8
  generalize val_main_v7 (F := Ideal) x0 = u
  pointwise [val_main_call0_v0, val_main_c_0]
  exact padded u (j 0) (j 2) 1 2047 (j 1) (j 1).isLt rfl _ zero_before

theorem pad_20 (x0 : FVec Ideal S4x2048x1152 .f32) (j : S4x2048x256.Idx) :
    val_main_v20 (F := Ideal) x0 j = back (line (val_main_v18 (F := Ideal) x0) (j 0) (j 2)) 1 (j 1) := by
  unfold val_main_v20 val_main_v19
  generalize val_main_v18 (F := Ideal) x0 = u
  pointwise [val_main_call1_v0, val_main_c_1]
  exact padded u (j 0) (j 2) 1 2047 (j 1) (j 1).isLt rfl _ zero_before

theorem pad_23 (x0 : FVec Ideal S4x2048x1152 .f32) (j : S4x2048x256.Idx) :
    val_main_v23 (F := Ideal) x0 j = back (line (val_main_v18 (F := Ideal) x0) (j 0) (j 2)) 2 (j 1) := by
  unfold val_main_v23 val_main_v22
  generalize val_main_v18 (F := Ideal) x0 = u
  pointwise [val_main_call2_v0, val_main_c_2]
  exact padded u (j 0) (j 2) 2 2046 (j 1) (j 1).isLt rfl _ zero_before

theorem pad_26 (x0 : FVec Ideal S4x2048x1152 .f32) (j : S4x2048x256.Idx) :
    val_main_v26 (F := Ideal) x0 j = back (line (val_main_v18 (F := Ideal) x0) (j 0) (j 2)) 3 (j 1) := by
  unfold val_main_v26 val_main_v25
  generalize val_main_v18 (F := Ideal) x0 = u
  pointwise [val_main_call3_v0, val_main_c_3]
  exact padded u (j 0) (j 2) 3 2045 (j 1) (j 1).isLt rfl _ zero_before

end Cert.PoolRefIdeal.Windows

end
-- ==== Proof.PoolPads1.lean ====
/- The padded copies in the pooling reference, each the rows some places back. -/
module

public import proofs.«01_k».proof.Defs
public import proofs.«01_k».proof.Proof.PoolLines
public import proofs.«01_k».proof.Proof.Gen.PoolRefIdeal.Run
public import proofs.«01_k».proof.Proof.Gen.PoolRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.PoolRefIdeal.Windows

open Cert.PoolRefIdeal Cert.PoolRefIdeal.Gen Cert.PoolRefIdeal.Read Cert.PoolWindow

theorem pad_37 (x0 : FVec Ideal S4x2048x1152 .f32) (j : S4x2048x256.Idx) :
    val_main_v37 (F := Ideal) x0 j = back (line (val_main_v35 (F := Ideal) x0) (j 0) (j 2)) 1 (j 1) := by
  unfold val_main_v37 val_main_v36
  generalize val_main_v35 (F := Ideal) x0 = u
  pointwise [val_main_call4_v0, val_main_c_5]
  exact padded u (j 0) (j 2) 1 2047 (j 1) (j 1).isLt rfl _ zero_before

theorem pad_40 (x0 : FVec Ideal S4x2048x1152 .f32) (j : S4x2048x256.Idx) :
    val_main_v40 (F := Ideal) x0 j = back (line (val_main_v35 (F := Ideal) x0) (j 0) (j 2)) 2 (j 1) := by
  unfold val_main_v40 val_main_v39
  generalize val_main_v35 (F := Ideal) x0 = u
  pointwise [val_main_call5_v0, val_main_c_6]
  exact padded u (j 0) (j 2) 2 2046 (j 1) (j 1).isLt rfl _ zero_before

theorem pad_43 (x0 : FVec Ideal S4x2048x1152 .f32) (j : S4x2048x256.Idx) :
    val_main_v43 (F := Ideal) x0 j = back (line (val_main_v35 (F := Ideal) x0) (j 0) (j 2)) 3 (j 1) := by
  unfold val_main_v43 val_main_v42
  generalize val_main_v35 (F := Ideal) x0 = u
  pointwise [val_main_call6_v0, val_main_c_7]
  exact padded u (j 0) (j 2) 3 2045 (j 1) (j 1).isLt rfl _ zero_before

theorem pad_46 (x0 : FVec Ideal S4x2048x1152 .f32) (j : S4x2048x256.Idx) :
    val_main_v46 (F := Ideal) x0 j = back (line (val_main_v35 (F := Ideal) x0) (j 0) (j 2)) 4 (j 1) := by
  unfold val_main_v46 val_main_v45
  generalize val_main_v35 (F := Ideal) x0 = u
  pointwise [val_main_call7_v0, val_main_c_8]
  exact padded u (j 0) (j 2) 4 2044 (j 1) (j 1).isLt rfl _ zero_before

end Cert.PoolRefIdeal.Windows

end
-- ==== Proof.PoolPads2.lean ====
/- The padded copies in the pooling reference, each the rows some places back. -/
module

public import proofs.«01_k».proof.Defs
public import proofs.«01_k».proof.Proof.PoolLines
public import proofs.«01_k».proof.Proof.Gen.PoolRefIdeal.Run
public import proofs.«01_k».proof.Proof.Gen.PoolRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.PoolRefIdeal.Windows

open Cert.PoolRefIdeal Cert.PoolRefIdeal.Gen Cert.PoolRefIdeal.Read Cert.PoolWindow

theorem pad_49 (x0 : FVec Ideal S4x2048x1152 .f32) (j : S4x2048x256.Idx) :
    val_main_v49 (F := Ideal) x0 j = back (line (val_main_v35 (F := Ideal) x0) (j 0) (j 2)) 5 (j 1) := by
  unfold val_main_v49 val_main_v48
  generalize val_main_v35 (F := Ideal) x0 = u
  pointwise [val_main_call8_v0, val_main_c_9]
  exact padded u (j 0) (j 2) 5 2043 (j 1) (j 1).isLt rfl _ zero_before

theorem pad_52 (x0 : FVec Ideal S4x2048x1152 .f32) (j : S4x2048x256.Idx) :
    val_main_v52 (F := Ideal) x0 j = back (line (val_main_v35 (F := Ideal) x0) (j 0) (j 2)) 6 (j 1) := by
  unfold val_main_v52 val_main_v51
  generalize val_main_v35 (F := Ideal) x0 = u
  pointwise [val_main_call9_v0, val_main_c_10]
  exact padded u (j 0) (j 2) 6 2042 (j 1) (j 1).isLt rfl _ zero_before

theorem pad_55 (x0 : FVec Ideal S4x2048x1152 .f32) (j : S4x2048x256.Idx) :
    val_main_v55 (F := Ideal) x0 j = back (line (val_main_v35 (F := Ideal) x0) (j 0) (j 2)) 7 (j 1) := by
  unfold val_main_v55 val_main_v54
  generalize val_main_v35 (F := Ideal) x0 = u
  pointwise [val_main_call10_v0, val_main_c_11]
  exact padded u (j 0) (j 2) 7 2041 (j 1) (j 1).isLt rfl _ zero_before

end Cert.PoolRefIdeal.Windows

end
-- ==== Proof.PoolPads3.lean ====
/- The padded copies in the pooling reference, each the rows some places back. -/
module

public import proofs.«01_k».proof.Defs
public import proofs.«01_k».proof.Proof.PoolLines
public import proofs.«01_k».proof.Proof.Gen.PoolRefIdeal.Run
public import proofs.«01_k».proof.Proof.Gen.PoolRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.PoolRefIdeal.Windows

open Cert.PoolRefIdeal Cert.PoolRefIdeal.Gen Cert.PoolRefIdeal.Read Cert.PoolWindow

theorem pad_66 (x0 : FVec Ideal S4x2048x1152 .f32) (j : S4x2048x256.Idx) :
    val_main_v66 (F := Ideal) x0 j = back (line (val_main_v64 (F := Ideal) x0) (j 0) (j 2)) 1 (j 1) := by
  unfold val_main_v66 val_main_v65
  generalize val_main_v64 (F := Ideal) x0 = u
  pointwise [val_main_call11_v0, val_main_c_13]
  exact padded u (j 0) (j 2) 1 2047 (j 1) (j 1).isLt rfl _ zero_before

theorem pad_69 (x0 : FVec Ideal S4x2048x1152 .f32) (j : S4x2048x256.Idx) :
    val_main_v69 (F := Ideal) x0 j = back (line (val_main_v64 (F := Ideal) x0) (j 0) (j 2)) 2 (j 1) := by
  unfold val_main_v69 val_main_v68
  generalize val_main_v64 (F := Ideal) x0 = u
  pointwise [val_main_call12_v0, val_main_c_14]
  exact padded u (j 0) (j 2) 2 2046 (j 1) (j 1).isLt rfl _ zero_before

theorem pad_72 (x0 : FVec Ideal S4x2048x1152 .f32) (j : S4x2048x256.Idx) :
    val_main_v72 (F := Ideal) x0 j = back (line (val_main_v64 (F := Ideal) x0) (j 0) (j 2)) 3 (j 1) := by
  unfold val_main_v72 val_main_v71
  generalize val_main_v64 (F := Ideal) x0 = u
  pointwise [val_main_call13_v0, val_main_c_15]
  exact padded u (j 0) (j 2) 3 2045 (j 1) (j 1).isLt rfl _ zero_before

theorem pad_75 (x0 : FVec Ideal S4x2048x1152 .f32) (j : S4x2048x256.Idx) :
    val_main_v75 (F := Ideal) x0 j = back (line (val_main_v64 (F := Ideal) x0) (j 0) (j 2)) 4 (j 1) := by
  unfold val_main_v75 val_main_v74
  generalize val_main_v64 (F := Ideal) x0 = u
  pointwise [val_main_call14_v0, val_main_c_16]
  exact padded u (j 0) (j 2) 4 2044 (j 1) (j 1).isLt rfl _ zero_before

end Cert.PoolRefIdeal.Windows

end
-- ==== Proof.PoolPads4.lean ====
/- The padded copies in the pooling reference, each the rows some places back. -/
module

public import proofs.«01_k».proof.Defs
public import proofs.«01_k».proof.Proof.PoolLines
public import proofs.«01_k».proof.Proof.Gen.PoolRefIdeal.Run
public import proofs.«01_k».proof.Proof.Gen.PoolRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.PoolRefIdeal.Windows

open Cert.PoolRefIdeal Cert.PoolRefIdeal.Gen Cert.PoolRefIdeal.Read Cert.PoolWindow

theorem pad_78 (x0 : FVec Ideal S4x2048x1152 .f32) (j : S4x2048x256.Idx) :
    val_main_v78 (F := Ideal) x0 j = back (line (val_main_v64 (F := Ideal) x0) (j 0) (j 2)) 5 (j 1) := by
  unfold val_main_v78 val_main_v77
  generalize val_main_v64 (F := Ideal) x0 = u
  pointwise [val_main_call15_v0, val_main_c_17]
  exact padded u (j 0) (j 2) 5 2043 (j 1) (j 1).isLt rfl _ zero_before

theorem pad_81 (x0 : FVec Ideal S4x2048x1152 .f32) (j : S4x2048x256.Idx) :
    val_main_v81 (F := Ideal) x0 j = back (line (val_main_v64 (F := Ideal) x0) (j 0) (j 2)) 6 (j 1) := by
  unfold val_main_v81 val_main_v80
  generalize val_main_v64 (F := Ideal) x0 = u
  pointwise [val_main_call16_v0, val_main_c_18]
  exact padded u (j 0) (j 2) 6 2042 (j 1) (j 1).isLt rfl _ zero_before

theorem pad_84 (x0 : FVec Ideal S4x2048x1152 .f32) (j : S4x2048x256.Idx) :
    val_main_v84 (F := Ideal) x0 j = back (line (val_main_v64 (F := Ideal) x0) (j 0) (j 2)) 7 (j 1) := by
  unfold val_main_v84 val_main_v83
  generalize val_main_v64 (F := Ideal) x0 = u
  pointwise [val_main_call17_v0, val_main_c_19]
  exact padded u (j 0) (j 2) 7 2041 (j 1) (j 1).isLt rfl _ zero_before

theorem pad_87 (x0 : FVec Ideal S4x2048x1152 .f32) (j : S4x2048x256.Idx) :
    val_main_v87 (F := Ideal) x0 j = back (line (val_main_v64 (F := Ideal) x0) (j 0) (j 2)) 8 (j 1) := by
  unfold val_main_v87 val_main_v86
  generalize val_main_v64 (F := Ideal) x0 = u
  pointwise [val_main_call18_v0, val_main_c_20]
  exact padded u (j 0) (j 2) 8 2040 (j 1) (j 1).isLt rfl _ zero_before

end Cert.PoolRefIdeal.Windows

end
-- ==== Proof.PoolPads5.lean ====
/- The padded copies in the pooling reference, each the rows some places back. -/
module

public import proofs.«01_k».proof.Defs
public import proofs.«01_k».proof.Proof.PoolLines
public import proofs.«01_k».proof.Proof.Gen.PoolRefIdeal.Run
public import proofs.«01_k».proof.Proof.Gen.PoolRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.PoolRefIdeal.Windows

open Cert.PoolRefIdeal Cert.PoolRefIdeal.Gen Cert.PoolRefIdeal.Read Cert.PoolWindow

theorem pad_90 (x0 : FVec Ideal S4x2048x1152 .f32) (j : S4x2048x256.Idx) :
    val_main_v90 (F := Ideal) x0 j = back (line (val_main_v64 (F := Ideal) x0) (j 0) (j 2)) 9 (j 1) := by
  unfold val_main_v90 val_main_v89
  generalize val_main_v64 (F := Ideal) x0 = u
  pointwise [val_main_call19_v0, val_main_c_21]
  exact padded u (j 0) (j 2) 9 2039 (j 1) (j 1).isLt rfl _ zero_before

theorem pad_93 (x0 : FVec Ideal S4x2048x1152 .f32) (j : S4x2048x256.Idx) :
    val_main_v93 (F := Ideal) x0 j = back (line (val_main_v64 (F := Ideal) x0) (j 0) (j 2)) 10 (j 1) := by
  unfold val_main_v93 val_main_v92
  generalize val_main_v64 (F := Ideal) x0 = u
  pointwise [val_main_call20_v0, val_main_c_22]
  exact padded u (j 0) (j 2) 10 2038 (j 1) (j 1).isLt rfl _ zero_before

theorem pad_96 (x0 : FVec Ideal S4x2048x1152 .f32) (j : S4x2048x256.Idx) :
    val_main_v96 (F := Ideal) x0 j = back (line (val_main_v64 (F := Ideal) x0) (j 0) (j 2)) 11 (j 1) := by
  unfold val_main_v96 val_main_v95
  generalize val_main_v64 (F := Ideal) x0 = u
  pointwise [val_main_call21_v0, val_main_c_23]
  exact padded u (j 0) (j 2) 11 2037 (j 1) (j 1).isLt rfl _ zero_before

theorem pad_99 (x0 : FVec Ideal S4x2048x1152 .f32) (j : S4x2048x256.Idx) :
    val_main_v99 (F := Ideal) x0 j = back (line (val_main_v64 (F := Ideal) x0) (j 0) (j 2)) 12 (j 1) := by
  unfold val_main_v99 val_main_v98
  generalize val_main_v64 (F := Ideal) x0 = u
  pointwise [val_main_call22_v0, val_main_c_24]
  exact padded u (j 0) (j 2) 12 2036 (j 1) (j 1).isLt rfl _ zero_before

end Cert.PoolRefIdeal.Windows

end
-- ==== Proof.PoolPads6.lean ====
/- The padded copies in the pooling reference, each the rows some places back. -/
module

public import proofs.«01_k».proof.Defs
public import proofs.«01_k».proof.Proof.PoolLines
public import proofs.«01_k».proof.Proof.Gen.PoolRefIdeal.Run
public import proofs.«01_k».proof.Proof.Gen.PoolRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.PoolRefIdeal.Windows

open Cert.PoolRefIdeal Cert.PoolRefIdeal.Gen Cert.PoolRefIdeal.Read Cert.PoolWindow

theorem pad_102 (x0 : FVec Ideal S4x2048x1152 .f32) (j : S4x2048x256.Idx) :
    val_main_v102 (F := Ideal) x0 j = back (line (val_main_v64 (F := Ideal) x0) (j 0) (j 2)) 13 (j 1) := by
  unfold val_main_v102 val_main_v101
  generalize val_main_v64 (F := Ideal) x0 = u
  pointwise [val_main_call23_v0, val_main_c_25]
  exact padded u (j 0) (j 2) 13 2035 (j 1) (j 1).isLt rfl _ zero_before

theorem pad_105 (x0 : FVec Ideal S4x2048x1152 .f32) (j : S4x2048x256.Idx) :
    val_main_v105 (F := Ideal) x0 j = back (line (val_main_v64 (F := Ideal) x0) (j 0) (j 2)) 14 (j 1) := by
  unfold val_main_v105 val_main_v104
  generalize val_main_v64 (F := Ideal) x0 = u
  pointwise [val_main_call24_v0, val_main_c_26]
  exact padded u (j 0) (j 2) 14 2034 (j 1) (j 1).isLt rfl _ zero_before

theorem pad_108 (x0 : FVec Ideal S4x2048x1152 .f32) (j : S4x2048x256.Idx) :
    val_main_v108 (F := Ideal) x0 j = back (line (val_main_v64 (F := Ideal) x0) (j 0) (j 2)) 15 (j 1) := by
  unfold val_main_v108 val_main_v107
  generalize val_main_v64 (F := Ideal) x0 = u
  pointwise [val_main_call25_v0, val_main_c_27]
  exact padded u (j 0) (j 2) 15 2033 (j 1) (j 1).isLt rfl _ zero_before

end Cert.PoolRefIdeal.Windows

end
-- ==== Proof.PoolMeans.lean ====
/- The pooling reference's four means, each over its own trailing window. -/
module

public import proofs.«01_k».proof.Defs
public import proofs.«01_k».proof.Proof.PoolPads0
public import proofs.«01_k».proof.Proof.PoolPads1
public import proofs.«01_k».proof.Proof.PoolPads2
public import proofs.«01_k».proof.Proof.PoolPads3
public import proofs.«01_k».proof.Proof.PoolPads4
public import proofs.«01_k».proof.Proof.PoolPads5
public import proofs.«01_k».proof.Proof.PoolPads6
public import proofs.«01_k».proof.Proof.Gen.PoolRefIdeal.Run
public import proofs.«01_k».proof.Proof.Gen.PoolRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.PoolRefIdeal.Windows

open Cert.PoolRefIdeal Cert.PoolRefIdeal.Gen Cert.PoolRefIdeal.Read Cert.PoolWindow

/-- Group 0's mean over its window of 2, less the row. -/
theorem mean_0 (x0 : FVec Ideal S4x2048x1152 .f32) (j : S4x2048x256.Idx) :
    val_main_v16 (F := Ideal) x0 j = mean (column x0 (j 0) 0 (j 2)) 0 (j 1) := by
  refine Eq.trans ?_ (congrArg (fun f => mean f 0 (j 1)) (group_0 x0 (j 0) (j 2)))
  show _ = mean (line (val_main_v7 (F := Ideal) x0) (j 0) (j 2)) 0 (j 1)
  have e : val_main_v10 (F := Ideal) x0 j = win (line (val_main_v7 (F := Ideal) x0) (j 0) (j 2)) 2 (j 1) := by
    unfold val_main_v10 win
    simp only [addf_apply, pad_9, Finset.sum_range_succ, Finset.sum_range_zero, back_zero, line_at (val_main_v7 (F := Ideal) x0) j]
    rw [zero_add]
    rfl
  unfold mean
  rw [line_at (val_main_v7 (F := Ideal) x0) j, show (2 ^ (0 + 1) : ℕ) = 2 from rfl, ← e]
  unfold val_main_v16 val_main_v15
  generalize val_main_v10 (F := Ideal) x0 = t
  generalize val_main_v7 (F := Ideal) x0 = u
  pointwise [val_main_v14, val_main_v13, val_main_v12, val_main_v11, val_main_v5, val_main_v4, val_main_v3, val_main_v2, val_main_c, val_main_cst]
  rfl

/-- Group 1's mean over its window of 4, less the row. -/
theorem mean_1 (x0 : FVec Ideal S4x2048x1152 .f32) (j : S4x2048x256.Idx) :
    val_main_v33 (F := Ideal) x0 j = mean (column x0 (j 0) 1 (j 2)) 1 (j 1) := by
  refine Eq.trans ?_ (congrArg (fun f => mean f 1 (j 1)) (group_1 x0 (j 0) (j 2)))
  show _ = mean (line (val_main_v18 (F := Ideal) x0) (j 0) (j 2)) 1 (j 1)
  have e : val_main_v27 (F := Ideal) x0 j = win (line (val_main_v18 (F := Ideal) x0) (j 0) (j 2)) 4 (j 1) := by
    unfold val_main_v27 val_main_v24 val_main_v21 win
    simp only [addf_apply, pad_20, pad_23, pad_26, Finset.sum_range_succ, Finset.sum_range_zero, back_zero, line_at (val_main_v18 (F := Ideal) x0) j]
    rw [zero_add]
    rfl
  unfold mean
  rw [line_at (val_main_v18 (F := Ideal) x0) j, show (2 ^ (1 + 1) : ℕ) = 4 from rfl, ← e]
  unfold val_main_v33 val_main_v32
  generalize val_main_v27 (F := Ideal) x0 = t
  generalize val_main_v18 (F := Ideal) x0 = u
  pointwise [val_main_v31, val_main_v30, val_main_v29, val_main_v28, val_main_v5, val_main_v4, val_main_v3, val_main_v2, val_main_c, val_main_cst_4]
  rfl

/-- Group 2's mean over its window of 8, less the row. -/
theorem mean_2 (x0 : FVec Ideal S4x2048x1152 .f32) (j : S4x2048x256.Idx) :
    val_main_v62 (F := Ideal) x0 j = mean (column x0 (j 0) 2 (j 2)) 2 (j 1) := by
  refine Eq.trans ?_ (congrArg (fun f => mean f 2 (j 1)) (group_2 x0 (j 0) (j 2)))
  show _ = mean (line (val_main_v35 (F := Ideal) x0) (j 0) (j 2)) 2 (j 1)
  have e : val_main_v56 (F := Ideal) x0 j = win (line (val_main_v35 (F := Ideal) x0) (j 0) (j 2)) 8 (j 1) := by
    unfold val_main_v56 val_main_v53 val_main_v50 val_main_v47 val_main_v44 val_main_v41 val_main_v38 win
    simp only [addf_apply, pad_37, pad_40, pad_43, pad_46, pad_49, pad_52, pad_55, Finset.sum_range_succ, Finset.sum_range_zero, back_zero, line_at (val_main_v35 (F := Ideal) x0) j]
    rw [zero_add]
    rfl
  unfold mean
  rw [line_at (val_main_v35 (F := Ideal) x0) j, show (2 ^ (2 + 1) : ℕ) = 8 from rfl, ← e]
  unfold val_main_v62 val_main_v61
  generalize val_main_v56 (F := Ideal) x0 = t
  generalize val_main_v35 (F := Ideal) x0 = u
  pointwise [val_main_v60, val_main_v59, val_main_v58, val_main_v57, val_main_v5, val_main_v4, val_main_v3, val_main_v2, val_main_c, val_main_cst_12]
  rfl

/-- Group 3's mean over its window of 16, less the row. -/
theorem mean_3 (x0 : FVec Ideal S4x2048x1152 .f32) (j : S4x2048x256.Idx) :
    val_main_v115 (F := Ideal) x0 j = mean (column x0 (j 0) 3 (j 2)) 3 (j 1) := by
  refine Eq.trans ?_ (congrArg (fun f => mean f 3 (j 1)) (group_3 x0 (j 0) (j 2)))
  show _ = mean (line (val_main_v64 (F := Ideal) x0) (j 0) (j 2)) 3 (j 1)
  have e : val_main_v109 (F := Ideal) x0 j = win (line (val_main_v64 (F := Ideal) x0) (j 0) (j 2)) 16 (j 1) := by
    unfold val_main_v109 val_main_v106 val_main_v103 val_main_v100 val_main_v97 val_main_v94 val_main_v91 val_main_v88 val_main_v85 val_main_v82 val_main_v79 val_main_v76 val_main_v73 val_main_v70 val_main_v67 win
    simp only [addf_apply, pad_66, pad_69, pad_72, pad_75, pad_78, pad_81, pad_84, pad_87, pad_90, pad_93, pad_96, pad_99, pad_102, pad_105, pad_108, Finset.sum_range_succ, Finset.sum_range_zero, back_zero, line_at (val_main_v64 (F := Ideal) x0) j]
    rw [zero_add]
    rfl
  unfold mean
  rw [line_at (val_main_v64 (F := Ideal) x0) j, show (2 ^ (3 + 1) : ℕ) = 16 from rfl, ← e]
  unfold val_main_v115 val_main_v114
  generalize val_main_v109 (F := Ideal) x0 = t
  generalize val_main_v64 (F := Ideal) x0 = u
  pointwise [val_main_v113, val_main_v112, val_main_v111, val_main_v110, val_main_v5, val_main_v4, val_main_v3, val_main_v2, val_main_c, val_main_cst_28]
  rfl

end Cert.PoolRefIdeal.Windows

end
-- ==== Proof.PoolRef.lean ====
/- The pooling reference at an index. -/
module

public import proofs.«01_k».proof.Defs
public import proofs.«01_k».proof.Proof.PoolMeans
public import proofs.«01_k».proof.Proof.Gen.PoolRefIdeal.Run
public import proofs.«01_k».proof.Proof.Gen.PoolRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.PoolRefIdeal.Windows

open Cert.PoolRefIdeal Cert.PoolRefIdeal.Gen Cert.PoolRefIdeal.Read Cert.PoolWindow

/-- The mean depends on the group's number alone. -/
theorem same (x : FVec Ideal S4x2048x1152 .f32) (b : Fin 4) (c : Fin 256) (r : ℕ) (g k : Fin 4) (h : (g : ℕ) = (k : ℕ)) :
    mean (column x b k c) (k : ℕ) r = mean (column x b g c) (g : ℕ) r := by
  have e : g = k := Fin.ext h
  rw [e]

/-- The four groups side by side. -/
theorem stacked (x0 : FVec Ideal S4x2048x1152 .f32) (j : S4x2048x4x256.Idx) :
    val_main_v120 (F := Ideal) x0 j = mean (column x0 (j 0) (j 2) (j 3)) (j 2) (j 1) := by
  have h0 := mean_0 x0
  have h1 := mean_1 x0
  have h2 := mean_2 x0
  have h3 := mean_3 x0
  unfold val_main_v120 val_main_v119 val_main_v118 val_main_v117 val_main_v116
  generalize val_main_v16 (F := Ideal) x0 = u0 at *
  generalize val_main_v33 (F := Ideal) x0 = u1 at *
  generalize val_main_v62 (F := Ideal) x0 = u2 at *
  generalize val_main_v115 (F := Ideal) x0 = u3 at *
  pointwise
  simp only [h0, h1, h2, h3]
  have hj : (j 2 : ℕ) < 4 := (j 2).isLt
  obtain h | h | h | h : (j 2 : ℕ) = 0 ∨ (j 2 : ℕ) = 1 ∨ (j 2 : ℕ) = 2 ∨ (j 2 : ℕ) = 3 := by omega
  · rw [dif_pos (by omega)]; exact same x0 _ _ _ (j 2) 0 h
  · rw [dif_neg (by omega), dif_pos (by omega)]; exact same x0 _ _ _ (j 2) 1 h
  · rw [dif_neg (by omega), dif_neg (by omega), dif_pos (by omega)]; exact same x0 _ _ _ (j 2) 2 h
  · rw [dif_neg (by omega), dif_neg (by omega), dif_neg (by omega)]; exact same x0 _ _ _ (j 2) 3 h

/-- The reference at an index: the group's map of the means, and the channel's scale. -/
theorem result (x0 : FVec Ideal S4x2048x1152 .f32) (x1 : FVec Ideal S4x256x256 .f32) (x2 : FVec Ideal S1024 .f32) (j : S4x2048x1024.Idx) :
    val_main_v127 (F := Ideal) x0 x1 x2 j
      = (∑ x : Fin 256, (x1 (ix3 ⟨(j 2 : ℕ) / 256, by have h : (j 2 : ℕ) < 1024 := (j 2).isLt; omega⟩ x ⟨(j 2 : ℕ) % 256, by omega⟩) : EReal)
          * mean (column x0 (j 0) ⟨(j 2 : ℕ) / 256, by have h : (j 2 : ℕ) < 1024 := (j 2).isLt; omega⟩ x) ((j 2 : ℕ) / 256) (j 1)) * (x2 (ix1 (j 2)) : EReal) := by
  have hs := stacked x0
  unfold val_main_v127 val_main_v126 val_main_v123 val_main_v122 val_main_v121
  generalize val_main_v120 (F := Ideal) x0 = u at *
  pointwise [val_main_v125, val_main_v124]
  simp only [hs]
  rfl

end Cert.PoolRefIdeal.Windows

end
-- ==== Proof.Pool.lean ====
/- The pooling mixer: each step of the kernel stores one group of one sequence, and that is the reference at the group's channels. -/
module

public import proofs.«01_k».proof.Defs
public import proofs.«01_k».proof.Proof.Gen.PoolIdeal.Frame
public import proofs.«01_k».proof.Proof.Gen.PoolRefIdeal.Run
public import proofs.«01_k».proof.Proof.Gen.PoolRefIdeal.Read
public import proofs.«01_k».proof.Proof.PoolTile
public import proofs.«01_k».proof.Proof.PoolRef
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.PoolIdeal.Product

open Cert.PoolIdeal Cert.PoolIdeal.Gen Cert.PoolWindow
open Cert.PoolRefIdeal.Windows (column)

/-- The reference's result. -/
abbrev result (x0 : FVec Ideal S4x2048x1152 .f32) (x1 : FVec Ideal S4x256x256 .f32) (x2 : FVec Ideal S1024 .f32) : FVec Ideal S4x2048x1024 .bf16 :=
  Cert.PoolRefIdeal.Read.val_main_v127 (F := Ideal) x0 x1 x2

variable (m : (ℓ : Loc nD τ sig) → Buf (Elt Ideal) ℓ)

theorem idx : ∀ t : Fin cfg0.N, win0_0.index t = ![(grid0.coords t 0).val, 0, (grid0.coords t 1).val] ∧ win0_1.index t = ![0, (grid0.coords t 1).val, 0, 0]
    ∧ win0_2.index t = ![0, 0, (grid0.coords t 1).val] ∧ win0_3.index t = ![(grid0.coords t 0).val, 0, (grid0.coords t 1).val]
    ∧ (grid0.coords t 0).val < 4 ∧ (grid0.coords t 1).val < 4 :=
  (by decide +kernel : ∀ t : Fin grid0.N, _)

/-- The step's sequence. -/
def seq (t : Fin cfg0.N) : Fin 4 := ⟨(grid0.coords t 0).val, (idx t).2.2.2.2.1⟩

/-- The step's group. -/
def grp (t : Fin cfg0.N) : Fin 4 := ⟨(grid0.coords t 1).val, (idx t).2.2.2.2.2⟩

/-- The rows that a step reads, in the input. -/
theorem rows_read (c : Dev nD) (t : Fin cfg0.N) (n : Fin 2048) (x : Fin 256) : (X0_0 m c t : FVec Ideal S1x2048x256 .f32) (ix3 0 n x)
    = (m ((c : Thread nD τ).loc main_arg0) : FVec Ideal S4x2048x1152 .f32) (ix3 (seq t) n ⟨256 * (grp t : ℕ) + (x : ℕ), by have := (grp t).isLt; omega⟩) := by
  unfold X0_0 Pipeline.Window.fill
  rw [dif_pos (moved0_0 t _)]
  blk_simp [iblk]
  entry_read
  blk_ext [idx t, seq, grp]

theorem line_read (c : Dev nD) (t : Fin cfg0.N) (x : Fin 256) :
    line (X0_0 m c t) x = column (m ((c : Thread nD τ).loc main_arg0)) (seq t) (grp t) x := by
  funext n
  unfold line column
  by_cases h : n < 2048
  · rw [dif_pos h, dif_pos h]
    exact rows_read m c t ⟨n, h⟩ x
  · rw [dif_neg h, dif_neg h]

/-- The group's map, in the argument. -/
theorem map_read (c : Dev nD) (t : Fin cfg0.N) (x z : Fin 256) : (iblk m c 1 t : FVec Ideal S1x1x256x256 .f32) (ix4 0 0 x z)
    = (m ((c : Thread nD τ).loc main_arg1) : FVec Ideal S4x256x256 .f32) (ix3 (grp t) x z) := by
  blk_point [iblk, V, idx t, grp]

/-- The group's scales, in the argument. -/
theorem scale_read (c : Dev nD) (t : Fin cfg0.N) (z : Fin 256) : (iblk m c 2 t : FVec Ideal S1x1x256 .f32) (ix3 0 0 z)
    = (m ((c : Thread nD τ).loc main_arg2) : FVec Ideal S1024 .f32) (ix1 ⟨256 * (grp t : ℕ) + (z : ℕ), by have := (grp t).isLt; omega⟩) := by
  blk_point [iblk, V, idx t, grp]

/-- The body's result at an index, from what is divided and subtracted. -/
theorem out_at (v1 v32 : FVec Ideal S2048x256 .f32) (v37 : IVec S2048x256 32) (v42 : FVec Ideal S1x1x256x256 .f32) (v46 : FVec Ideal S1x1x256 .f32)
    (y : S1x2048x256.Idx) : (k0_pay1 (F := Ideal) v1 v32 v37 v42 v46 y : EReal)
      = (∑ x : Fin 256, (Ideal.div (v32 (ix2 (y 1) x)) (FloatOps.sitofp (F := Ideal) FTy.f32 (v37 (ix2 (y 1) x)) : EReal) - v1 (ix2 (y 1) x) : EReal)
          * v42 (ix4 0 0 x (y 2))) * v46 (ix3 0 0 (y 2)) := by
  pointwise [k0_pay1]

/-- What a step stores at an index is the reference at an index of the same sequence and row, in the step's group. -/
theorem core (c : Dev nD) (t : Fin cfg0.N) (r : Fin 2048) (z : Fin 256) (j : S4x2048x1024.Idx) (h0 : (j 0 : ℕ) = (seq t : ℕ)) (h1 : (j 1 : ℕ) = (r : ℕ))
    (h2 : (j 2 : ℕ) = 256 * (grp t : ℕ) + (z : ℕ)) :
    ((∑ x : Fin 256, (mean (line (X0_0 m c t) x) (grp t) r : EReal) * ((iblk m c 1 t : FVec Ideal S1x1x256x256 .f32) (ix4 0 0 x z) : EReal))
        * ((iblk m c 2 t : FVec Ideal S1x1x256 .f32) (ix3 0 0 z) : EReal) : EReal)
      = result (m ((c : Thread nD τ).loc main_arg0)) (m ((c : Thread nD τ).loc main_arg1)) (m ((c : Thread nD τ).loc main_arg2)) j := by
  refine Eq.trans ?_ (Cert.PoolRefIdeal.Windows.result _ _ _ j).symm
  have hj : (j 2 : ℕ) < 1024 := (j 2).isLt
  have hg := (grp t).isLt
  have e0 : (j 0 : Fin 4) = seq t := Fin.ext h0
  have e2 : (⟨(j 2 : ℕ) / 256, by omega⟩ : Fin 4) = grp t := Fin.ext (by show (j 2 : ℕ) / 256 = _; omega)
  have e3 : (⟨(j 2 : ℕ) % 256, by omega⟩ : Fin 256) = z := Fin.ext (by show (j 2 : ℕ) % 256 = _; omega)
  have e4 : (j 2 : Fin 1024) = ⟨256 * (grp t : ℕ) + (z : ℕ), by omega⟩ := Fin.ext h2
  have e5 : (j 2 : ℕ) / 256 = (grp t : ℕ) := by omega
  refine congrArg₂ (· * ·) (Finset.sum_congr rfl fun x _ => ?_) ?_
  · refine Eq.trans (b := (mean (column (m ((c : Thread nD τ).loc main_arg0)) (seq t) (grp t) x) (grp t) r : EReal)
      * ((m ((c : Thread nD τ).loc main_arg1) : FVec Ideal S4x256x256 .f32) (ix3 (grp t) x z) : EReal)) ?_ ?_
    · rw [line_read, map_read]
    · rw [mul_comm]
      refine congrArg₂ (· * ·) ?_ ?_
      · exact congrArg₂ (fun a b => (m ((c : Thread nD τ).loc main_arg1) : FVec Ideal S4x256x256 .f32) (ix3 a x b)) e2.symm e3.symm
      · show mean (column _ (seq t) (grp t) x) (grp t) r = mean (column _ (j 0) ⟨(j 2 : ℕ) / 256, _⟩ x) ((j 2 : ℕ) / 256) (j 1)
        exact congr (congr (congrArg mean (congrArg₂ (fun a b => column (m ((c : Thread nD τ).loc main_arg0)) a b x) e0.symm e2.symm)) e5.symm) h1.symm
  · rw [scale_read]
    exact congrArg (fun a => (m ((c : Thread nD τ).loc main_arg2) : FVec Ideal S1024 .f32) (ix1 a)) e4.symm

theorem point (c : Dev nD) (t : Fin cfg0.N) (y : S1x2048x256.Idx) :
    out0_A_3 c (grid0.coords t) (ms0_0 t) (hs0_0 t) (ms0_1 t) (hs0_1 t) (ms0_2 t) (hs0_2 t) (ms0_3 t) (hs0_3 t) (X0_0 m c t) (iblk m c 1 t) (iblk m c 2 t) y
      = result (m ((c : Thread nD τ).loc main_arg0)) (m ((c : Thread nD τ).loc main_arg1)) (m ((c : Thread nD τ).loc main_arg2)) (((cfg0.win 3).blk t).view.emb y) := by
  frame_out
  refine (out_at _ _ _ _ _ y).trans ?_
  refine Eq.trans (congrArg₂ (· * ·) (Finset.sum_congr rfl fun x _ =>
    congrArg₂ (· * ·) (centred (grid0.coords t) (X0_0 m c t) (ix2 (y 1) x)) rfl) rfl) (core m c t (y 1) (y 2) _ ?_ ?_ ?_)
  all_goals (have h0 : (y 0 : ℕ) < 1 := (y 0).isLt; blk_simp [idx t, seq, grp] <;> first | done | omega | (show _ = 256 * (grid0.coords t 1).val + _; omega))

/-- The result array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  exact point m c t y

end Cert.PoolIdeal.Product

/-- The kernel and the reference agree. -/
theorem Cert.Proof.algebraic_Pool : Cert.algebraic_PoolIdeal_PoolRefIdeal (hPoolIdeal := Cert.PoolIdeal.Gen.facts)
    (hPoolRefIdeal := Cert.PoolRefIdeal.Gen.facts) := by
  pair_intro
  · run_from Cert.PoolIdeal.Gen.run_main m g
  · refine (θ_run _ _ _).mono (fun r h c => ?_) (Cert.PoolRefIdeal.Value.run m' g')
    refine ⟨(h c).1.trans ((Cert.PoolRefIdeal.Read.val_main_v127_eq _).trans ?_), (h c).2⟩
    obtain ⟨e0, e1, e2⟩ := hagree c
    refine (congr (congr (congrArg (Cert.PoolRefIdeal.Read.val_main_v127 (F := Ideal)) e0) e1) e2).trans ?_
    exact (Cert.PoolIdeal.Product.final m c).symm

end
-- ==== Proof.Mod.lean ====
/- The conditioning of every layer: each tile of the kernel is the same tile of the layer's product with the conditioning's gated rows. -/
module

public import proofs.«01_k».proof.Defs
public import proofs.«01_k».proof.Proof.Gen.ModIdeal.Frame
public import proofs.«01_k».proof.Proof.Gen.ModRefIdeal.Run
public import proofs.«01_k».proof.Proof.Gen.ModRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.ModIdeal.Product

open Cert.ModIdeal Cert.ModIdeal.Gen

/-- The reference's result. -/
abbrev result (x0 : FVec Ideal S4x4096 .f32) (x1 : FVec Ideal S2x4096x24576 .f32) (x2 : FVec Ideal S2x24576 .f32) : FVec Ideal S2x8x24576 .f32 :=
  Cert.ModRefIdeal.Read.val_main_v21 (F := Ideal) x0 x1 x2

variable (m : (ℓ : Loc nD τ sig) → Buf (Elt Ideal) ℓ)

theorem idx : ∀ t : Fin cfg0.N, win0_0.index t = ![0, 0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val]
    ∧ (grid0.coords t 0).val < 2 :=
  (by decide +kernel : ∀ t : Fin grid0.N, _)

/-- The conditioning's rows, four more of zeros beneath. -/
def under (x : FVec Ideal S4x4096 .f32) : FVec Ideal S8x4096 .f32 :=
  pad S8x4096 ![0, 0] ![4, 0] ![0, 0] x (sitofp .f32 (constantI S_ 32 0#32)) pads_S4x4096_S8x4096_040_000 h_S_

theorem V_under (c : Dev nD) : V m c main_v0 = under (m ((c : Thread nD τ).loc main_arg0)) := by
  unfold_abbrev_sides
  after_reads_simp
  rfl

theorem V_bias (c : Dev nD) : V m c main_v1 = shapeCast S2x1x24576 (m ((c : Thread nD τ).loc main_arg2) : FVec Ideal S2x24576 .f32) shapeCasts_S2x24576_S2x1x24576 := by
  unfold_abbrev_sides
  after_reads_simp
  rfl

theorem padded (c : Dev nD) (j : S8x4096.Idx) :
    (V m c main_v0 : FVec Ideal S8x4096 .f32) j
      = (if h : (j 0 : ℕ) < 4 then (m ((c : Thread nD τ).loc main_arg0) : FVec Ideal S4x4096 .f32) (ix2 ⟨(j 0 : ℕ), h⟩ (j 1)) else (0 : EReal) : EReal) := by
  rw [V_under]
  generalize (m ((c : Thread nD τ).loc main_arg0) : FVec Ideal S4x4096 .f32) = x
  pointwise [under]
  have z : (FloatOps.sitofp (F := Ideal) FTy.f32 0#32 : EReal) = 0 := by
    first
      | rfl
      | norm_num [FloatOps.sitofp]
      | simp [FloatOps.sitofp]
  rw [z]

/-- The bias at an index. -/
theorem bias (c : Dev nD) (j : S2x1x24576.Idx) :
    (V m c main_v1 : FVec Ideal S2x1x24576 .f32) j = (m ((c : Thread nD τ).loc main_arg2) : FVec Ideal S2x24576 .f32) (ix2 (j 0) (j 2)) := by
  rw [V_bias]
  refine congrArg (m ((c : Thread nD τ).loc main_arg2) : FVec Ideal S2x24576 .f32) ?_
  have h1 : (j 1 : ℕ) < 1 := (j 1).isLt
  exact Shape.reshapeEquiv_eq_of_vals (s := S2x24576) (s' := S2x1x24576) _ j (ix2 (j 0) (j 2))
    _ _ (rowMajor_val2 (d := ![2, 24576]) (ix2 (j 0) (j 2)) 24576 rfl)
    (rowMajor_val3 (d := ![2, 1, 24576]) j 24576 24576 rfl rfl) (by show (j 0 : ℕ) * 24576 + (j 2 : ℕ) = _; omega)

/-- What the body stores at an index of a tile is the reference at the tile's place in the whole array. -/
theorem point (c : Dev nD) (t : Fin cfg0.N) (y) : k0_pay1 (iblk m c 0 t) (iblk m c 1 t) (iblk m c 2 t) y
    = result (m ((c : Thread nD τ).loc main_arg0)) (m ((c : Thread nD τ).loc main_arg1)) (m ((c : Thread nD τ).loc main_arg2)) (((cfg0.win 3).blk t).view.emb y) := by
  pointwise [k0_pay1, result, Cert.ModRefIdeal.Read.val_main_v21, Cert.ModRefIdeal.Read.val_main_v20, Cert.ModRefIdeal.Read.val_main_v19, Cert.ModRefIdeal.Read.val_main_v18, Cert.ModRefIdeal.Read.val_main_v17, Cert.ModRefIdeal.Read.val_main_v16, Cert.ModRefIdeal.Read.val_main_v15, Cert.ModRefIdeal.Read.val_main_v14, Cert.ModRefIdeal.Read.val_main_v13, Cert.ModRefIdeal.Read.val_main_v12, Cert.ModRefIdeal.Read.val_main_v11, Cert.ModRefIdeal.Read.val_main_v10, Cert.ModRefIdeal.Read.val_main_v9, Cert.ModRefIdeal.Read.val_main_v8, Cert.ModRefIdeal.Read.val_main_v7, Cert.ModRefIdeal.Read.val_main_v6, Cert.ModRefIdeal.Read.val_main_v5, Cert.ModRefIdeal.Read.val_main_v4, Cert.ModRefIdeal.Read.val_main_v3, Cert.ModRefIdeal.Read.val_main_v2, Cert.ModRefIdeal.Read.val_main_call0_v5, Cert.ModRefIdeal.Read.val_main_call0_v4, Cert.ModRefIdeal.Read.val_main_call0_cst_0, Cert.ModRefIdeal.Read.val_main_call0_v3, Cert.ModRefIdeal.Read.val_main_call0_v2, Cert.ModRefIdeal.Read.val_main_call0_cst, Cert.ModRefIdeal.Read.val_main_call0_v1, Cert.ModRefIdeal.Read.val_main_call0_v0, Cert.ModRefIdeal.Read.val_main_v1, Cert.ModRefIdeal.Read.val_main_v0, Cert.ModRefIdeal.Read.val_main_cst]
  have hx : ∀ x : Fin 4096, (iblk m c 0 t : FVec Ideal S8x4096 .f32) (ix2 (y 1) x)
      = (if h : (y 1 : ℕ) < 4 then (m ((c : Thread nD τ).loc main_arg0) : FVec Ideal S4x4096 .f32) (ix2 ⟨(y 1 : ℕ), h⟩ x) else (0 : EReal) : EReal) := by
    intro x
    blk_simp [iblk]
    refine (padded m c _).trans ?_
    blk_simp [idx t]
    have e : (win0_0.blk t).view.emb (ix2 (y 1) x) 1 = x := by
      apply Fin.ext
      blk_simp [idx t]
    rw [e]
  have hb : (iblk m c 2 t : FVec Ideal S1x1x512 .f32) (ix3 0 0 (y 2))
      = (m ((c : Thread nD τ).loc main_arg2) : FVec Ideal S2x24576 .f32) (ix2 ((((cfg0.win 3).blk t).view.emb y 0)) ((((cfg0.win 3).blk t).view.emb y 2))) := by
    blk_simp [iblk]
    refine (bias m c _).trans ?_
    blk_ext [idx t]
  simp only [hx, hb]
  blk_simp [idx t]
  have hw : ∀ x : Fin 4096, (iblk m c 1 t : FVec Ideal S1x4096x512 .f32) (ix3 0 x (y 2))
      = (m ((c : Thread nD τ).loc main_arg1) : FVec Ideal S2x4096x24576 .f32) (ix3 (((cfg0.win 3).blk t).view.emb y 0) x (((cfg0.win 3).blk t).view.emb y 2)) := by
    intro x
    blk_point [iblk, V, idx t]
  simp only [hw]
  have h2 := (idx t).2.2.2.2
  have e0 : ∀ n : Fin 2, n.val = (grid0.coords t 0).val → (win0_3.blk t).view.emb y 0 = n := by
    intro n hn
    apply Fin.ext
    blk_simp [idx t]
    omega
  by_cases h : (grid0.coords t 0).val < 1
  · rw [dif_pos h]
    rw [e0 0 (by show 0 = _; omega)]
    rfl
  · rw [dif_neg h]
    rw [e0 1 (by show 1 = _; omega)]
    rfl

/-- The result array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.ModIdeal.Product

/-- The kernel and the reference agree. -/
theorem Cert.Proof.algebraic_Mod : Cert.algebraic_ModIdeal_ModRefIdeal (hModIdeal := Cert.ModIdeal.Gen.facts)
    (hModRefIdeal := Cert.ModRefIdeal.Gen.facts) := by
  pair_intro
  · run_from Cert.ModIdeal.Gen.run_main m g
    · exact Cert.ModIdeal.Gen.V_main_arg0 m c
    · exact Cert.ModIdeal.Gen.V_main_arg2 m c
  · refine (θ_run _ _ _).mono (fun r h c => ?_) (Cert.ModRefIdeal.Value.run m' g')
    refine ⟨(h c).1.trans ((Cert.ModRefIdeal.Read.val_main_v21_eq _ _ _).trans ?_), (h c).2⟩
    obtain ⟨e0, e1, e2⟩ := hagree c
    rw [e0, e1, e2]
    exact (Cert.ModIdeal.Product.final m c).symm

end
-- ==== Proof.PreNorm.lean ====
/- The first norm of the layer's rows, modulated by the conditioning: each block of the kernel's rows is the same rows of the reference. -/
module

public import proofs.«01_k».proof.Defs
public import proofs.«01_k».proof.Proof.Gen.PreNormIdeal.Frame
public import proofs.«01_k».proof.Proof.Gen.PreNormRefIdeal.Run
public import proofs.«01_k».proof.Proof.Gen.PreNormRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.PreNormIdeal.Product

open Cert.PreNormIdeal Cert.PreNormIdeal.Gen

/-- The reference's result. -/
abbrev result (x0 : FVec Ideal S4x2048x4096 .f32) (x1 : FVec Ideal S2x4x4096 .f32) (x2 : FVec Ideal S2x4x6x1x4096 .f32) : FVec Ideal S4x2048x4096 .bf16 :=
  Cert.PreNormRefIdeal.Read.val_main_v25 (F := Ideal) x0 x1 x2

variable (m : (ℓ : Loc nD τ sig) → Buf (Elt Ideal) ℓ)

theorem idx : ∀ t : Fin cfg0.N, win0_0.index t = ![(grid0.coords t 0).val, (grid0.coords t 1).val, 0] ∧ win0_1.index t = ![0, 0, 0, 0]
    ∧ win0_2.index t = ![0, (grid0.coords t 0).val, 1, 0, 0] ∧ win0_3.index t = ![0, (grid0.coords t 0).val, 0, 0, 0]
    ∧ win0_4.index t = ![(grid0.coords t 0).val, (grid0.coords t 1).val, 0] :=
  (by decide +kernel : ∀ t : Fin grid0.N, _)

/-- What the body stores at an index of a tile is the reference at the tile's place in the whole array. -/
theorem point (c : Dev nD) (t : Fin cfg0.N) (y) : k0_pay1 (iblk m c 0 t) (iblk m c 1 t) (iblk m c 2 t) (iblk m c 3 t) y
    = result (m ((c : Thread nD τ).loc main_arg0)) (m ((c : Thread nD τ).loc main_arg1)) (m ((c : Thread nD τ).loc main_arg2)) (((cfg0.win 4).blk t).view.emb y) := by
  pointwise [k0_pay1, result, Cert.PreNormRefIdeal.Read.val_main_v25, Cert.PreNormRefIdeal.Read.val_main_v24, Cert.PreNormRefIdeal.Read.val_main_v23, Cert.PreNormRefIdeal.Read.val_main_v22, Cert.PreNormRefIdeal.Read.val_main_v21, Cert.PreNormRefIdeal.Read.val_main_v20, Cert.PreNormRefIdeal.Read.val_main_v19, Cert.PreNormRefIdeal.Read.val_main_v18, Cert.PreNormRefIdeal.Read.val_main_v17, Cert.PreNormRefIdeal.Read.val_main_cst_2, Cert.PreNormRefIdeal.Read.val_main_v16, Cert.PreNormRefIdeal.Read.val_main_v15, Cert.PreNormRefIdeal.Read.val_main_v14, Cert.PreNormRefIdeal.Read.val_main_v13, Cert.PreNormRefIdeal.Read.val_main_v12, Cert.PreNormRefIdeal.Read.val_main_v11, Cert.PreNormRefIdeal.Read.val_main_v10, Cert.PreNormRefIdeal.Read.val_main_v9, Cert.PreNormRefIdeal.Read.val_main_v8, Cert.PreNormRefIdeal.Read.val_main_v7, Cert.PreNormRefIdeal.Read.val_main_cst_1, Cert.PreNormRefIdeal.Read.val_main_v6, Cert.PreNormRefIdeal.Read.val_main_v5, Cert.PreNormRefIdeal.Read.val_main_cst_0, Cert.PreNormRefIdeal.Read.val_main_v4, Cert.PreNormRefIdeal.Read.val_main_v3, Cert.PreNormRefIdeal.Read.val_main_cst, Cert.PreNormRefIdeal.Read.val_main_v2, Cert.PreNormRefIdeal.Read.val_main_v1, Cert.PreNormRefIdeal.Read.val_main_v0]
  blk_point [iblk, V, idx t]

/-- The result array after the run. -/
theorem final (c : Dev nD) : (dats m 0 c).arrAt 4 (cfgs 0).N
    = result (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

end Cert.PreNormIdeal.Product

/-- The kernel and the reference agree. -/
theorem Cert.Proof.algebraic_PreNorm : Cert.algebraic_PreNormIdeal_PreNormRefIdeal (hPreNormIdeal := Cert.PreNormIdeal.Gen.facts)
    (hPreNormRefIdeal := Cert.PreNormRefIdeal.Gen.facts) := by
  pair_intro
  · run_from Cert.PreNormIdeal.Gen.run_main m g
  · run_from Cert.PreNormRefIdeal.Value.run m' g'
    exact (Cert.PreNormIdeal.Product.final m c).symm

end
-- ==== Proof.Resid.lean ====
/- The residual after the layer's mixers and the norm before its second half: each block of the kernel's rows is the same rows of the reference, for both results. -/
module

public import proofs.«01_k».proof.Defs
public import proofs.«01_k».proof.Proof.Gen.ResidIdeal.Frame
public import proofs.«01_k».proof.Proof.Gen.ResidRefIdeal.Run
public import proofs.«01_k».proof.Proof.Gen.ResidRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.ResidIdeal.Product

open Cert.ResidIdeal Cert.ResidIdeal.Gen

/-- The reference's first result: the rows after the residual. -/
abbrev rows (x0 x1 : FVec Ideal S4x2048x4096 .f32) (x2 : FVec Ideal S2x4x4096 .f32) (x3 : FVec Ideal S2x4x6x1x4096 .f32) : FVec Ideal S4x2048x4096 .f32 :=
  Cert.ResidRefIdeal.Read.val_main_v19 (F := Ideal) x0 x1 x2 x3

/-- The reference's second result: the rows normed and modulated. -/
abbrev normed (x0 x1 : FVec Ideal S4x2048x4096 .f32) (x2 : FVec Ideal S2x4x4096 .f32) (x3 : FVec Ideal S2x4x6x1x4096 .f32) : FVec Ideal S4x2048x4096 .bf16 :=
  Cert.ResidRefIdeal.Read.val_main_v45 (F := Ideal) x0 x1 x2 x3

variable (m : (ℓ : Loc nD τ sig) → Buf (Elt Ideal) ℓ)

theorem idx : ∀ t : Fin cfg0.N, win0_0.index t = ![(grid0.coords t 0).val, (grid0.coords t 1).val, 0] ∧ win0_1.index t = ![(grid0.coords t 0).val, (grid0.coords t 1).val, 0]
    ∧ win0_2.index t = ![0, 1, 0, 0] ∧ win0_3.index t = ![0, (grid0.coords t 0).val, 2, 0, 0]
    ∧ win0_4.index t = ![0, 2, 0, 0] ∧ win0_5.index t = ![0, (grid0.coords t 0).val, 4, 0, 0]
    ∧ win0_6.index t = ![0, (grid0.coords t 0).val, 3, 0, 0]
    ∧ win0_7.index t = ![(grid0.coords t 0).val, (grid0.coords t 1).val, 0] ∧ win0_8.index t = ![(grid0.coords t 0).val, (grid0.coords t 1).val, 0]
    ∧ (grid0.coords t 0).val < 4 ∧ (grid0.coords t 1).val < 8 :=
  (by decide +kernel : ∀ t : Fin grid0.N, _)

/-- The block of rows of `s` that point `t` works on. -/
def piece (s : FVec Ideal S4x2048x4096 .f32) (t : Fin cfg0.N) : FVec Ideal S256x4096 .f32 :=
  fun y => s (ix3 ⟨(grid0.coords t 0).val, (idx t).2.2.2.2.2.2.2.2.2.1⟩
    ⟨(grid0.coords t 1).val * 256 + (y 0).val, by have := (idx t).2.2.2.2.2.2.2.2.2.2; have h : (y 0).val < 256 := (y 0).isLt; omega⟩ (y 1))

/-- The rows after the residual, a block at a time. -/
theorem rows_eq (c : Dev nD) (t : Fin cfg0.N) : k0_pay2 (iblk m c 0 t) (iblk m c 3 t) (iblk m c 1 t) (iblk m c 2 t)
    = piece (rows (m ((c : Thread nD τ).loc main_arg0)) (m ((c : Thread nD τ).loc main_arg1)) (m ((c : Thread nD τ).loc main_arg2)) (m ((c : Thread nD τ).loc main_arg3))) t := by
  funext y
  pointwise [k0_pay2, piece, rows, Cert.ResidRefIdeal.Read.val_main_v19, Cert.ResidRefIdeal.Read.val_main_v18, Cert.ResidRefIdeal.Read.val_main_v17, Cert.ResidRefIdeal.Read.val_main_v16, Cert.ResidRefIdeal.Read.val_main_v15, Cert.ResidRefIdeal.Read.val_main_v14, Cert.ResidRefIdeal.Read.val_main_v13, Cert.ResidRefIdeal.Read.val_main_v12, Cert.ResidRefIdeal.Read.val_main_v11, Cert.ResidRefIdeal.Read.val_main_v10, Cert.ResidRefIdeal.Read.val_main_v9, Cert.ResidRefIdeal.Read.val_main_cst_1, Cert.ResidRefIdeal.Read.val_main_v8, Cert.ResidRefIdeal.Read.val_main_v7, Cert.ResidRefIdeal.Read.val_main_cst_0, Cert.ResidRefIdeal.Read.val_main_v6, Cert.ResidRefIdeal.Read.val_main_v5, Cert.ResidRefIdeal.Read.val_main_cst, Cert.ResidRefIdeal.Read.val_main_v4, Cert.ResidRefIdeal.Read.val_main_v3, Cert.ResidRefIdeal.Read.val_main_v2, Cert.ResidRefIdeal.Read.val_main_v1, Cert.ResidRefIdeal.Read.val_main_v0]
  blk_point [iblk, V, idx t]

/-- The first result at an index of a block. -/
theorem point7 (c : Dev nD) (t : Fin cfg0.N) (y) : k0_pay3 (iblk m c 0 t) (iblk m c 3 t) (iblk m c 1 t) (iblk m c 2 t) y
    = rows (m ((c : Thread nD τ).loc main_arg0)) (m ((c : Thread nD τ).loc main_arg1)) (m ((c : Thread nD τ).loc main_arg2)) (m ((c : Thread nD τ).loc main_arg3)) (((cfg0.win 7).blk t).view.emb y) := by
  unfold k0_pay3
  rw [rows_eq]
  generalize rows (m ((c : Thread nD τ).loc main_arg0)) (m ((c : Thread nD τ).loc main_arg1)) (m ((c : Thread nD τ).loc main_arg2)) (m ((c : Thread nD τ).loc main_arg3)) = s
  pointwise [piece]
  blk_point [idx t]

/-- The second result at an index of a block. -/
theorem point8 (c : Dev nD) (t : Fin cfg0.N) (y) :
    k0_pay1 (k0_pay2 (iblk m c 0 t) (iblk m c 3 t) (iblk m c 1 t) (iblk m c 2 t)) (k0_pay4 (iblk m c 4 t))
        (k0_pay5 (iblk m c 0 t) (iblk m c 3 t) (iblk m c 1 t) (iblk m c 2 t)) (iblk m c 5 t) (iblk m c 6 t) y
    = normed (m ((c : Thread nD τ).loc main_arg0)) (m ((c : Thread nD τ).loc main_arg1)) (m ((c : Thread nD τ).loc main_arg2)) (m ((c : Thread nD τ).loc main_arg3)) (((cfg0.win 8).blk t).view.emb y) := by
  unfold k0_pay5
  rw [rows_eq]
  unfold normed rows Cert.ResidRefIdeal.Read.val_main_v45 Cert.ResidRefIdeal.Read.val_main_v44 Cert.ResidRefIdeal.Read.val_main_v43 Cert.ResidRefIdeal.Read.val_main_v42 Cert.ResidRefIdeal.Read.val_main_v41 Cert.ResidRefIdeal.Read.val_main_v40 Cert.ResidRefIdeal.Read.val_main_v39 Cert.ResidRefIdeal.Read.val_main_v38 Cert.ResidRefIdeal.Read.val_main_v37 Cert.ResidRefIdeal.Read.val_main_cst_5 Cert.ResidRefIdeal.Read.val_main_v36 Cert.ResidRefIdeal.Read.val_main_v35 Cert.ResidRefIdeal.Read.val_main_v34 Cert.ResidRefIdeal.Read.val_main_v33 Cert.ResidRefIdeal.Read.val_main_v32 Cert.ResidRefIdeal.Read.val_main_v31 Cert.ResidRefIdeal.Read.val_main_v30 Cert.ResidRefIdeal.Read.val_main_v29 Cert.ResidRefIdeal.Read.val_main_v28 Cert.ResidRefIdeal.Read.val_main_v27 Cert.ResidRefIdeal.Read.val_main_cst_4 Cert.ResidRefIdeal.Read.val_main_v26 Cert.ResidRefIdeal.Read.val_main_v25 Cert.ResidRefIdeal.Read.val_main_cst_3 Cert.ResidRefIdeal.Read.val_main_v24 Cert.ResidRefIdeal.Read.val_main_v23 Cert.ResidRefIdeal.Read.val_main_cst_2 Cert.ResidRefIdeal.Read.val_main_v22 Cert.ResidRefIdeal.Read.val_main_v21 Cert.ResidRefIdeal.Read.val_main_v20
  generalize Cert.ResidRefIdeal.Read.val_main_v19 (F := Ideal) (m ((c : Thread nD τ).loc main_arg0)) (m ((c : Thread nD τ).loc main_arg1)) (m ((c : Thread nD τ).loc main_arg2)) (m ((c : Thread nD τ).loc main_arg3)) = s
  pointwise [k0_pay1, k0_pay4, piece]
  blk_point [iblk, V, idx t]

/-- The first result array after the run. -/
theorem final7 (c : Dev nD) : (dats m 0 c).arrAt 7 (cfgs 0).N = rows (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point7 m c t y

/-- The second result array after the run. -/
theorem final8 (c : Dev nD) : (dats m 0 c).arrAt 8 (cfgs 0).N = normed (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]; frame_out
  exact point8 m c t y

end Cert.ResidIdeal.Product

/-- The kernel and the reference agree. -/
theorem Cert.Proof.algebraic_Resid : Cert.algebraic_ResidIdeal_ResidRefIdeal (hResidIdeal := Cert.ResidIdeal.Gen.facts)
    (hResidRefIdeal := Cert.ResidRefIdeal.Gen.facts) := by
  pair_intro
  · run_from Cert.ResidIdeal.Gen.run_main m g
  · refine (θ_run _ _ _).mono (fun r h c => ?_) (Cert.ResidRefIdeal.Value.run m' g')
    refine ⟨(h c).1.trans ((Cert.ResidRefIdeal.Read.val_main_v19_eq _ _ _ _).trans ?_),
      (h c).2.1.trans ((Cert.ResidRefIdeal.Read.val_main_v45_eq m' c).trans ?_), (h c).2.2⟩
    all_goals
      obtain ⟨e0, e1, e2, e3⟩ := hagree c
      rw [e0, e1, e2, e3]
    · exact (Cert.ResidIdeal.Product.final7 m c).symm
    · exact (Cert.ResidIdeal.Product.final8 m c).symm

end
-- ==== Proof.Next.lean ====
/- The residual after the layer's second half and the first norm of the next layer: each block of the kernel's rows is the same rows of the reference, for both results. -/
module

public import proofs.«01_k».proof.Defs
public import proofs.«01_k».proof.Proof.Gen.NextIdeal.Frame
public import proofs.«01_k».proof.Proof.Gen.NextRefIdeal.Run
public import proofs.«01_k».proof.Proof.Gen.NextRefIdeal.Read
public import Idealize.ShloMosaic.Lib.Claim
public import Idealize.ShloMosaic.Lib.IdealHost
public import Idealize.ShloMosaic.Lib.StableHlo.RunRead
public import Idealize.ShloMosaic.Lib.Pipeline.ValueKit
public import Idealize.ShloMosaic.Lib.Pointwise.Tactic
public import Idealize.ShloMosaic.Lib.Pointwise.Reshape
public import Idealize.ShloMosaic.Lib.Pointwise.Contract
public import Idealize.ShloMosaic.Lib.Pointwise.SelectCore

@[expose] public section

set_option maxRecDepth 16384

noncomputable section

open Idealize.ShloMosaic Idealize.ShloMosaic.TcCoe Idealize.SL.Sem
open Idealize.ShloMosaic.Pipeline (Dat)

namespace Cert.NextIdeal.Product

open Cert.NextIdeal Cert.NextIdeal.Gen

/-- The reference's first result: the rows after the residual. -/
abbrev rows (x0 x1 : FVec Ideal S4x2048x4096 .f32) (x2 : FVec Ideal S2x4x4096 .f32) (x3 : FVec Ideal S2x4x6x1x4096 .f32) : FVec Ideal S4x2048x4096 .f32 :=
  Cert.NextRefIdeal.Read.val_main_v19 (F := Ideal) x0 x1 x2 x3

/-- The reference's second result: the rows normed and modulated. -/
abbrev normed (x0 x1 : FVec Ideal S4x2048x4096 .f32) (x2 : FVec Ideal S2x4x4096 .f32) (x3 : FVec Ideal S2x4x6x1x4096 .f32) : FVec Ideal S4x2048x4096 .bf16 :=
  Cert.NextRefIdeal.Read.val_main_v45 (F := Ideal) x0 x1 x2 x3

variable (m : (ℓ : Loc nD τ sig) → Buf (Elt Ideal) ℓ)

theorem idx : ∀ t : Fin cfg0.N, win0_0.index t = ![(grid0.coords t 0).val, (grid0.coords t 1).val, 0] ∧ win0_1.index t = ![(grid0.coords t 0).val, (grid0.coords t 1).val, 0]
    ∧ win0_2.index t = ![0, 3, 0, 0] ∧ win0_3.index t = ![0, (grid0.coords t 0).val, 5, 0, 0]
    ∧ win0_4.index t = ![1, 0, 0, 0] ∧ win0_5.index t = ![1, (grid0.coords t 0).val, 1, 0, 0]
    ∧ win0_6.index t = ![1, (grid0.coords t 0).val, 0, 0, 0]
    ∧ win0_7.index t = ![(grid0.coords t 0).val, (grid0.coords t 1).val, 0] ∧ win0_8.index t = ![(grid0.coords t 0).val, (grid0.coords t 1).val, 0]
    ∧ (grid0.coords t 0).val < 4 ∧ (grid0.coords t 1).val < 8 :=
  (by decide +kernel : ∀ t : Fin grid0.N, _)

/-- The block of rows of `s` that point `t` works on. -/
def piece (s : FVec Ideal S4x2048x4096 .f32) (t : Fin cfg0.N) : FVec Ideal S256x4096 .f32 :=
  fun y => s (ix3 ⟨(grid0.coords t 0).val, (idx t).2.2.2.2.2.2.2.2.2.1⟩
    ⟨(grid0.coords t 1).val * 256 + (y 0).val, by have := (idx t).2.2.2.2.2.2.2.2.2.2; have h : (y 0).val < 256 := (y 0).isLt; omega⟩ (y 1))

/-- The rows after the residual, a block at a time. -/
theorem rows_eq (c : Dev nD) (t : Fin cfg0.N) : k0_pay2 (iblk m c 0 t) (iblk m c 3 t) (iblk m c 1 t) (iblk m c 2 t)
    = piece (rows (m ((c : Thread nD τ).loc main_arg0)) (m ((c : Thread nD τ).loc main_arg1)) (m ((c : Thread nD τ).loc main_arg2)) (m ((c : Thread nD τ).loc main_arg3))) t := by
  funext y
  pointwise [k0_pay2, piece, rows, Cert.NextRefIdeal.Read.val_main_v19, Cert.NextRefIdeal.Read.val_main_v18, Cert.NextRefIdeal.Read.val_main_v17, Cert.NextRefIdeal.Read.val_main_v16, Cert.NextRefIdeal.Read.val_main_v15, Cert.NextRefIdeal.Read.val_main_v14, Cert.NextRefIdeal.Read.val_main_v13, Cert.NextRefIdeal.Read.val_main_v12, Cert.NextRefIdeal.Read.val_main_v11, Cert.NextRefIdeal.Read.val_main_v10, Cert.NextRefIdeal.Read.val_main_v9, Cert.NextRefIdeal.Read.val_main_cst_1, Cert.NextRefIdeal.Read.val_main_v8, Cert.NextRefIdeal.Read.val_main_v7, Cert.NextRefIdeal.Read.val_main_cst_0, Cert.NextRefIdeal.Read.val_main_v6, Cert.NextRefIdeal.Read.val_main_v5, Cert.NextRefIdeal.Read.val_main_cst, Cert.NextRefIdeal.Read.val_main_v4, Cert.NextRefIdeal.Read.val_main_v3, Cert.NextRefIdeal.Read.val_main_v2, Cert.NextRefIdeal.Read.val_main_v1, Cert.NextRefIdeal.Read.val_main_v0]
  blk_point [iblk, V, idx t]

/-- The first result at an index of a block. -/
theorem point7 (c : Dev nD) (t : Fin cfg0.N) (y) : k0_pay3 (iblk m c 0 t) (iblk m c 3 t) (iblk m c 1 t) (iblk m c 2 t) y
    = rows (m ((c : Thread nD τ).loc main_arg0)) (m ((c : Thread nD τ).loc main_arg1)) (m ((c : Thread nD τ).loc main_arg2)) (m ((c : Thread nD τ).loc main_arg3)) (((cfg0.win 7).blk t).view.emb y) := by
  unfold k0_pay3
  rw [rows_eq]
  generalize rows (m ((c : Thread nD τ).loc main_arg0)) (m ((c : Thread nD τ).loc main_arg1)) (m ((c : Thread nD τ).loc main_arg2)) (m ((c : Thread nD τ).loc main_arg3)) = s
  pointwise [piece]
  blk_point [idx t]

/-- The second result at an index of a block. -/
theorem point8 (c : Dev nD) (t : Fin cfg0.N) (y) :
    k0_pay1 (k0_pay2 (iblk m c 0 t) (iblk m c 3 t) (iblk m c 1 t) (iblk m c 2 t)) (k0_pay4 (iblk m c 4 t))
        (k0_pay5 (iblk m c 0 t) (iblk m c 3 t) (iblk m c 1 t) (iblk m c 2 t)) (iblk m c 5 t) (iblk m c 6 t) y
    = normed (m ((c : Thread nD τ).loc main_arg0)) (m ((c : Thread nD τ).loc main_arg1)) (m ((c : Thread nD τ).loc main_arg2)) (m ((c : Thread nD τ).loc main_arg3)) (((cfg0.win 8).blk t).view.emb y) := by
  unfold k0_pay5
  rw [rows_eq]
  unfold normed rows Cert.NextRefIdeal.Read.val_main_v45 Cert.NextRefIdeal.Read.val_main_v44 Cert.NextRefIdeal.Read.val_main_v43 Cert.NextRefIdeal.Read.val_main_v42 Cert.NextRefIdeal.Read.val_main_v41 Cert.NextRefIdeal.Read.val_main_v40 Cert.NextRefIdeal.Read.val_main_v39 Cert.NextRefIdeal.Read.val_main_v38 Cert.NextRefIdeal.Read.val_main_v37 Cert.NextRefIdeal.Read.val_main_cst_5 Cert.NextRefIdeal.Read.val_main_v36 Cert.NextRefIdeal.Read.val_main_v35 Cert.NextRefIdeal.Read.val_main_v34 Cert.NextRefIdeal.Read.val_main_v33 Cert.NextRefIdeal.Read.val_main_v32 Cert.NextRefIdeal.Read.val_main_v31 Cert.NextRefIdeal.Read.val_main_v30 Cert.NextRefIdeal.Read.val_main_v29 Cert.NextRefIdeal.Read.val_main_v28 Cert.NextRefIdeal.Read.val_main_v27 Cert.NextRefIdeal.Read.val_main_cst_4 Cert.NextRefIdeal.Read.val_main_v26 Cert.NextRefIdeal.Read.val_main_v25 Cert.NextRefIdeal.Read.val_main_cst_3 Cert.NextRefIdeal.Read.val_main_v24 Cert.NextRefIdeal.Read.val_main_v23 Cert.NextRefIdeal.Read.val_main_cst_2 Cert.NextRefIdeal.Read.val_main_v22 Cert.NextRefIdeal.Read.val_main_v21 Cert.NextRefIdeal.Read.val_main_v20
  generalize Cert.NextRefIdeal.Read.val_main_v19 (F := Ideal) (m ((c : Thread nD τ).loc main_arg0)) (m ((c : Thread nD τ).loc main_arg1)) (m ((c : Thread nD τ).loc main_arg2)) (m ((c : Thread nD τ).loc main_arg3)) = s
  pointwise [k0_pay1, k0_pay4, piece]
  blk_point [iblk, V, idx t]

/-- The first result array after the run. -/
theorem final7 (c : Dev nD) : (dats m 0 c).arrAt 7 (cfgs 0).N = rows (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point7 m c t y

/-- The second result array after the run. -/
theorem final8 (c : Dev nD) : (dats m 0 c).arrAt 8 (cfgs 0).N = normed (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]; frame_out
  exact point8 m c t y

end Cert.NextIdeal.Product

/-- The kernel and the reference agree. -/
theorem Cert.Proof.algebraic_Next : Cert.algebraic_NextIdeal_NextRefIdeal (hNextIdeal := Cert.NextIdeal.Gen.facts)
    (hNextRefIdeal := Cert.NextRefIdeal.Gen.facts) := by
  pair_intro
  · run_from Cert.NextIdeal.Gen.run_main m g
  · refine (θ_run _ _ _).mono (fun r h c => ?_) (Cert.NextRefIdeal.Value.run m' g')
    refine ⟨(h c).1.trans ((Cert.NextRefIdeal.Read.val_main_v19_eq _ _ _ _).trans ?_),
      (h c).2.1.trans ((Cert.NextRefIdeal.Read.val_main_v45_eq m' c).trans ?_), (h c).2.2⟩
    all_goals
      obtain ⟨e0, e1, e2, e3⟩ := hagree c
      rw [e0, e1, e2, e3]
    · exact (Cert.NextIdeal.Product.final7 m c).symm
    · exact (Cert.NextIdeal.Product.final8 m c).symm

end
-- ==== Proof.ExpGUIdealTile.lean ====
/- One tile of the experts' gate and up products, on any buffers: a tile in use is computed from the rows and the weights that are there, a tile past the number
   in use is filled with zeros. -/
module

public import proofs.«01_k».proof.Proof.Gen.ExpGUIdeal.Launch
public import proofs.«01_k».proof.Proof.Gen.ExpGUIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpGUIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpGUIdeal Cert.ExpGUIdeal.Gen

variable {F : FTy → Type} [FloatOps F]

local notation "𝕄" => MT nD τ sig Unit (Elt F) ℕ (UR sig nD τ) ℕ

/-- The two tables, each as one buffer: the tiles' experts and the number of tiles in use. -/
abbrev tbM0_0 : Memref sig .tc .smem S40 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table's contents on core `c`, and the half of it that the body may read. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The number of tiles in use, as the body reads it from the second table. -/
abbrev used (c : Dev nD) (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))

/-- A tile is either in use or past the number in use, and not both. -/
theorem either (i : grid0.Coords) (w : BitVec 32) : (k0_cond1 i w = 1#1 ∧ ¬ k0_cond2 i w = 1#1) ∨ (¬ k0_cond1 i w = 1#1 ∧ k0_cond2 i w = 1#1) := by
  have e : (w.sle (BitVec.ofNat 32 (i 1).val)) = !((BitVec.ofNat 32 (i 1).val).slt w) := by
    simp only [BitVec.sle, BitVec.slt]; rw [← decide_not]; exact decide_eq_decide.mpr (by omega)
  simp only [k0_cond1, k0_cond2, Scalar.cmpi, Scalar.extui, IntOp.cmpi, e]
  cases (BitVec.ofNat 32 (i 1).val).slt w <;> decide

theorem cond2_iff (i : grid0.Coords) (w : BitVec 32) : k0_cond2 i w = 1#1 ↔ ¬ k0_cond1 i w = 1#1 := by
  rcases either i w with h | h <;> simp [h]

set_option maxHeartbeats 1000000 in
/-- A tile in use: the body runs, hands the inputs back as they were, and leaves the tile with the stores found here written. -/
def runA (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (x0 : Vec F S512x4096 .bf16) (x1 : Vec F S1x1x4096x512 .f32) (x2 : Vec F S1x1x4096x512 .f32) (xt0 : TbBuf0 (F := F) c tbM0_0) (xt1 : TbBuf0 (F := F) c tbM0_1) (hc0 : k0_cond1 i (used c xt1) = 1#1) (hc1 : ¬ k0_cond2 i (used c xt1) = 1#1) :
    { L : List (View.Piece (Elt F) S512x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L) ∗ tbPt0 c tbM0_0 xt0 ∗ tbPt0 c tbM0_1 xt1) -∗ K ⟨⟩))
          ⊢ wp frame (wpE (defs₀ (F := F)) Variants.none c none) E (cc0_moe_gate_up i tbM0_0 htbM0_0 tbM0_1 htbM0_1 arg4 harg4 arg5 harg5 arg6 harg6 arg7 harg7) K } := by
  refine ⟨?_, fun E K => ?run⟩
  case run =>
    simp only [cc0_moe_gate_up_eq_skeleton]; unfold cc0_moe_gate_up_skel
    unfold owns
    iintro ⟨⟨%f0, %hf0, H0⟩, ⟨%f1, %hf1, H1⟩, ⟨%f2, %hf2, H2⟩, ⟨%d, %f, -, H⟩, HT0, HT1, Hk⟩
    obtain rfl := harg4.eq_unread hf0; obtain rfl := harg5.eq_unread hf1; obtain rfl := harg6.eq_unread hf2
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H]; · iexists _; iexact H
    isplitl [HT0]; · iexact HT0
    iexact HT1

set_option maxHeartbeats 1000000 in
/-- A tile past the number in use: the body runs, hands the inputs back as they were, and leaves the tile with the stores found here written. -/
def runB (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (x0 : Vec F S512x4096 .bf16) (x1 : Vec F S1x1x4096x512 .f32) (x2 : Vec F S1x1x4096x512 .f32) (xt0 : TbBuf0 (F := F) c tbM0_0) (xt1 : TbBuf0 (F := F) c tbM0_1) (hc0 : ¬ k0_cond1 i (used c xt1) = 1#1) (hc1 : k0_cond2 i (used c xt1) = 1#1) :
    { L : List (View.Piece (Elt F) S512x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L) ∗ tbPt0 c tbM0_0 xt0 ∗ tbPt0 c tbM0_1 xt1) -∗ K ⟨⟩))
          ⊢ wp frame (wpE (defs₀ (F := F)) Variants.none c none) E (cc0_moe_gate_up i tbM0_0 htbM0_0 tbM0_1 htbM0_1 arg4 harg4 arg5 harg5 arg6 harg6 arg7 harg7) K } := by
  refine ⟨?_, fun E K => ?run⟩
  case run =>
    simp only [cc0_moe_gate_up_eq_skeleton]; unfold cc0_moe_gate_up_skel
    unfold owns
    iintro ⟨⟨%f0, %hf0, H0⟩, ⟨%f1, %hf1, H1⟩, ⟨%f2, %hf2, H2⟩, ⟨%d, %f, -, H⟩, HT0, HT1, Hk⟩
    obtain rfl := harg4.eq_unread hf0; obtain rfl := harg5.eq_unread hf1; obtain rfl := harg6.eq_unread hf2
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H]; · iexists _; iexact H
    isplitl [HT0]; · iexact HT0
    iexact HT1

end Cert.ExpGUIdeal.Tiles

end
-- ==== Proof.ExpGUIdealFrame.lean ====
/- The experts' gate and up products, run: every tile ends as the body leaves it, the arguments end unchanged, and every counter ends at zero. The tables are any
   whose blocks lie in their arrays. -/
module

public import proofs.«01_k».proof.Proof.ExpGUIdealTile
public import Idealize.ShloMosaic.Lib.Claim

@[expose] public section

set_option maxRecDepth 16384

noncomputable section

namespace Cert.ExpGUIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpGUIdeal Cert.ExpGUIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the call begins. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables put every block inside its array. -/
abbrev Ok : Prop := ok0 (F := F) (tbl m)

/-- The call at these tables. -/
abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The result's tile is written back at every point. -/
theorem flush (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- The result's tile is stored at every point. -/
theorem live (a : (pcfg0 (F := F)).Adm) (i : grid0.Coords) : (cfg0 a).idle 3 i = false := by
  show (!(k0_cond1 i _ == 1#1) && !(k0_cond2 i _ == 1#1)) = false
  rcases either i (a.1.atD 1 ![0]) with h | h <;> simp [h.1, h.2]

/-- A buffer through which the result's tile is described. -/
abbrev VO : View sig .tc .vmem S512x512 .bf16 := (Memref.whole cc0_stg3_0 : Memref sig .tc .vmem S512x512 .bf16).view

/-- Each window's buffer at point `t`. -/
abbrev ms0 (hO : Ok m) (t : Fin (cfgM m hO).N) : Memref sig .tc .vmem S512x4096 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x4096x512 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x4096x512 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S512x512 .bf16 := spec0_3.stage ((cfgM m hO).slots t 3)
abbrev hs3 (hO : Ok m) (t : Fin (cfgM m hO).N) : (ms3 m hO t).IsWhole := hstage0_3 (((cfgM m hO).slots t 3).cast nbuf0_3)

/-- The body at point `t`. -/
abbrev bodyAt0 (hO : Ok m) (t : Fin (cfgM m hO).N) : Prog (TpuEff nD τ sig (Elt F) Λ₀ .tc) PUnit :=
  cc0_moe_gate_up (grid0.coords t) tbM0_0 htbM0_0 tbM0_1 htbM0_1 (ms0 m hO t) (hs0 m hO t) (ms1 m hO t) (hs1 m hO t) (ms2 m hO t) (hs2 m hO t) (ms3 m hO t) (hs3 m hO t)

theorem coverA (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (x0 : Vec F S512x4096 .bf16) (x1 : Vec F S1x1x4096x512 .f32) (x2 : Vec F S1x1x4096x512 .f32) (xt0 : TbBuf0 (F := F) c tbM0_0) (xt1 : TbBuf0 (F := F) c tbM0_1) (hc0 : k0_cond1 i (used c xt1) = 1#1) (hc1 : ¬ k0_cond2 i (used c xt1) = 1#1) (y : S512x512.Idx) :
    ∃ pc ∈ (runA c i arg4 harg4 arg5 harg5 arg6 harg6 arg7 harg7 x0 x1 x2 xt0 xt1 hc0 hc1).1, y ∈ pc.1.set :=
  View.cover_of_tiledL (runA c i arg4 harg4 arg5 harg5 arg6 harg6 arg7 harg7 x0 x1 x2 xt0 xt1 hc0 hc1).1 S512x512.size (by sl_kernel_rfl) y

/-- What the body leaves in the result's tile. -/
def out0_A_3 (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (x0 : Vec F S512x4096 .bf16) (x1 : Vec F S1x1x4096x512 .f32) (x2 : Vec F S1x1x4096x512 .f32) (xt0 : TbBuf0 (F := F) c tbM0_0) (xt1 : TbBuf0 (F := F) c tbM0_1) (hc0 : k0_cond1 i (used c xt1) = 1#1) (hc1 : ¬ k0_cond2 i (used c xt1) = 1#1) : Vec F S512x512 .bf16 :=
  VO.read (Elt F) (VO.writes (Elt F) VO.junk (runA c i arg4 harg4 arg5 harg5 arg6 harg6 arg7 harg7 x0 x1 x2 xt0 xt1 hc0 hc1).1)

theorem coverB (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (x0 : Vec F S512x4096 .bf16) (x1 : Vec F S1x1x4096x512 .f32) (x2 : Vec F S1x1x4096x512 .f32) (xt0 : TbBuf0 (F := F) c tbM0_0) (xt1 : TbBuf0 (F := F) c tbM0_1) (hc0 : ¬ k0_cond1 i (used c xt1) = 1#1) (hc1 : k0_cond2 i (used c xt1) = 1#1) (y : S512x512.Idx) :
    ∃ pc ∈ (runB c i arg4 harg4 arg5 harg5 arg6 harg6 arg7 harg7 x0 x1 x2 xt0 xt1 hc0 hc1).1, y ∈ pc.1.set :=
  View.cover_of_tiledL (runB c i arg4 harg4 arg5 harg5 arg6 harg6 arg7 harg7 x0 x1 x2 xt0 xt1 hc0 hc1).1 S512x512.size (by sl_kernel_rfl) y

/-- What the body leaves in the result's tile. -/
def out0_B_3 (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (x0 : Vec F S512x4096 .bf16) (x1 : Vec F S1x1x4096x512 .f32) (x2 : Vec F S1x1x4096x512 .f32) (xt0 : TbBuf0 (F := F) c tbM0_0) (xt1 : TbBuf0 (F := F) c tbM0_1) (hc0 : ¬ k0_cond1 i (used c xt1) = 1#1) (hc1 : k0_cond2 i (used c xt1) = 1#1) : Vec F S512x512 .bf16 :=
  VO.read (Elt F) (VO.writes (Elt F) VO.junk (runB c i arg4 harg4 arg5 harg5 arg6 harg6 arg7 harg7 x0 x1 x2 xt0 xt1 hc0 hc1).1)

theorem past {i : grid0.Coords} {w : BitVec 32} (h : ¬ k0_cond1 i w = 1#1) : k0_cond2 i w = 1#1 := (cond2_iff i w).mpr h
theorem within {i : grid0.Coords} {w : BitVec 32} (h : k0_cond1 i w = 1#1) : ¬ k0_cond2 i w = 1#1 := fun h' => (cond2_iff i w).mp h' h

/-- What the result's tile holds after point `t`. -/
def outsAt0 (hO : Ok m) (c : Dev nD) (t : Fin (cfgM m hO).N) : Vec F S512x512 .bf16 :=
  if h0 : k0_cond1 (grid0.coords t) (used c (tbl m 1)) = 1#1 then
    out0_A_3 c (grid0.coords t) (ms0 m hO t) (hs0 m hO t) (ms1 m hO t) (hs1 m hO t) (ms2 m hO t) (hs2 m hO t) (ms3 m hO t) (hs3 m hO t) (iblk m hO c 0 t) (iblk m hO c 1 t) (iblk m hO c 2 t) (tbl m 0) (tbl m 1) h0 (within h0)
  else
    out0_B_3 c (grid0.coords t) (ms0 m hO t) (hs0 m hO t) (ms1 m hO t) (hs1 m hO t) (ms2 m hO t) (hs2 m hO t) (ms3 m hO t) (hs3 m hO t) (iblk m hO c 0 t) (iblk m hO c 1 t) (iblk m hO c 2 t) (tbl m 0) (tbl m 1) h0 (past h0)

theorem outsAt0_A (hO : Ok m) (c : Dev nD) (t : Fin (cfgM m hO).N) (h0 : k0_cond1 (grid0.coords t) (used c (tbl m 1)) = 1#1) :
    outsAt0 m hO c t = out0_A_3 c (grid0.coords t) (ms0 m hO t) (hs0 m hO t) (ms1 m hO t) (hs1 m hO t) (ms2 m hO t) (hs2 m hO t) (ms3 m hO t) (hs3 m hO t) (iblk m hO c 0 t) (iblk m hO c 1 t) (iblk m hO c 2 t) (tbl m 0) (tbl m 1) h0 (within h0) := by
  unfold outsAt0; exact (dif_pos h0).trans rfl

theorem outsAt0_B (hO : Ok m) (c : Dev nD) (t : Fin (cfgM m hO).N) (h0 : ¬ k0_cond1 (grid0.coords t) (used c (tbl m 1)) = 1#1) :
    outsAt0 m hO c t = out0_B_3 c (grid0.coords t) (ms0 m hO t) (hs0 m hO t) (ms1 m hO t) (hs1 m hO t) (ms2 m hO t) (hs2 m hO t) (ms3 m hO t) (hs3 m hO t) (iblk m hO c 0 t) (iblk m hO c 1 t) (iblk m hO c 2 t) (tbl m 0) (tbl m 1) h0 (past h0) := by
  unfold outsAt0; exact (dif_neg h0).trans rfl

/-- The arrays as they are found, the blocks of the inputs left in place, and the result's tiles. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t) := by dsimp only [dats]; try rfl

theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

set_option maxHeartbeats 800000 in
/-- The body at any point. -/
theorem sound_body (hO : Ok m) (c : Dev nD) (t : Fin (cfgM m hO).N) :
    bodyPre m hO c t ⊢ wp frame (wpE (defs₀ (F := F)) Variants.none c none) Set.univ (bodyAt0 m hO t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  by_cases h0 : k0_cond1 (grid0.coords t) (used c (tbl m 1)) = 1#1
  · rw [outsAt0_A m hO c t h0]
    unfold out0_A_3
    iintro ⟨⟨HΦ, ⟨HT0, HT1⟩⟩, Ho, ⟨%d0, H0⟩, ⟨%d1, H1⟩, ⟨%d2, H2⟩, ⟨%d3, H3⟩⟩
    iapply ((runA c (grid0.coords t) _ _ _ _ _ _ _ _ (iblk m hO c 0 t) (iblk m hO c 1 t) (iblk m hO c 2 t) (tbl m 0) (tbl m 1) h0 (within h0)).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _ _)
  · rw [outsAt0_B m hO c t h0]
    unfold out0_B_3
    iintro ⟨⟨HΦ, ⟨HT0, HT1⟩⟩, Ho, ⟨%d0, H0⟩, ⟨%d1, H1⟩, ⟨%d2, H2⟩, ⟨%d3, H3⟩⟩
    iapply ((runB c (grid0.coords t) _ _ _ _ _ _ _ _ (iblk m hO c 0 t) (iblk m hO c 1 t) (iblk m hO c 2 t) (tbl m 0) (tbl m 1) h0 (past h0)).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

/-- The body at every point, as the call asks for it. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have hl : idle0 (tbl m) 3 (((pcfg0 (F := F)).gridAt (tbl m)).coords t) = false := live (adm m hO) _
  dsimp only
  rw [hl]
  exact .rfl

set_option backward.isDefEq.respectTransparency.types false in
/-- The run, with the counters. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The run: every array ends at what the blocks say. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans rfl,
      ((h c).2 main_arg1 (by decide : main_arg1 ∈ Pipeline.restRefs sig spec0)).trans rfl,
      ((h c).1 0).trans (((dats m hO 0 c).arrAt_in 0 rfl _).trans ((A_eq m hO c 0).trans rfl)),
      ((h c).1 1).trans (((dats m hO 0 c).arrAt_in 1 rfl _).trans ((A_eq m hO c 1).trans rfl)),
      ((h c).1 2).trans (((dats m hO 0 c).arrAt_in 2 rfl _).trans ((A_eq m hO c 2).trans rfl))⟩) (run_main m ρ hO)

/-- The frame: the arguments end unchanged and every counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.ExpGUIdeal.Tiles

end
-- ==== Proof.ExpGUIdealTables.lean ====
/- The tables that the precondition of the experts' gate and up call admits: every tile's expert is one of the eight and between one and forty
   tiles are in use. Such tables put every block inside its array, so the call's frame holds of them. -/
module

public import proofs.«01_k».proof.Defs
public import proofs.«01_k».proof.Proof.ExpGUIdealFrame
public import proofs.«01_k».proof.Proof.Gen.Pre_tables_egu
public import Idealize.ShloMosaic.Lib.StableHlo.Predicate

@[expose] public section

set_option maxRecDepth 16384

noncomputable section

namespace Cert.ExpGUIdeal.Tiles

open Idealize.ShloMosaic Idealize.ShloMosaic.TcCoe
open Cert.ExpGUIdeal Cert.ExpGUIdeal.Gen

variable {F : FTy → Type} [FloatOps F]
variable (m : (ℓ : Loc nD τ sig) → Buf (Elt F) ℓ)

/-- Tile `p`'s expert, and the number of tiles in use. -/
abbrev expert (p : Fin 40) : BitVec 32 := tbl m 0 (Shape.Idx.ofFin p : S40.Idx)
abbrev count : BitVec 32 := tbl m 1 (Shape.Idx.ofFin (0 : Fin 1) : S1.Idx)

/-- Every tile's expert is one of the eight, and between one and forty tiles are in use. -/
structure Good : Prop where
  expert_lt : ∀ p : Fin 40, (expert m p).toNat < 8
  count_pos : 1 ≤ (count m).toNat
  count_le : (count m).toNat ≤ 40

theorem of_signed {w : BitVec 32} {n : Nat} (h0 : (0 : ℤ) ≤ w.toInt) (h1 : w.toInt < n) : w.toNat < n := by
  rw [BitVec.toInt_eq_toNat_cond] at h0 h1
  split at h0 <;> split at h1 <;> omega

theorem and_one (a b : BitVec 1) : IntOp.andi a b = 1#1 ↔ a = 1#1 ∧ b = 1#1 := by revert a b; decide

/-- The precondition, read. -/
theorem good_of_pre (h : ∀ c : Dev nD, Cert.Pre_tables_egu.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1) : Good m := by
  have e (x : Fin 40) : (0 ≤ (expert m x).toInt ∧ (expert m x).toInt < 8) ∧ 1 ≤ (count m).toInt ∧ (count m).toInt ≤ 40 := by
    have e := congrFun (h 0) (Shape.Idx.ofFin x)
    simp only [Cert.Pre_tables_egu.fn, andi, cmpi, constantI, broadcastInDim, and_one, WordCmp.cmpi_sge_eq, WordCmp.cmpi_slt_eq, WordCmp.cmpi_sle_eq, StableHlo.Predicate.ofBool_eq_one_iff, decide_eq_true_eq] at e
    have hj (j : S1.Idx) : tbl m 1 j = count m := congrArg (tbl m 1) (funext fun a => by
      obtain rfl : a = (0 : Fin 1) := Subsingleton.elim (α := Fin 1) _ _
      exact Subsingleton.elim (α := Fin 1) _ _)
    exact ⟨e.1.1, e.1.2.trans_eq (congrArg BitVec.toInt (hj _)), (congrArg BitVec.toInt (hj _)).symm.trans_le e.2⟩
  have e0 := (e 0).2
  refine ⟨fun x => of_signed (e x).1.1 (by exact_mod_cast (e x).1.2), ?_, ?_⟩
  · have := of_signed (w := count m) (n := 41) (by omega) (by omega)
    have t := BitVec.toInt_eq_toNat_cond (count m)
    split at t <;> omega
  · have := of_signed (w := count m) (n := 41) (by omega) (by omega)
    omega

/-- The rows' block at a tile: the tile's own, or the last one in use. -/
theorem row_eq : ∀ (n : Fin 41) (t : Fin 40), 1 ≤ n.val → (Scalar.minsi (BitVec.ofNat 32 t.val) (Scalar.subi (BitVec.ofNat 32 n.val) 1#32)).toNat = min t.val (n.val - 1) := by
  decide +kernel

/-- The one element of a rectangle of one element. -/
theorem one_index {n k : Nat} (h : ∀ a, (![k] : Fin 1 → Nat) a + (![1] : Fin 1 → Nat) a ≤ (⟨1, ![n]⟩ : Shape).size a)
    (j : (Rect.unit (s := ⟨1, ![n]⟩) ![k] ![1] h).shape.Idx) (p : Fin n) (e : k = p.val) :
    (Rect.unit (s := ⟨1, ![n]⟩) ![k] ![1] h).emb j = (Shape.Idx.ofFin p : (⟨1, ![n]⟩ : Shape).Idx) := by
  funext a
  obtain rfl : a = (0 : Fin 1) := Subsingleton.elim (α := Fin 1) _ _
  refine Fin.ext ?_
  rw [Rect.emb_apply]
  have := (j 0).isLt
  have h1 : (j 0).val < 1 := this
  show k + 1 * (j 0).val = p.val
  omega

theorem Good.row (hG : Good m) (i : grid0.Coords) : cc0_transform_0 inb_S1_S1_0 numel1_S1 (tbl m) i = ![min (i 1).val ((count m).toNat - 1), 0] := by
  have h := row_eq ⟨(count m).toNat, by have := hG.count_le; omega⟩ ⟨(i 1).val, (i 1).isLt⟩ hG.count_pos
  simp only [BitVec.ofNat_toNat, BitVec.setWidth_eq] at h
  have hw : (tbl m).at 1 (Rect.unit (s := S1) ![0] S1.size inb_S1_S1_0) numel1_S1 = count m := by
    unfold Pipeline.Prefetch.Contents.at
    exact congrArg (tbl m 1) (one_index _ _ (0 : Fin 1) rfl)
  unfold cc0_transform_0
  simp only [hw]
  rw [h]; rfl

/-- The weights' block at a tile: its expert's, and the columns that the first coordinate names. -/
theorem at_expert (i : grid0.Coords) : (tbl m).at 0 (Rect.unit (s := S40) ![(Scalar.indexCast (BitVec.ofNat 32 (i 1).val)).toNat] S1.size (k0_off1_inb i)) numel1_S1
    = expert m (i 1) := by
  unfold Pipeline.Prefetch.Contents.at
  have h40 : (i 1).val < 40 := (i 1).isLt
  have e : (Scalar.indexCast (BitVec.ofNat 32 (i 1).val)).toNat = (i 1).val := by
    show (BitVec.ofNat 32 (i 1).val).toNat = _
    rw [BitVec.toNat_ofNat]; exact Nat.mod_eq_of_lt (by omega)
  exact congrArg (tbl m 0) (one_index _ _ (i 1) e)

theorem weights1 (i : grid0.Coords) : cc0_transform_1 k0_off1_inb numel1_S1 (tbl m) i = ![0, (expert m (i 1)).toNat, 0, (i 0).val] := by
  have := (i 0).isLt
  have h0 : (BitVec.ofNat 32 (i 0).val).toNat = (i 0).val := by
    rw [BitVec.toNat_ofNat]; exact Nat.mod_eq_of_lt (by have : (i 0).val < 8 := (i 0).isLt; omega)
  unfold cc0_transform_1
  dsimp only
  rw [h0]
  exact congrArg (fun w : BitVec 32 => (![0, w.toNat, 0, (i 0).val] : Fin 4 → Nat)) (at_expert m i)

theorem weights2 (i : grid0.Coords) : cc0_transform_2 k0_off1_inb numel1_S1 (tbl m) i = ![0, (expert m (i 1)).toNat, 0, (i 0).val] := by
  have := (i 0).isLt
  have h0 : (BitVec.ofNat 32 (i 0).val).toNat = (i 0).val := by
    rw [BitVec.toNat_ofNat]; exact Nat.mod_eq_of_lt (by have : (i 0).val < 8 := (i 0).isLt; omega)
  unfold cc0_transform_2
  dsimp only
  rw [h0]
  exact congrArg (fun w : BitVec 32 => (![0, w.toNat, 0, (i 0).val] : Fin 4 → Nat)) (at_expert m i)

/-- So every block is inside its array. -/
theorem Good.ok (hG : Good m) : Ok m := by
  have hr (i : grid0.Coords) : ∀ a, (cc0_transform_0 inb_S1_S1_0 numel1_S1 (tbl m) i a + 1) * S512x4096.size a ≤ S20480x4096.size a := fun a => by
    rw [hG.row]
    have : (i 1).val < 40 := (i 1).isLt
    match a with
    | 0 => show (min (i 1).val ((count m).toNat - 1) + 1) * 512 ≤ 20480; omega
    | 1 => show (0 + 1) * 4096 ≤ 4096; omega
  have hw1 (i : grid0.Coords) : ∀ a, (cc0_transform_1 k0_off1_inb numel1_S1 (tbl m) i a + 1) * S1x1x4096x512.size a ≤ S1x8x4096x4096.size a := fun a => by
    rw [weights1]
    have : (i 0).val < 8 := (i 0).isLt
    have h8 := hG.expert_lt (i 1)
    match a with
    | 0 => show (0 + 1) * 1 ≤ 1; omega
    | 1 => show ((expert m _).toNat + 1) * 1 ≤ 8; omega
    | 2 => show (0 + 1) * 4096 ≤ 4096; omega
    | 3 => show ((i 0).val + 1) * 512 ≤ 4096; omega
  have hw2 (i : grid0.Coords) : ∀ a, (cc0_transform_2 k0_off1_inb numel1_S1 (tbl m) i a + 1) * S1x1x4096x512.size a ≤ S1x8x4096x4096.size a := fun a => by
    rw [weights2]
    have : (i 0).val < 8 := (i 0).isLt
    have h8 := hG.expert_lt (i 1)
    match a with
    | 0 => show (0 + 1) * 1 ≤ 1; omega
    | 1 => show ((expert m _).toNat + 1) * 1 ≤ 8; omega
    | 2 => show (0 + 1) * 4096 ≤ 4096; omega
    | 3 => show ((i 0).val + 1) * 512 ≤ 4096; omega
  exact ⟨fun i => ⟨hr i, .inr (Affine.block_words_dvd (of_decide_eq_true rfl) (by decide))⟩, fun i => ⟨hw1 i, .inl rfl⟩, fun i => ⟨hw2 i, .inl rfl⟩⟩

end Cert.ExpGUIdeal.Tiles

namespace Cert.Proof

/-- The frame of the call under its precondition. -/
theorem frame_ExpGUIdeal : Cert.quiescent_ExpGUIdeal (hExpGUIdeal := Cert.ExpGUIdeal.Gen.facts) (hPre_tables_egu := Cert.Pre_tables_egu.Gen.facts) :=
  fun m g h => Cert.ExpGUIdeal.Tiles.frame m g (Cert.ExpGUIdeal.Tiles.good_of_pre m h).ok

end Cert.Proof

end
-- ==== Proof.ExpGURef.lean ====
/- The experts' gate and up products, the reference read at an index: in a tile in use the row times the gate column of the tile's own expert, through
   the gate's nonlinearity, times the row times the up column, and zero in a tile past the number in use. -/
module

public import proofs.«01_k».proof.Proof.Gen.ExpGURefIdeal.Run
public import proofs.«01_k».proof.Proof.Gen.ExpGURefIdeal.Read
public import Idealize.ShloMosaic.Lib.WordCmp
public import Idealize.ShloMosaic.Lib.IdealHost
public import Idealize.ShloMosaic.Lib.StableHlo.Predicate
public import Idealize.ShloMosaic.Lib.Pointwise.Tactic

@[expose] public section

set_option maxRecDepth 16384

noncomputable section

namespace Cert.ExpGURefIdeal.Picked

open Idealize.ShloMosaic Idealize.ShloMosaic.TcCoe
open Cert.ExpGURefIdeal Cert.ExpGURefIdeal.Gen Cert.ExpGURefIdeal.Read

/-- The two tables, the rows and the weights, as arrays of reals. -/
abbrev Experts : Type := (⟨S40, .i32⟩ : BufTy).Contents (Elt Ideal)
abbrev Count : Type := (⟨S1, .i32⟩ : BufTy).Contents (Elt Ideal)
abbrev Rows : Type := (⟨S20480x4096, .bf16⟩ : BufTy).Contents (Elt Ideal)
abbrev Weights : Type := (⟨S1x8x4096x4096, .f32⟩ : BufTy).Contents (Elt Ideal)

variable (te : Experts) (nt : Count) (xs : Rows)

/-- Tile `t` is in use. -/
abbrev inUse (t : Fin 40) : Prop := IntOp.cmpi .slt (BitVec.ofNat 32 t.val) (nt (Shape.Idx.ofFin (0 : Fin 1))) = 1#1

/-- Expert `e`'s weight at tile `t`: one where the tile is in use and is the expert's, zero elsewhere. -/
def pick (e : Fin 8) (t : Fin 40) : EReal :=
  if te (Shape.Idx.ofFin t) = BitVec.ofNat 32 e.val ∧ inUse nt t then 1 else 0

/-- The tile of row `r`. -/
abbrev tile (r : Fin 20480) : Fin 40 := ⟨r.val / 512, by have := r.isLt; omega⟩

theorem bit (a b : BitVec 1) : ((IntOp.andi a b).setWidth 32).toInt = if a = 1#1 ∧ b = 1#1 then 1 else 0 := by revert a b; decide

theorem pick_apply (e : Fin 8) (j : S8x20480.Idx) (he : (j 0).val = e.val) : val_main_v17 (F := Ideal) te nt j = pick te nt e (tile (j 1)) := by
  have h1 : (j 1).val < 20480 := (j 1).isLt
  have h0 : (j 0).val < 8 := (j 0).isLt
  rw [val_main_v17_apply, val_main_v16_apply, val_main_v15_apply, val_main_v14_apply, val_main_v13_apply, val_main_v8_apply, val_main_v6_apply,
    val_main_v5_apply, val_main_v7_apply, val_main_v2_apply, val_main_v1_apply, val_main_v12_apply, val_main_v11_apply, val_main_v4_apply,
    val_main_v3_apply, val_main_v10_apply, val_main_v9_apply]
  have a : (idx_main_v5 (idx_main_v6 (idx_main_v16 (idx_main_v17 j))) : S40.Idx) = Shape.Idx.ofFin (tile (j 1)) := by
    funext a; match a with
    | ⟨0, _⟩ => exact Fin.ext (show ((j 0).val * 20480 + (j 1).val) / 512 % 40 = (j 1).val / 512 by omega)
  have b : (idx_main_v9 (idx_main_v10 (idx_main_v12 (idx_main_v16 (idx_main_v17 j)))) : S1.Idx) = Shape.Idx.ofFin (0 : Fin 1) := by
    funext a; match a with
    | ⟨0, _⟩ => rfl
  have c : (idx_main_v2 (idx_main_v7 (idx_main_v16 (idx_main_v17 j))) 0).val = e.val := by
    show ((j 0).val * 20480 + (j 1).val) / 20480 = e.val; omega
  have d : (idx_main_v4 (idx_main_v12 (idx_main_v16 (idx_main_v17 j))) 0).val = (tile (j 1)).val := by
    show ((j 0).val * 20480 + (j 1).val) / 512 % 40 = (j 1).val / 512; omega
  rw [a, b, c, d]
  show (((((IntOp.andi _ _).setWidth 32).toInt : ℤ) : ℝ) : EReal) = _
  rw [bit, pick]
  simp only [StableHlo.Predicate.cmpi_eq_iff]
  split_ifs <;> simp

/-- A row of `xs` times a column of expert `e`'s weights. -/
def proj (w : Weights) (e : Fin 8) (i : S20480x4096.Idx) : EReal := ∑ k : Fin 4096, xs (ix2 (i 0) k) * w (ix4 (0 : Fin 1) e k (i 1))

/-- The gate's nonlinearity. -/
def silu (x : EReal) : EReal := x * Ideal.logistic x

theorem silu_eq (x : EReal) : FloatOps.mulf (F := Ideal) (φ := .f32) x (FloatOps.hostDivf (FloatOps.ofBits .f32 0x3F800000#32)
    (FloatOps.addf (FloatOps.ofBits .f32 0x3F800000#32) (FloatOps.hostUnary .exp (FloatOps.hostNegf x)))) = silu x := by
  unfold silu Ideal.logistic
  show x * Ideal.div (Ideal.ofBits .f32 0x3F800000#32) (Ideal.ofBits .f32 0x3F800000#32 + Ideal.exp (-x)) = _
  rw [Ideal.ofBits_one_f32]

theorem gate0 (wg : Weights) (i : S20480x4096.Idx) : val_main_v24 (F := Ideal) xs wg i = proj xs wg 0 i := by
  rw [val_main_v24_apply]; unfold proj
  refine Finset.sum_congr rfl fun k _ => ?_
  rw [val_main_v0_apply, val_main_v23_apply, val_main_v22_apply]
  have h1 : (i 1).val < 4096 := (i 1).isLt
  have hk : k.val < 4096 := k.isLt
  refine congrArg₂ (α := EReal) (β := EReal) (γ := EReal) (· * ·) (congrArg xs ?_) (congrArg wg ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem up0 (wu : Weights) (i : S20480x4096.Idx) : val_main_v28 (F := Ideal) xs wu i = proj xs wu 0 i := by
  rw [val_main_v28_apply]; unfold proj
  refine Finset.sum_congr rfl fun k _ => ?_
  rw [val_main_v0_apply, val_main_v27_apply, val_main_v26_apply]
  have h1 : (i 1).val < 4096 := (i 1).isLt
  have hk : k.val < 4096 := k.isLt
  refine congrArg₂ (α := EReal) (β := EReal) (γ := EReal) (· * ·) (congrArg xs ?_) (congrArg wu ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on0 (i : S20480x4096.Idx) : val_main_v30 (F := Ideal) te nt i = pick te nt 0 (tile (i 0)) := by
  rw [val_main_v30_apply, val_main_v21_apply, val_main_v20_apply, val_main_v19_apply, pick_apply te nt 0 _ rfl]
  refine congrArg (pick te nt 0) (Fin.ext ?_)
  have h0 : (i 0).val < 20480 := (i 0).isLt
  show (i 0).val % 20480 / 512 = (i 0).val / 512
  omega

theorem silu0 (wg : Weights) (i : S20480x4096.Idx) : val_main_v25 (F := Ideal) xs wg i = silu (proj xs wg 0 i) := by
  rw [val_main_v25_apply, gate0, val_main_call0_v5_apply, val_main_call0_v4_apply, val_main_call0_cst_0_apply, val_main_call0_v3_apply, val_main_call0_v2_apply, val_main_call0_cst_apply, val_main_call0_v1_apply,
    val_main_call0_v0_apply, gate0]
  exact silu_eq _

theorem gate1 (wg : Weights) (i : S20480x4096.Idx) : val_main_v38 (F := Ideal) xs wg i = proj xs wg 1 i := by
  rw [val_main_v38_apply]; unfold proj
  refine Finset.sum_congr rfl fun k _ => ?_
  rw [val_main_v0_apply, val_main_v37_apply, val_main_v36_apply]
  have h1 : (i 1).val < 4096 := (i 1).isLt
  have hk : k.val < 4096 := k.isLt
  refine congrArg₂ (α := EReal) (β := EReal) (γ := EReal) (· * ·) (congrArg xs ?_) (congrArg wg ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem up1 (wu : Weights) (i : S20480x4096.Idx) : val_main_v42 (F := Ideal) xs wu i = proj xs wu 1 i := by
  rw [val_main_v42_apply]; unfold proj
  refine Finset.sum_congr rfl fun k _ => ?_
  rw [val_main_v0_apply, val_main_v41_apply, val_main_v40_apply]
  have h1 : (i 1).val < 4096 := (i 1).isLt
  have hk : k.val < 4096 := k.isLt
  refine congrArg₂ (α := EReal) (β := EReal) (γ := EReal) (· * ·) (congrArg xs ?_) (congrArg wu ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on1 (i : S20480x4096.Idx) : val_main_v44 (F := Ideal) te nt i = pick te nt 1 (tile (i 0)) := by
  rw [val_main_v44_apply, val_main_v35_apply, val_main_v34_apply, val_main_v33_apply, pick_apply te nt 1 _ rfl]
  refine congrArg (pick te nt 1) (Fin.ext ?_)
  have h0 : (i 0).val < 20480 := (i 0).isLt
  show (i 0).val % 20480 / 512 = (i 0).val / 512
  omega

theorem silu1 (wg : Weights) (i : S20480x4096.Idx) : val_main_v39 (F := Ideal) xs wg i = silu (proj xs wg 1 i) := by
  rw [val_main_v39_apply, gate1, val_main_call1_v5_apply, val_main_call1_v4_apply, val_main_call1_cst_0_apply, val_main_call1_v3_apply, val_main_call1_v2_apply, val_main_call1_cst_apply, val_main_call1_v1_apply,
    val_main_call1_v0_apply, gate1]
  exact silu_eq _

theorem gate2 (wg : Weights) (i : S20480x4096.Idx) : val_main_v52 (F := Ideal) xs wg i = proj xs wg 2 i := by
  rw [val_main_v52_apply]; unfold proj
  refine Finset.sum_congr rfl fun k _ => ?_
  rw [val_main_v0_apply, val_main_v51_apply, val_main_v50_apply]
  have h1 : (i 1).val < 4096 := (i 1).isLt
  have hk : k.val < 4096 := k.isLt
  refine congrArg₂ (α := EReal) (β := EReal) (γ := EReal) (· * ·) (congrArg xs ?_) (congrArg wg ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem up2 (wu : Weights) (i : S20480x4096.Idx) : val_main_v56 (F := Ideal) xs wu i = proj xs wu 2 i := by
  rw [val_main_v56_apply]; unfold proj
  refine Finset.sum_congr rfl fun k _ => ?_
  rw [val_main_v0_apply, val_main_v55_apply, val_main_v54_apply]
  have h1 : (i 1).val < 4096 := (i 1).isLt
  have hk : k.val < 4096 := k.isLt
  refine congrArg₂ (α := EReal) (β := EReal) (γ := EReal) (· * ·) (congrArg xs ?_) (congrArg wu ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on2 (i : S20480x4096.Idx) : val_main_v58 (F := Ideal) te nt i = pick te nt 2 (tile (i 0)) := by
  rw [val_main_v58_apply, val_main_v49_apply, val_main_v48_apply, val_main_v47_apply, pick_apply te nt 2 _ rfl]
  refine congrArg (pick te nt 2) (Fin.ext ?_)
  have h0 : (i 0).val < 20480 := (i 0).isLt
  show (i 0).val % 20480 / 512 = (i 0).val / 512
  omega

theorem silu2 (wg : Weights) (i : S20480x4096.Idx) : val_main_v53 (F := Ideal) xs wg i = silu (proj xs wg 2 i) := by
  rw [val_main_v53_apply, gate2, val_main_call2_v5_apply, val_main_call2_v4_apply, val_main_call2_cst_0_apply, val_main_call2_v3_apply, val_main_call2_v2_apply, val_main_call2_cst_apply, val_main_call2_v1_apply,
    val_main_call2_v0_apply, gate2]
  exact silu_eq _

theorem gate3 (wg : Weights) (i : S20480x4096.Idx) : val_main_v66 (F := Ideal) xs wg i = proj xs wg 3 i := by
  rw [val_main_v66_apply]; unfold proj
  refine Finset.sum_congr rfl fun k _ => ?_
  rw [val_main_v0_apply, val_main_v65_apply, val_main_v64_apply]
  have h1 : (i 1).val < 4096 := (i 1).isLt
  have hk : k.val < 4096 := k.isLt
  refine congrArg₂ (α := EReal) (β := EReal) (γ := EReal) (· * ·) (congrArg xs ?_) (congrArg wg ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem up3 (wu : Weights) (i : S20480x4096.Idx) : val_main_v70 (F := Ideal) xs wu i = proj xs wu 3 i := by
  rw [val_main_v70_apply]; unfold proj
  refine Finset.sum_congr rfl fun k _ => ?_
  rw [val_main_v0_apply, val_main_v69_apply, val_main_v68_apply]
  have h1 : (i 1).val < 4096 := (i 1).isLt
  have hk : k.val < 4096 := k.isLt
  refine congrArg₂ (α := EReal) (β := EReal) (γ := EReal) (· * ·) (congrArg xs ?_) (congrArg wu ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on3 (i : S20480x4096.Idx) : val_main_v72 (F := Ideal) te nt i = pick te nt 3 (tile (i 0)) := by
  rw [val_main_v72_apply, val_main_v63_apply, val_main_v62_apply, val_main_v61_apply, pick_apply te nt 3 _ rfl]
  refine congrArg (pick te nt 3) (Fin.ext ?_)
  have h0 : (i 0).val < 20480 := (i 0).isLt
  show (i 0).val % 20480 / 512 = (i 0).val / 512
  omega

theorem silu3 (wg : Weights) (i : S20480x4096.Idx) : val_main_v67 (F := Ideal) xs wg i = silu (proj xs wg 3 i) := by
  rw [val_main_v67_apply, gate3, val_main_call3_v5_apply, val_main_call3_v4_apply, val_main_call3_cst_0_apply, val_main_call3_v3_apply, val_main_call3_v2_apply, val_main_call3_cst_apply, val_main_call3_v1_apply,
    val_main_call3_v0_apply, gate3]
  exact silu_eq _

theorem gate4 (wg : Weights) (i : S20480x4096.Idx) : val_main_v80 (F := Ideal) xs wg i = proj xs wg 4 i := by
  rw [val_main_v80_apply]; unfold proj
  refine Finset.sum_congr rfl fun k _ => ?_
  rw [val_main_v0_apply, val_main_v79_apply, val_main_v78_apply]
  have h1 : (i 1).val < 4096 := (i 1).isLt
  have hk : k.val < 4096 := k.isLt
  refine congrArg₂ (α := EReal) (β := EReal) (γ := EReal) (· * ·) (congrArg xs ?_) (congrArg wg ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem up4 (wu : Weights) (i : S20480x4096.Idx) : val_main_v84 (F := Ideal) xs wu i = proj xs wu 4 i := by
  rw [val_main_v84_apply]; unfold proj
  refine Finset.sum_congr rfl fun k _ => ?_
  rw [val_main_v0_apply, val_main_v83_apply, val_main_v82_apply]
  have h1 : (i 1).val < 4096 := (i 1).isLt
  have hk : k.val < 4096 := k.isLt
  refine congrArg₂ (α := EReal) (β := EReal) (γ := EReal) (· * ·) (congrArg xs ?_) (congrArg wu ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on4 (i : S20480x4096.Idx) : val_main_v86 (F := Ideal) te nt i = pick te nt 4 (tile (i 0)) := by
  rw [val_main_v86_apply, val_main_v77_apply, val_main_v76_apply, val_main_v75_apply, pick_apply te nt 4 _ rfl]
  refine congrArg (pick te nt 4) (Fin.ext ?_)
  have h0 : (i 0).val < 20480 := (i 0).isLt
  show (i 0).val % 20480 / 512 = (i 0).val / 512
  omega

theorem silu4 (wg : Weights) (i : S20480x4096.Idx) : val_main_v81 (F := Ideal) xs wg i = silu (proj xs wg 4 i) := by
  rw [val_main_v81_apply, gate4, val_main_call4_v5_apply, val_main_call4_v4_apply, val_main_call4_cst_0_apply, val_main_call4_v3_apply, val_main_call4_v2_apply, val_main_call4_cst_apply, val_main_call4_v1_apply,
    val_main_call4_v0_apply, gate4]
  exact silu_eq _

theorem gate5 (wg : Weights) (i : S20480x4096.Idx) : val_main_v94 (F := Ideal) xs wg i = proj xs wg 5 i := by
  rw [val_main_v94_apply]; unfold proj
  refine Finset.sum_congr rfl fun k _ => ?_
  rw [val_main_v0_apply, val_main_v93_apply, val_main_v92_apply]
  have h1 : (i 1).val < 4096 := (i 1).isLt
  have hk : k.val < 4096 := k.isLt
  refine congrArg₂ (α := EReal) (β := EReal) (γ := EReal) (· * ·) (congrArg xs ?_) (congrArg wg ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem up5 (wu : Weights) (i : S20480x4096.Idx) : val_main_v98 (F := Ideal) xs wu i = proj xs wu 5 i := by
  rw [val_main_v98_apply]; unfold proj
  refine Finset.sum_congr rfl fun k _ => ?_
  rw [val_main_v0_apply, val_main_v97_apply, val_main_v96_apply]
  have h1 : (i 1).val < 4096 := (i 1).isLt
  have hk : k.val < 4096 := k.isLt
  refine congrArg₂ (α := EReal) (β := EReal) (γ := EReal) (· * ·) (congrArg xs ?_) (congrArg wu ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on5 (i : S20480x4096.Idx) : val_main_v100 (F := Ideal) te nt i = pick te nt 5 (tile (i 0)) := by
  rw [val_main_v100_apply, val_main_v91_apply, val_main_v90_apply, val_main_v89_apply, pick_apply te nt 5 _ rfl]
  refine congrArg (pick te nt 5) (Fin.ext ?_)
  have h0 : (i 0).val < 20480 := (i 0).isLt
  show (i 0).val % 20480 / 512 = (i 0).val / 512
  omega

theorem silu5 (wg : Weights) (i : S20480x4096.Idx) : val_main_v95 (F := Ideal) xs wg i = silu (proj xs wg 5 i) := by
  rw [val_main_v95_apply, gate5, val_main_call5_v5_apply, val_main_call5_v4_apply, val_main_call5_cst_0_apply, val_main_call5_v3_apply, val_main_call5_v2_apply, val_main_call5_cst_apply, val_main_call5_v1_apply,
    val_main_call5_v0_apply, gate5]
  exact silu_eq _

theorem gate6 (wg : Weights) (i : S20480x4096.Idx) : val_main_v108 (F := Ideal) xs wg i = proj xs wg 6 i := by
  rw [val_main_v108_apply]; unfold proj
  refine Finset.sum_congr rfl fun k _ => ?_
  rw [val_main_v0_apply, val_main_v107_apply, val_main_v106_apply]
  have h1 : (i 1).val < 4096 := (i 1).isLt
  have hk : k.val < 4096 := k.isLt
  refine congrArg₂ (α := EReal) (β := EReal) (γ := EReal) (· * ·) (congrArg xs ?_) (congrArg wg ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem up6 (wu : Weights) (i : S20480x4096.Idx) : val_main_v112 (F := Ideal) xs wu i = proj xs wu 6 i := by
  rw [val_main_v112_apply]; unfold proj
  refine Finset.sum_congr rfl fun k _ => ?_
  rw [val_main_v0_apply, val_main_v111_apply, val_main_v110_apply]
  have h1 : (i 1).val < 4096 := (i 1).isLt
  have hk : k.val < 4096 := k.isLt
  refine congrArg₂ (α := EReal) (β := EReal) (γ := EReal) (· * ·) (congrArg xs ?_) (congrArg wu ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on6 (i : S20480x4096.Idx) : val_main_v114 (F := Ideal) te nt i = pick te nt 6 (tile (i 0)) := by
  rw [val_main_v114_apply, val_main_v105_apply, val_main_v104_apply, val_main_v103_apply, pick_apply te nt 6 _ rfl]
  refine congrArg (pick te nt 6) (Fin.ext ?_)
  have h0 : (i 0).val < 20480 := (i 0).isLt
  show (i 0).val % 20480 / 512 = (i 0).val / 512
  omega

theorem silu6 (wg : Weights) (i : S20480x4096.Idx) : val_main_v109 (F := Ideal) xs wg i = silu (proj xs wg 6 i) := by
  rw [val_main_v109_apply, gate6, val_main_call6_v5_apply, val_main_call6_v4_apply, val_main_call6_cst_0_apply, val_main_call6_v3_apply, val_main_call6_v2_apply, val_main_call6_cst_apply, val_main_call6_v1_apply,
    val_main_call6_v0_apply, gate6]
  exact silu_eq _

theorem gate7 (wg : Weights) (i : S20480x4096.Idx) : val_main_v122 (F := Ideal) xs wg i = proj xs wg 7 i := by
  rw [val_main_v122_apply]; unfold proj
  refine Finset.sum_congr rfl fun k _ => ?_
  rw [val_main_v0_apply, val_main_v121_apply, val_main_v120_apply]
  have h1 : (i 1).val < 4096 := (i 1).isLt
  have hk : k.val < 4096 := k.isLt
  refine congrArg₂ (α := EReal) (β := EReal) (γ := EReal) (· * ·) (congrArg xs ?_) (congrArg wg ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem up7 (wu : Weights) (i : S20480x4096.Idx) : val_main_v126 (F := Ideal) xs wu i = proj xs wu 7 i := by
  rw [val_main_v126_apply]; unfold proj
  refine Finset.sum_congr rfl fun k _ => ?_
  rw [val_main_v0_apply, val_main_v125_apply, val_main_v124_apply]
  have h1 : (i 1).val < 4096 := (i 1).isLt
  have hk : k.val < 4096 := k.isLt
  refine congrArg₂ (α := EReal) (β := EReal) (γ := EReal) (· * ·) (congrArg xs ?_) (congrArg wu ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on7 (i : S20480x4096.Idx) : val_main_v128 (F := Ideal) te nt i = pick te nt 7 (tile (i 0)) := by
  rw [val_main_v128_apply, val_main_v119_apply, val_main_v118_apply, val_main_v117_apply, pick_apply te nt 7 _ rfl]
  refine congrArg (pick te nt 7) (Fin.ext ?_)
  have h0 : (i 0).val < 20480 := (i 0).isLt
  show (i 0).val % 20480 / 512 = (i 0).val / 512
  omega

theorem silu7 (wg : Weights) (i : S20480x4096.Idx) : val_main_v123 (F := Ideal) xs wg i = silu (proj xs wg 7 i) := by
  rw [val_main_v123_apply, gate7, val_main_call7_v5_apply, val_main_call7_v4_apply, val_main_call7_cst_0_apply, val_main_call7_v3_apply, val_main_call7_v2_apply, val_main_call7_cst_apply, val_main_call7_v1_apply,
    val_main_call7_v0_apply, gate7]
  exact silu_eq _

theorem word_inj : ∀ e e' : Fin 8, BitVec.ofNat 32 e.val = BitVec.ofNat 32 e'.val ↔ e = e' := by decide

/-- Of the eight, a tile's own expert is picked if the tile is in use, and none if it is not. -/
theorem collapse (g : Fin 8 → EReal) (t : Fin 40) (e : Fin 8) (he : te (Shape.Idx.ofFin t) = BitVec.ofNat 32 e.val) :
    0 + pick te nt 0 t * g 0 + pick te nt 1 t * g 1 + pick te nt 2 t * g 2 + pick te nt 3 t * g 3 + pick te nt 4 t * g 4
      + pick te nt 5 t * g 5 + pick te nt 6 t * g 6 + pick te nt 7 t * g 7 = if inUse nt t then g e else 0 := by
  by_cases h : inUse nt t
  · have hp (e' : Fin 8) : pick te nt e' t = if e = e' then 1 else 0 := if_congr (by rw [he, and_iff_left h, word_inj]) rfl rfl
    rw [if_pos h]
    simp only [hp]
    fin_cases e <;> simp
  · have hp (e' : Fin 8) : pick te nt e' t = 0 := if_neg fun q => h q.2
    rw [if_neg h]
    simp only [hp, zero_mul, add_zero]

/-- The reference at an index. -/
theorem value (wg wu : Weights) (i : S20480x4096.Idx) (e : Fin 8) (he : te (Shape.Idx.ofFin (tile (i 0))) = BitVec.ofNat 32 e.val) :
    val_main_v131 (F := Ideal) te nt xs wg wu i = if inUse nt (tile (i 0)) then silu (proj xs wg e i) * proj xs wu e i else 0 := by
  rw [← collapse te nt (fun e => silu (proj xs wg e i) * proj xs wu e i) (tile (i 0)) e he]
  rw [val_main_v131_apply, val_main_v130_apply, val_main_v129_apply, val_main_v127_apply, on7, silu7, up7, val_main_v116_apply, val_main_v115_apply, val_main_v113_apply, on6, silu6, up6, val_main_v102_apply, val_main_v101_apply, val_main_v99_apply, on5, silu5, up5, val_main_v88_apply, val_main_v87_apply, val_main_v85_apply, on4, silu4, up4, val_main_v74_apply, val_main_v73_apply, val_main_v71_apply, on3, silu3, up3, val_main_v60_apply, val_main_v59_apply, val_main_v57_apply, on2, silu2, up2, val_main_v46_apply, val_main_v45_apply, val_main_v43_apply, on1, silu1, up1, val_main_v32_apply, val_main_v31_apply, val_main_v29_apply, on0, silu0, up0, val_main_v18_apply, val_main_cst_apply]
  show Ideal.ofBits .f32 0x00000000#32 + _ + _ + _ + _ + _ + _ + _ + _ = _
  rw [Ideal.ofBits_zero_f32]; rfl

end Cert.ExpGURefIdeal.Picked

end
-- ==== Proof.ExpGU.lean ====
/- The experts' gate and up products: each tile of the kernel's result is silu of its rows times its expert's gate weights, times the same
   rows times its up weights, if the tile is in use, and zero if it is not,
   and that is the reference's sum over the eight experts, all but the tile's own weighted by zero. -/
module

public import proofs.«01_k».proof.Defs
public import proofs.«01_k».proof.Proof.ExpGUTables
public import proofs.«01_k».proof.Proof.ExpGUIdealTables
public import proofs.«01_k».proof.Proof.ExpGURef
public import Idealize.ShloMosaic.Lib.Claim
public import Idealize.ShloMosaic.Lib.Pipeline.ValueKit
public import Idealize.ShloMosaic.Lib.Pipeline.Covers
public import Idealize.ShloMosaic.Lib.Pointwise.Tactic
public import Idealize.ShloMosaic.Lib.Pointwise.Reshape
public import Idealize.ShloMosaic.Lib.Pointwise.Contract

@[expose] public section

set_option maxRecDepth 16384

noncomputable section

open Idealize.ShloMosaic Idealize.ShloMosaic.TcCoe Idealize.SL.Sem
open Idealize.ShloMosaic.Pipeline (Dat)

namespace Cert.ExpGUIdeal.Product

open Cert.ExpGUIdeal Cert.ExpGUIdeal.Gen Cert.ExpGUIdeal.Tiles

variable (m : (ℓ : Loc nD τ sig) → Buf (Elt Ideal) ℓ)

/-- The reference's result. -/
abbrev result (te : IVec S40 32) (nt : IVec S1 32) (xs : FVec Ideal S20480x4096 .bf16) (wg wu : FVec Ideal S1x8x4096x4096 .f32) : FVec Ideal S20480x4096 .bf16 :=
  Cert.ExpGURefIdeal.Read.val_main_v131 (F := Ideal) te nt xs wg wu

/-- What the body stores in a tile in use, -/
theorem product (x : Vec Ideal S512x4096 .bf16) (wg wu : Vec Ideal S1x1x4096x512 .f32) (y : S512x512.Idx) :
    k0_pay1 x wg wu y = Cert.ExpGURefIdeal.Picked.silu (∑ k : Fin 4096, x (ix2 (y 0) k) * wg (ix4 (0 : Fin 1) (0 : Fin 1) k (y 1)))
      * ∑ k : Fin 4096, x (ix2 (y 0) k) * wu (ix4 (0 : Fin 1) (0 : Fin 1) k (y 1)) := by
  pointwise [k0_pay1]
  rfl

/-- and in a tile past the number in use. -/
theorem zeros (y : S512x512.Idx) : k0_pay2 (F := Ideal) y = 0 := Ideal.ofBits_zero_bf16

theorem outA (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (x0 : Vec Ideal S512x4096 .bf16) (x1 : Vec Ideal S1x1x4096x512 .f32) (x2 : Vec Ideal S1x1x4096x512 .f32) (xt0 : TbBuf0 (F := Ideal) c tbM0_0) (xt1 : TbBuf0 (F := Ideal) c tbM0_1) (hc0 : k0_cond1 i (used c xt1) = 1#1) (hc1 : ¬ k0_cond2 i (used c xt1) = 1#1) :
    out0_A_3 c i arg4 harg4 arg5 harg5 arg6 harg6 arg7 harg7 x0 x1 x2 xt0 xt1 hc0 hc1 = k0_pay1 x0 x1 x2 := by
  frame_out

theorem outB (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (x0 : Vec Ideal S512x4096 .bf16) (x1 : Vec Ideal S1x1x4096x512 .f32) (x2 : Vec Ideal S1x1x4096x512 .f32) (xt0 : TbBuf0 (F := Ideal) c tbM0_0) (xt1 : TbBuf0 (F := Ideal) c tbM0_1) (hc0 : ¬ k0_cond1 i (used c xt1) = 1#1) (hc1 : k0_cond2 i (used c xt1) = 1#1) :
    out0_B_3 c i arg4 harg4 arg5 harg5 arg6 harg6 arg7 harg7 x0 x1 x2 xt0 xt1 hc0 hc1 = k0_pay2 (F := Ideal) := by
  frame_out

/-- Every element of the result is in a tile. -/
theorem covers (hO : Ok m) : ((cfgM m hO).win 3).Covers :=
  Pipeline.Window.covers_of_indexMap_surj _ rfl (by decide : ∀ a, 0 < S512x512.size a) fun β =>
    have b0 : (β ⟨0, Nat.zero_lt_two⟩).val < 40 := lt_of_lt_of_eq (β ⟨0, Nat.zero_lt_two⟩).isLt (by
      show (S20480x4096.size 0 + S512x512.size 0 - 1) / S512x512.size 0 = 40; decide)
    have b1 : (β ⟨1, Nat.one_lt_two⟩).val < 8 := lt_of_lt_of_eq (β ⟨1, Nat.one_lt_two⟩).isLt (by
      show (S20480x4096.size 1 + S512x512.size 1 - 1) / S512x512.size 1 = 8; decide)
    ⟨fun a => match a with
      | ⟨0, _⟩ => ⟨(β ⟨1, Nat.one_lt_two⟩).val, b1⟩
      | ⟨1, _⟩ => ⟨(β ⟨0, Nat.zero_lt_two⟩).val, b0⟩, fun a => match a with
      | ⟨0, _⟩ => (BitVec.toNat_ofNat _ _).trans (Nat.mod_eq_of_lt (lt_trans b0 (by decide)))
      | ⟨1, _⟩ => (BitVec.toNat_ofNat _ _).trans (Nat.mod_eq_of_lt (lt_trans b1 (by decide)))⟩

/-- The place in the result of an index of point `t`'s tile. -/
abbrev into (hO : Ok m) (t : Fin (cfgM m hO).N) (y : S512x512.Idx) : S20480x4096.Idx := (((cfgM m hO).win 3).blk t).view.emb y

variable {m} (hG : Good m) (c : Dev nD) (t : Fin (cfgM m hG.ok).N)

/-- A tile's place in the result. -/
theorem place (y : S512x512.Idx) : (into m hG.ok t y 0).val = (grid0.coords t 1).val * 512 + (y 0).val
    ∧ (into m hG.ok t y 1).val = (grid0.coords t 0).val * 512 + (y 1).val := by
  have h0 : (grid0.coords t 0).val < 8 := (grid0.coords t 0).isLt
  have h1 : (grid0.coords t 1).val < 40 := (grid0.coords t 1).isLt
  have e0 := (BitVec.toNat_ofNat (grid0.coords t 0).val 32).trans (Nat.mod_eq_of_lt (by omega))
  have e1 := (BitVec.toNat_ofNat (grid0.coords t 1).val 32).trans (Nat.mod_eq_of_lt (by omega))
  constructor
  · rw [← e1]; exact Pipeline.Window.rect_emb_val ((cfgM m hG.ok).win 3) t y ⟨0, Nat.zero_lt_two⟩ rfl
  · rw [← e0]; exact Pipeline.Window.rect_emb_val ((cfgM m hG.ok).win 3) t y ⟨1, Nat.one_lt_two⟩ rfl

/-- The rows of a tile in use. -/
theorem rows (hn : (grid0.coords t 1).val < (count m).toNat) (r : Fin 512) (k : Fin 4096) (R : Fin 20480) (hR : R.val = (grid0.coords t 1).val * 512 + r.val) :
    iblk m hG.ok c 0 t (ix2 r k) = m ((c : Thread nD τ).loc main_arg2) (ix2 R k) := by
  have e := hG.row m (grid0.coords t)
  unfold iblk
  refine congrArg (m ((c : Thread nD τ).loc main_arg2)) (funext fun a => Fin.ext ?_)
  refine (Pipeline.Window.rect_emb_val ((cfgM m hG.ok).win 0) t _ a rfl).trans ?_
  match a with
  | ⟨0, _⟩ =>
    have e := congrFun e 0
    show cc0_transform_0 inb_S1_S1_0 numel1_S1 (tbl m) (grid0.coords t) 0 * 512 + r.val = R.val
    rw [e, hR]; show min _ _ * 512 + _ = _; omega
  | ⟨1, _⟩ =>
    have e := congrFun e 1
    show cc0_transform_0 inb_S1_S1_0 numel1_S1 (tbl m) (grid0.coords t) 1 * 4096 + k.val = k.val
    rw [e]; show 0 * 4096 + k.val = k.val; omega

/-- The gate weights of a tile: its expert's. -/
theorem gates (k : Fin 4096) (l : Fin 512) (C : Fin 4096) (hC : C.val = (grid0.coords t 0).val * 512 + l.val) :
    iblk m hG.ok c 1 t (ix4 (0 : Fin 1) (0 : Fin 1) k l)
      = m ((c : Thread nD τ).loc main_arg3) (ix4 (0 : Fin 1) (⟨(expert m (grid0.coords t 1)).toNat, hG.expert_lt _⟩ : Fin 8) k C) := by
  have e := weights1 m (grid0.coords t)
  unfold iblk
  refine congrArg (m ((c : Thread nD τ).loc main_arg3)) (funext fun a => Fin.ext ?_)
  refine (Pipeline.Window.rect_emb_val ((cfgM m hG.ok).win 1) t _ a rfl).trans ?_
  match a with
  | ⟨0, _⟩ =>
    have e := congrFun e 0
    show cc0_transform_1 k0_off1_inb numel1_S1 (tbl m) (grid0.coords t) 0 * 1 + 0 = 0
    rw [e]; rfl
  | ⟨1, _⟩ =>
    have e := congrFun e 1
    show cc0_transform_1 k0_off1_inb numel1_S1 (tbl m) (grid0.coords t) 1 * 1 + 0 = _
    rw [e]; exact Nat.mul_one _
  | ⟨2, _⟩ =>
    have e := congrFun e 2
    show cc0_transform_1 k0_off1_inb numel1_S1 (tbl m) (grid0.coords t) 2 * 4096 + k.val = k.val
    rw [e]; show 0 * 4096 + k.val = k.val; omega
  | ⟨3, _⟩ =>
    have e := congrFun e 3
    show cc0_transform_1 k0_off1_inb numel1_S1 (tbl m) (grid0.coords t) 3 * 512 + l.val = C.val
    rw [e, hC]; rfl

/-- The up weights of a tile: its expert's. -/
theorem ups (k : Fin 4096) (l : Fin 512) (C : Fin 4096) (hC : C.val = (grid0.coords t 0).val * 512 + l.val) :
    iblk m hG.ok c 2 t (ix4 (0 : Fin 1) (0 : Fin 1) k l)
      = m ((c : Thread nD τ).loc main_arg4) (ix4 (0 : Fin 1) (⟨(expert m (grid0.coords t 1)).toNat, hG.expert_lt _⟩ : Fin 8) k C) := by
  have e := weights2 m (grid0.coords t)
  unfold iblk
  refine congrArg (m ((c : Thread nD τ).loc main_arg4)) (funext fun a => Fin.ext ?_)
  refine (Pipeline.Window.rect_emb_val ((cfgM m hG.ok).win 2) t _ a rfl).trans ?_
  match a with
  | ⟨0, _⟩ =>
    have e := congrFun e 0
    show cc0_transform_2 k0_off1_inb numel1_S1 (tbl m) (grid0.coords t) 0 * 1 + 0 = 0
    rw [e]; rfl
  | ⟨1, _⟩ =>
    have e := congrFun e 1
    show cc0_transform_2 k0_off1_inb numel1_S1 (tbl m) (grid0.coords t) 1 * 1 + 0 = _
    rw [e]; exact Nat.mul_one _
  | ⟨2, _⟩ =>
    have e := congrFun e 2
    show cc0_transform_2 k0_off1_inb numel1_S1 (tbl m) (grid0.coords t) 2 * 4096 + k.val = k.val
    rw [e]; show 0 * 4096 + k.val = k.val; omega
  | ⟨3, _⟩ =>
    have e := congrFun e 3
    show cc0_transform_2 k0_off1_inb numel1_S1 (tbl m) (grid0.coords t) 3 * 512 + l.val = C.val
    rw [e, hC]; rfl

/-- The body's question, whether the tile is in use, is the reference's. -/
theorem in_use : k0_cond1 (grid0.coords t) (used c (tbl m 1)) = 1#1
    ↔ Cert.ExpGURefIdeal.Picked.inUse (m ((c : Thread nD τ).loc main_arg1)) (grid0.coords t 1) := by
  have hw : used c (tbl m 1) = m ((c : Thread nD τ).loc main_arg1) (Shape.Idx.ofFin (0 : Fin 1)) := by
    obtain rfl : c = 0 := Subsingleton.elim _ _
    exact congrArg (tbl m 1) (one_index _ _ (0 : Fin 1) rfl)
  rw [hw]
  unfold Cert.ExpGURefIdeal.Picked.inUse k0_cond1
  generalize m ((c : Thread nD τ).loc main_arg1) (Shape.Idx.ofFin (0 : Fin 1)) = w
  simp only [Scalar.cmpi, Scalar.extui, IntOp.cmpi]
  cases (BitVec.ofNat 32 (grid0.coords t 1).val).slt w <;> decide

theorem lt_count (h : k0_cond1 (grid0.coords t) (used c (tbl m 1)) = 1#1) : (grid0.coords t 1).val < (count m).toNat := by
  have h := (in_use hG c t).mp h
  obtain rfl : c = 0 := Subsingleton.elim _ _
  have h1 : (grid0.coords t 1).val < 40 := (grid0.coords t 1).isLt
  have := hG.count_le
  have h : (BitVec.ofNat 32 (grid0.coords t 1).val).toInt < (count m).toInt := by
    simp only [Cert.ExpGURefIdeal.Picked.inUse, WordCmp.cmpi_slt_eq, StableHlo.Predicate.ofBool_eq_one_iff, decide_eq_true_eq] at h
    exact h
  rw [BitVec.toInt_eq_toNat_of_lt (by rw [BitVec.toNat_ofNat]; omega), BitVec.toInt_eq_toNat_of_lt (by omega), BitVec.toNat_ofNat, Nat.mod_eq_of_lt (by omega)] at h
  exact_mod_cast h

/-- What the body leaves at an index of a tile is the reference at the tile's place in the whole array. -/
theorem point (y : S512x512.Idx) : outsAt0 m hG.ok c t y
    = result (m ((c : Thread nD τ).loc main_arg0)) (m ((c : Thread nD τ).loc main_arg1)) (m ((c : Thread nD τ).loc main_arg2)) (m ((c : Thread nD τ).loc main_arg3))
        (m ((c : Thread nD τ).loc main_arg4)) (into m hG.ok t y) := by
  obtain ⟨p0, p1⟩ := place hG t y
  generalize into m hG.ok t y = i at p0 p1 ⊢
  have ht : Cert.ExpGURefIdeal.Picked.tile (i 0) = grid0.coords t 1 := Fin.ext (by
    have h0 : (y 0).val < 512 := (y 0).isLt
    show (i 0).val / 512 = _; rw [p0]; omega)
  have he : m ((c : Thread nD τ).loc main_arg0) (Shape.Idx.ofFin (Cert.ExpGURefIdeal.Picked.tile (i 0)))
      = BitVec.ofNat 32 (⟨(expert m (grid0.coords t 1)).toNat, hG.expert_lt _⟩ : Fin 8).val := by
    rw [ht, BitVec.ofNat_toNat, BitVec.setWidth_eq]
    obtain rfl : c = 0 := Subsingleton.elim _ _; rfl
  rw [result, Cert.ExpGURefIdeal.Picked.value _ _ _ _ _ i _ he, ht]
  by_cases h : k0_cond1 (grid0.coords t) (used c (tbl m 1)) = 1#1
  · rw [if_pos ((in_use hG c t).mp h)]
    refine (congrFun (outsAt0_A m hG.ok c t h) y).trans ((congrFun (outA ..) y).trans ((product _ _ _ y).trans ?_))
    unfold Cert.ExpGURefIdeal.Picked.proj
    have hx (k : Fin 4096) := rows hG c t (lt_count hG c t h) _ k _ p0
    have hg (k : Fin 4096) := gates hG c t k _ _ p1
    have hu (k : Fin 4096) := ups hG c t k _ _ p1
    exact congrArg₂ (fun a b => Cert.ExpGURefIdeal.Picked.silu a * b)
      (Finset.sum_congr rfl fun k _ => congrArg₂ (· * ·) (hx k) (hg k)) (Finset.sum_congr rfl fun k _ => congrArg₂ (· * ·) (hx k) (hu k))
  · rw [if_neg (fun q => h ((in_use hG c t).mpr q))]
    exact (congrFun (outsAt0_B m hG.ok c t h) y).trans ((congrFun (outB ..) y).trans (zeros y))

/-- The result array after the run. -/
theorem final : (dats m hG.ok 0 c).arrAt 3 (cfgM m hG.ok).N
    = result (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m hG.ok 0 c).arrAt_eq_of_covers 3 _ (covers m hG.ok) fun t _ y => ?_
  rw [after0_3]
  exact point hG c t y

end Cert.ExpGUIdeal.Product

/-- The kernel and the reference agree. -/
theorem Cert.Proof.algebraic_ExpGU : Cert.algebraic_ExpGUIdeal_ExpGURefIdeal (hExpGUIdeal := Cert.ExpGUIdeal.Gen.facts)
    (hExpGURefIdeal := Cert.ExpGURefIdeal.Gen.facts) (hPre_tables_egu := Cert.Pre_tables_egu.Gen.facts) := by
  pair_intro
  · have hG := Cert.ExpGUIdeal.Tiles.good_of_pre m hpre
    run_from Cert.ExpGUIdeal.Tiles.run_main m g hG.ok
    · exact Cert.ExpGUIdeal.Product.final hG c
    · exact hc.2 Cert.ExpGUIdeal.main_arg0 (by decide : Cert.ExpGUIdeal.main_arg0 ∈ Pipeline.restRefs Cert.ExpGUIdeal.sig Cert.ExpGUIdeal.spec0)
    · exact hc.2 Cert.ExpGUIdeal.main_arg1 (by decide : Cert.ExpGUIdeal.main_arg1 ∈ Pipeline.restRefs Cert.ExpGUIdeal.sig Cert.ExpGUIdeal.spec0)
  · refine (θ_run _ _ _).mono (fun r h c => ?_) (Cert.ExpGURefIdeal.Value.run m' g')
    refine ⟨(h c).1.trans ((Cert.ExpGURefIdeal.Read.val_main_v131_eq (F := Ideal) (StableHlo.launchContents m' c)).trans ?_), (h c).2⟩
    obtain ⟨e0, e1, e2, e3, e4⟩ := hagree c
    show Cert.ExpGURefIdeal.Read.val_main_v131 (F := Ideal) (m' (c.tc.loc Cert.ExpGURefIdeal.main_arg0)) (m' (c.tc.loc Cert.ExpGURefIdeal.main_arg1)) (m' (c.tc.loc Cert.ExpGURefIdeal.main_arg2))
      (m' (c.tc.loc Cert.ExpGURefIdeal.main_arg3)) (m' (c.tc.loc Cert.ExpGURefIdeal.main_arg4)) = _
    rw [e0, e1, e2, e3, e4]

end
-- ==== Proof.ExpDownIdealTile.lean ====
/- One tile of the experts' down products, on any buffers: a tile in use is computed from the rows and the weights that are there, a tile past the number
   in use is filled with zeros. -/
module

public import proofs.«01_k».proof.Proof.Gen.ExpDownIdeal.Launch
public import proofs.«01_k».proof.Proof.Gen.ExpDownIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpDownIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpDownIdeal Cert.ExpDownIdeal.Gen

variable {F : FTy → Type} [FloatOps F]

local notation "𝕄" => MT nD τ sig Unit (Elt F) ℕ (UR sig nD τ) ℕ

/-- The two tables, each as one buffer: the tiles' experts and the number of tiles in use. -/
abbrev tbM0_0 : Memref sig .tc .smem S40 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table's contents on core `c`, and the half of it that the body may read. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The number of tiles in use, as the body reads it from the second table. -/
abbrev used (c : Dev nD) (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))

/-- A tile is either in use or past the number in use, and not both. -/
theorem either (i : grid0.Coords) (w : BitVec 32) : (k0_cond1 i w = 1#1 ∧ ¬ k0_cond2 i w = 1#1) ∨ (¬ k0_cond1 i w = 1#1 ∧ k0_cond2 i w = 1#1) := by
  have e : (w.sle (BitVec.ofNat 32 (i 1).val)) = !((BitVec.ofNat 32 (i 1).val).slt w) := by
    simp only [BitVec.sle, BitVec.slt]; rw [← decide_not]; exact decide_eq_decide.mpr (by omega)
  simp only [k0_cond1, k0_cond2, Scalar.cmpi, Scalar.extui, IntOp.cmpi, e]
  cases (BitVec.ofNat 32 (i 1).val).slt w <;> decide

theorem cond2_iff (i : grid0.Coords) (w : BitVec 32) : k0_cond2 i w = 1#1 ↔ ¬ k0_cond1 i w = 1#1 := by
  rcases either i w with h | h <;> simp [h]

set_option maxHeartbeats 1000000 in
/-- A tile in use: the body runs, hands the inputs back as they were, and leaves the tile with the stores found here written. -/
def runA (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S512x512 .f32) (harg6 : arg6.IsWhole)
    (x0 : Vec F S512x4096 .bf16) (x1 : Vec F S1x1x4096x512 .f32) (xt0 : TbBuf0 (F := F) c tbM0_0) (xt1 : TbBuf0 (F := F) c tbM0_1) (hc0 : k0_cond1 i (used c xt1) = 1#1) (hc1 : ¬ k0_cond2 i (used c xt1) = 1#1) :
    { L : List (View.Piece (Elt F) S512x512 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d) ∗ tbPt0 c tbM0_0 xt0 ∗ tbPt0 c tbM0_1 xt1
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L) ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg4 harg4 arg5 harg5 arg6 harg6) K } := by
  refine ⟨?_, fun E K => ?run⟩
  case run =>
    simp only [cc0_moe_down_eq_skeleton]; unfold cc0_moe_down_skel
    unfold owns
    iintro ⟨⟨%f0, %hf0, H0⟩, ⟨%f1, %hf1, H1⟩, ⟨%d, %f, -, H⟩, HT0, HT1, Hk⟩
    obtain rfl := harg4.eq_unread hf0; obtain rfl := harg5.eq_unread hf1
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H]; · iexists _; iexact H
    isplitl [HT0]; · iexact HT0
    iexact HT1

set_option maxHeartbeats 1000000 in
/-- A tile past the number in use: the body runs, hands the inputs back as they were, and leaves the tile with the stores found here written. -/
def runB (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S512x512 .f32) (harg6 : arg6.IsWhole)
    (x0 : Vec F S512x4096 .bf16) (x1 : Vec F S1x1x4096x512 .f32) (xt0 : TbBuf0 (F := F) c tbM0_0) (xt1 : TbBuf0 (F := F) c tbM0_1) (hc0 : ¬ k0_cond1 i (used c xt1) = 1#1) (hc1 : k0_cond2 i (used c xt1) = 1#1) :
    { L : List (View.Piece (Elt F) S512x512 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d) ∗ tbPt0 c tbM0_0 xt0 ∗ tbPt0 c tbM0_1 xt1
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L) ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg4 harg4 arg5 harg5 arg6 harg6) K } := by
  refine ⟨?_, fun E K => ?run⟩
  case run =>
    simp only [cc0_moe_down_eq_skeleton]; unfold cc0_moe_down_skel
    unfold owns
    iintro ⟨⟨%f0, %hf0, H0⟩, ⟨%f1, %hf1, H1⟩, ⟨%d, %f, -, H⟩, HT0, HT1, Hk⟩
    obtain rfl := harg4.eq_unread hf0; obtain rfl := harg5.eq_unread hf1
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H]; · iexists _; iexact H
    isplitl [HT0]; · iexact HT0
    iexact HT1

end Cert.ExpDownIdeal.Tiles

end
-- ==== Proof.ExpDownIdealFrame.lean ====
/- The experts' down products, run: every tile ends as the body leaves it, the arguments end unchanged, and every counter ends at zero. The tables are any
   whose blocks lie in their arrays. -/
module

public import proofs.«01_k».proof.Proof.ExpDownIdealTile
public import Idealize.ShloMosaic.Lib.Claim

@[expose] public section

set_option maxRecDepth 16384

noncomputable section

namespace Cert.ExpDownIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpDownIdeal Cert.ExpDownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the call begins. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables put every block inside its array. -/
abbrev Ok : Prop := ok0 (F := F) (tbl m)

/-- The call at these tables. -/
abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The result's tile is written back at every point. -/
theorem flush (a : (pcfg0 (F := F)).Adm) : ∀ t : Fin (cfg0 a).N, ((cfg0 a).win 2).flush t = true :=
  (fun t => (Pipeline.Window.flushOf_reads cc0_transform_2 reads0_2 hreads0_2 1 (by decide) (by decide) (Pipeline.Window.sep_of_coord cc0_transform_2 1 0 (fun _ => rfl) (by decide)) (P := 1) (m := 0) (by decide) rfl t).mpr (Nat.mod_one _) : ∀ t : Fin grid0.N, Pipeline.Window.flushOf grid0 true cc0_transform_2 t = true)

/-- The result's tile is stored at every point. -/
theorem live (a : (pcfg0 (F := F)).Adm) (i : grid0.Coords) : (cfg0 a).idle 2 i = false := by
  show (!(k0_cond1 i _ == 1#1) && !(k0_cond2 i _ == 1#1)) = false
  rcases either i (a.1.atD 1 ![0]) with h | h <;> simp [h.1, h.2]

/-- A buffer through which the result's tile is described. -/
abbrev VO : View sig .tc .vmem S512x512 .f32 := (Memref.whole cc0_stg2_0 : Memref sig .tc .vmem S512x512 .f32).view

/-- Each window's buffer at point `t`. -/
abbrev ms0 (hO : Ok m) (t : Fin (cfgM m hO).N) : Memref sig .tc .vmem S512x4096 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x4096x512 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S512x512 .f32 := spec0_2.stage ((cfgM m hO).slots t 2)
abbrev hs2 (hO : Ok m) (t : Fin (cfgM m hO).N) : (ms2 m hO t).IsWhole := hstage0_2 (((cfgM m hO).slots t 2).cast nbuf0_2)

/-- The body at point `t`. -/
abbrev bodyAt0 (hO : Ok m) (t : Fin (cfgM m hO).N) : Prog (TpuEff nD τ sig (Elt F) Λ₀ .tc) PUnit :=
  cc0_moe_down (grid0.coords t) tbM0_0 htbM0_0 tbM0_1 htbM0_1 (ms0 m hO t) (hs0 m hO t) (ms1 m hO t) (hs1 m hO t) (ms2 m hO t) (hs2 m hO t)

theorem coverA (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S512x512 .f32) (harg6 : arg6.IsWhole)
    (x0 : Vec F S512x4096 .bf16) (x1 : Vec F S1x1x4096x512 .f32) (xt0 : TbBuf0 (F := F) c tbM0_0) (xt1 : TbBuf0 (F := F) c tbM0_1) (hc0 : k0_cond1 i (used c xt1) = 1#1) (hc1 : ¬ k0_cond2 i (used c xt1) = 1#1) (y : S512x512.Idx) :
    ∃ pc ∈ (runA c i arg4 harg4 arg5 harg5 arg6 harg6 x0 x1 xt0 xt1 hc0 hc1).1, y ∈ pc.1.set :=
  View.cover_of_tiledL (runA c i arg4 harg4 arg5 harg5 arg6 harg6 x0 x1 xt0 xt1 hc0 hc1).1 S512x512.size (by sl_kernel_rfl) y

/-- What the body leaves in the result's tile. -/
def out0_A_2 (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S512x512 .f32) (harg6 : arg6.IsWhole)
    (x0 : Vec F S512x4096 .bf16) (x1 : Vec F S1x1x4096x512 .f32) (xt0 : TbBuf0 (F := F) c tbM0_0) (xt1 : TbBuf0 (F := F) c tbM0_1) (hc0 : k0_cond1 i (used c xt1) = 1#1) (hc1 : ¬ k0_cond2 i (used c xt1) = 1#1) : Vec F S512x512 .f32 :=
  VO.read (Elt F) (VO.writes (Elt F) VO.junk (runA c i arg4 harg4 arg5 harg5 arg6 harg6 x0 x1 xt0 xt1 hc0 hc1).1)

theorem coverB (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S512x512 .f32) (harg6 : arg6.IsWhole)
    (x0 : Vec F S512x4096 .bf16) (x1 : Vec F S1x1x4096x512 .f32) (xt0 : TbBuf0 (F := F) c tbM0_0) (xt1 : TbBuf0 (F := F) c tbM0_1) (hc0 : ¬ k0_cond1 i (used c xt1) = 1#1) (hc1 : k0_cond2 i (used c xt1) = 1#1) (y : S512x512.Idx) :
    ∃ pc ∈ (runB c i arg4 harg4 arg5 harg5 arg6 harg6 x0 x1 xt0 xt1 hc0 hc1).1, y ∈ pc.1.set :=
  View.cover_of_tiledL (runB c i arg4 harg4 arg5 harg5 arg6 harg6 x0 x1 xt0 xt1 hc0 hc1).1 S512x512.size (by sl_kernel_rfl) y

/-- What the body leaves in the result's tile. -/
def out0_B_2 (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S512x512 .f32) (harg6 : arg6.IsWhole)
    (x0 : Vec F S512x4096 .bf16) (x1 : Vec F S1x1x4096x512 .f32) (xt0 : TbBuf0 (F := F) c tbM0_0) (xt1 : TbBuf0 (F := F) c tbM0_1) (hc0 : ¬ k0_cond1 i (used c xt1) = 1#1) (hc1 : k0_cond2 i (used c xt1) = 1#1) : Vec F S512x512 .f32 :=
  VO.read (Elt F) (VO.writes (Elt F) VO.junk (runB c i arg4 harg4 arg5 harg5 arg6 harg6 x0 x1 xt0 xt1 hc0 hc1).1)

theorem past {i : grid0.Coords} {w : BitVec 32} (h : ¬ k0_cond1 i w = 1#1) : k0_cond2 i w = 1#1 := (cond2_iff i w).mpr h
theorem within {i : grid0.Coords} {w : BitVec 32} (h : k0_cond1 i w = 1#1) : ¬ k0_cond2 i w = 1#1 := fun h' => (cond2_iff i w).mp h' h

/-- What the result's tile holds after point `t`. -/
def outsAt0 (hO : Ok m) (c : Dev nD) (t : Fin (cfgM m hO).N) : Vec F S512x512 .f32 :=
  if h0 : k0_cond1 (grid0.coords t) (used c (tbl m 1)) = 1#1 then
    out0_A_2 c (grid0.coords t) (ms0 m hO t) (hs0 m hO t) (ms1 m hO t) (hs1 m hO t) (ms2 m hO t) (hs2 m hO t) (iblk m hO c 0 t) (iblk m hO c 1 t) (tbl m 0) (tbl m 1) h0 (within h0)
  else
    out0_B_2 c (grid0.coords t) (ms0 m hO t) (hs0 m hO t) (ms1 m hO t) (hs1 m hO t) (ms2 m hO t) (hs2 m hO t) (iblk m hO c 0 t) (iblk m hO c 1 t) (tbl m 0) (tbl m 1) h0 (past h0)

theorem outsAt0_A (hO : Ok m) (c : Dev nD) (t : Fin (cfgM m hO).N) (h0 : k0_cond1 (grid0.coords t) (used c (tbl m 1)) = 1#1) :
    outsAt0 m hO c t = out0_A_2 c (grid0.coords t) (ms0 m hO t) (hs0 m hO t) (ms1 m hO t) (hs1 m hO t) (ms2 m hO t) (hs2 m hO t) (iblk m hO c 0 t) (iblk m hO c 1 t) (tbl m 0) (tbl m 1) h0 (within h0) := by
  unfold outsAt0; exact (dif_pos h0).trans rfl

theorem outsAt0_B (hO : Ok m) (c : Dev nD) (t : Fin (cfgM m hO).N) (h0 : ¬ k0_cond1 (grid0.coords t) (used c (tbl m 1)) = 1#1) :
    outsAt0 m hO c t = out0_B_2 c (grid0.coords t) (ms0 m hO t) (hs0 m hO t) (ms1 m hO t) (hs1 m hO t) (ms2 m hO t) (hs2 m hO t) (iblk m hO c 0 t) (iblk m hO c 1 t) (tbl m 0) (tbl m 1) h0 (past h0) := by
  unfold outsAt0; exact (dif_neg h0).trans rfl

/-- The arrays as they are found, the blocks of the inputs left in place, and the result's tiles. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => (outsAt0 m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = (outsAt0 m hO c t) := by dsimp only [dats]; try rfl

theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t))

set_option maxHeartbeats 800000 in
/-- The body at any point. -/
theorem sound_body (hO : Ok m) (c : Dev nD) (t : Fin (cfgM m hO).N) :
    bodyPre m hO c t ⊢ wp frame (wpE (defs₀ (F := F)) Variants.none c none) Set.univ (bodyAt0 m hO t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  by_cases h0 : k0_cond1 (grid0.coords t) (used c (tbl m 1)) = 1#1
  · rw [outsAt0_A m hO c t h0]
    unfold out0_A_2
    iintro ⟨⟨HΦ, ⟨HT0, HT1⟩⟩, Ho, ⟨%d0, H0⟩, ⟨%d1, H1⟩, ⟨%d2, H2⟩⟩
    iapply ((runA c (grid0.coords t) _ _ _ _ _ _ (iblk m hO c 0 t) (iblk m hO c 1 t) (tbl m 0) (tbl m 1) h0 (within h0)).2 Set.univ _)
    isplitl [H0]; · iexact H0
    isplitl [H1]; · iexact H1
    isplitl [H2]; · iexists _; iexact H2
    isplitl [HT0]; · iexact HT0
    isplitl [HT1]; · iexact HT1
    iintro ⟨H0, H1, ⟨%e, H2⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    unfold owns; iexists _; isplitr
    swap; · iexact H2
    ipureintro; exact View.read_writes_of_cover _ _ _ _ _ (coverA c _ _ _ _ _ _ _ _ _ _ _ _ _)
  · rw [outsAt0_B m hO c t h0]
    unfold out0_B_2
    iintro ⟨⟨HΦ, ⟨HT0, HT1⟩⟩, Ho, ⟨%d0, H0⟩, ⟨%d1, H1⟩, ⟨%d2, H2⟩⟩
    iapply ((runB c (grid0.coords t) _ _ _ _ _ _ (iblk m hO c 0 t) (iblk m hO c 1 t) (tbl m 0) (tbl m 1) h0 (past h0)).2 Set.univ _)
    isplitl [H0]; · iexact H0
    isplitl [H1]; · iexact H1
    isplitl [H2]; · iexists _; iexact H2
    isplitl [HT0]; · iexact HT0
    isplitl [HT1]; · iexact HT1
    iintro ⟨H0, H1, ⟨%e, H2⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

/-- The body at every point, as the call asks for it. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have hl : idle0 (tbl m) 2 (((pcfg0 (F := F)).gridAt (tbl m)).coords t) = false := live (adm m hO) _
  dsimp only
  rw [hl]
  exact .rfl

set_option backward.isDefEq.respectTransparency.types false in
/-- The run, with the counters. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The run: every array ends at what the blocks say. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans rfl,
      ((h c).2 main_arg1 (by decide : main_arg1 ∈ Pipeline.restRefs sig spec0)).trans rfl,
      ((h c).1 0).trans (((dats m hO 0 c).arrAt_in 0 rfl _).trans ((A_eq m hO c 0).trans rfl)),
      ((h c).1 1).trans (((dats m hO 0 c).arrAt_in 1 rfl _).trans ((A_eq m hO c 1).trans rfl))⟩) (run_main m ρ hO)

/-- The frame: the arguments end unchanged and every counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.ExpDownIdeal.Tiles

end
-- ==== Proof.ExpDownIdealTables.lean ====
/- The tables that the precondition of the experts' down call admits: every tile's expert is one of the eight and between one and forty
   tiles are in use. Such tables put every block inside its array, so the call's frame holds of them. -/
module

public import proofs.«01_k».proof.Defs
public import proofs.«01_k».proof.Proof.ExpDownIdealFrame
public import proofs.«01_k».proof.Proof.Gen.Pre_tables_edown
public import Idealize.ShloMosaic.Lib.StableHlo.Predicate

@[expose] public section

set_option maxRecDepth 16384

noncomputable section

namespace Cert.ExpDownIdeal.Tiles

open Idealize.ShloMosaic Idealize.ShloMosaic.TcCoe
open Cert.ExpDownIdeal Cert.ExpDownIdeal.Gen

variable {F : FTy → Type} [FloatOps F]
variable (m : (ℓ : Loc nD τ sig) → Buf (Elt F) ℓ)

/-- Tile `p`'s expert, and the number of tiles in use. -/
abbrev expert (p : Fin 40) : BitVec 32 := tbl m 0 (Shape.Idx.ofFin p : S40.Idx)
abbrev count : BitVec 32 := tbl m 1 (Shape.Idx.ofFin (0 : Fin 1) : S1.Idx)

/-- Every tile's expert is one of the eight, and between one and forty tiles are in use. -/
structure Good : Prop where
  expert_lt : ∀ p : Fin 40, (expert m p).toNat < 8
  count_pos : 1 ≤ (count m).toNat
  count_le : (count m).toNat ≤ 40

theorem of_signed {w : BitVec 32} {n : Nat} (h0 : (0 : ℤ) ≤ w.toInt) (h1 : w.toInt < n) : w.toNat < n := by
  rw [BitVec.toInt_eq_toNat_cond] at h0 h1
  split at h0 <;> split at h1 <;> omega

theorem and_one (a b : BitVec 1) : IntOp.andi a b = 1#1 ↔ a = 1#1 ∧ b = 1#1 := by revert a b; decide

/-- The precondition, read. -/
theorem good_of_pre (h : ∀ c : Dev nD, Cert.Pre_tables_edown.fn (F := F) (m ((c.tc : Thread nD τ).loc main_arg0)) (m ((c.tc : Thread nD τ).loc main_arg1)) (m ((c.tc : Thread nD τ).loc main_arg2)) (m ((c.tc : Thread nD τ).loc main_arg3)) = fun _ => 1#1) : Good m := by
  have e (x : Fin 40) : (0 ≤ (expert m x).toInt ∧ (expert m x).toInt < 8) ∧ 1 ≤ (count m).toInt ∧ (count m).toInt ≤ 40 := by
    have e := congrFun (h 0) (Shape.Idx.ofFin x)
    simp only [Cert.Pre_tables_edown.fn, andi, cmpi, constantI, broadcastInDim, and_one, WordCmp.cmpi_sge_eq, WordCmp.cmpi_slt_eq, WordCmp.cmpi_sle_eq, StableHlo.Predicate.ofBool_eq_one_iff, decide_eq_true_eq] at e
    have hj (j : S1.Idx) : tbl m 1 j = count m := congrArg (tbl m 1) (funext fun a => by
      obtain rfl : a = (0 : Fin 1) := Subsingleton.elim (α := Fin 1) _ _
      exact Subsingleton.elim (α := Fin 1) _ _)
    exact ⟨e.1.1, e.1.2.trans_eq (congrArg BitVec.toInt (hj _)), (congrArg BitVec.toInt (hj _)).symm.trans_le e.2⟩
  have e0 := (e 0).2
  refine ⟨fun x => of_signed (e x).1.1 (by exact_mod_cast (e x).1.2), ?_, ?_⟩
  · have := of_signed (w := count m) (n := 41) (by omega) (by omega)
    have t := BitVec.toInt_eq_toNat_cond (count m)
    split at t <;> omega
  · have := of_signed (w := count m) (n := 41) (by omega) (by omega)
    omega

/-- The rows' block at a tile: the tile's own, or the last one in use. -/
theorem row_eq : ∀ (n : Fin 41) (t : Fin 40), 1 ≤ n.val → (Scalar.minsi (BitVec.ofNat 32 t.val) (Scalar.subi (BitVec.ofNat 32 n.val) 1#32)).toNat = min t.val (n.val - 1) := by
  decide +kernel

/-- The one element of a rectangle of one element. -/
theorem one_index {n k : Nat} (h : ∀ a, (![k] : Fin 1 → Nat) a + (![1] : Fin 1 → Nat) a ≤ (⟨1, ![n]⟩ : Shape).size a)
    (j : (Rect.unit (s := ⟨1, ![n]⟩) ![k] ![1] h).shape.Idx) (p : Fin n) (e : k = p.val) :
    (Rect.unit (s := ⟨1, ![n]⟩) ![k] ![1] h).emb j = (Shape.Idx.ofFin p : (⟨1, ![n]⟩ : Shape).Idx) := by
  funext a
  obtain rfl : a = (0 : Fin 1) := Subsingleton.elim (α := Fin 1) _ _
  refine Fin.ext ?_
  rw [Rect.emb_apply]
  have := (j 0).isLt
  have h1 : (j 0).val < 1 := this
  show k + 1 * (j 0).val = p.val
  omega

theorem Good.row (hG : Good m) (i : grid0.Coords) : cc0_transform_0 inb_S1_S1_0 numel1_S1 (tbl m) i = ![min (i 1).val ((count m).toNat - 1), 0] := by
  have h := row_eq ⟨(count m).toNat, by have := hG.count_le; omega⟩ ⟨(i 1).val, (i 1).isLt⟩ hG.count_pos
  simp only [BitVec.ofNat_toNat, BitVec.setWidth_eq] at h
  have hw : (tbl m).at 1 (Rect.unit (s := S1) ![0] S1.size inb_S1_S1_0) numel1_S1 = count m := by
    unfold Pipeline.Prefetch.Contents.at
    exact congrArg (tbl m 1) (one_index _ _ (0 : Fin 1) rfl)
  unfold cc0_transform_0
  simp only [hw]
  rw [h]; rfl

/-- The weights' block at a tile: its expert's, and the columns that the first coordinate names. -/
theorem at_expert (i : grid0.Coords) : (tbl m).at 0 (Rect.unit (s := S40) ![(Scalar.indexCast (BitVec.ofNat 32 (i 1).val)).toNat] S1.size (k0_off1_inb i)) numel1_S1
    = expert m (i 1) := by
  unfold Pipeline.Prefetch.Contents.at
  have h40 : (i 1).val < 40 := (i 1).isLt
  have e : (Scalar.indexCast (BitVec.ofNat 32 (i 1).val)).toNat = (i 1).val := by
    show (BitVec.ofNat 32 (i 1).val).toNat = _
    rw [BitVec.toNat_ofNat]; exact Nat.mod_eq_of_lt (by omega)
  exact congrArg (tbl m 0) (one_index _ _ (i 1) e)

theorem weights1 (i : grid0.Coords) : cc0_transform_1 k0_off1_inb numel1_S1 (tbl m) i = ![0, (expert m (i 1)).toNat, 0, (i 0).val] := by
  have := (i 0).isLt
  have h0 : (BitVec.ofNat 32 (i 0).val).toNat = (i 0).val := by
    rw [BitVec.toNat_ofNat]; exact Nat.mod_eq_of_lt (by have : (i 0).val < 8 := (i 0).isLt; omega)
  unfold cc0_transform_1
  dsimp only
  rw [h0]
  exact congrArg (fun w : BitVec 32 => (![0, w.toNat, 0, (i 0).val] : Fin 4 → Nat)) (at_expert m i)

/-- So every block is inside its array. -/
theorem Good.ok (hG : Good m) : Ok m := by
  have hr (i : grid0.Coords) : ∀ a, (cc0_transform_0 inb_S1_S1_0 numel1_S1 (tbl m) i a + 1) * S512x4096.size a ≤ S20480x4096.size a := fun a => by
    rw [hG.row]
    have : (i 1).val < 40 := (i 1).isLt
    match a with
    | 0 => show (min (i 1).val ((count m).toNat - 1) + 1) * 512 ≤ 20480; omega
    | 1 => show (0 + 1) * 4096 ≤ 4096; omega
  have hw1 (i : grid0.Coords) : ∀ a, (cc0_transform_1 k0_off1_inb numel1_S1 (tbl m) i a + 1) * S1x1x4096x512.size a ≤ S1x8x4096x4096.size a := fun a => by
    rw [weights1]
    have : (i 0).val < 8 := (i 0).isLt
    have h8 := hG.expert_lt (i 1)
    match a with
    | 0 => show (0 + 1) * 1 ≤ 1; omega
    | 1 => show ((expert m _).toNat + 1) * 1 ≤ 8; omega
    | 2 => show (0 + 1) * 4096 ≤ 4096; omega
    | 3 => show ((i 0).val + 1) * 512 ≤ 4096; omega
  exact ⟨fun i => ⟨hr i, .inr (Affine.block_words_dvd (of_decide_eq_true rfl) (by decide))⟩, fun i => ⟨hw1 i, .inl rfl⟩⟩

end Cert.ExpDownIdeal.Tiles

namespace Cert.Proof

/-- The frame of the call under its precondition. -/
theorem frame_ExpDownIdeal : Cert.quiescent_ExpDownIdeal (hExpDownIdeal := Cert.ExpDownIdeal.Gen.facts) (hPre_tables_edown := Cert.Pre_tables_edown.Gen.facts) :=
  fun m g h => Cert.ExpDownIdeal.Tiles.frame m g (Cert.ExpDownIdeal.Tiles.good_of_pre m h).ok

end Cert.Proof

end
-- ==== Proof.ExpDownRef.lean ====
/- The experts' down products, the reference read at an index: the row times a column of its tile's own expert's weights, and zero in a tile past the
   number in use. -/
module

public import proofs.«01_k».proof.Proof.Gen.ExpDownRefIdeal.Run
public import proofs.«01_k».proof.Proof.Gen.ExpDownRefIdeal.Read
public import Idealize.ShloMosaic.Lib.WordCmp
public import Idealize.ShloMosaic.Lib.IdealHost
public import Idealize.ShloMosaic.Lib.StableHlo.Predicate
public import Idealize.ShloMosaic.Lib.Pointwise.Tactic

@[expose] public section

set_option maxRecDepth 16384

noncomputable section

namespace Cert.ExpDownRefIdeal.Picked

open Idealize.ShloMosaic Idealize.ShloMosaic.TcCoe
open Cert.ExpDownRefIdeal Cert.ExpDownRefIdeal.Gen Cert.ExpDownRefIdeal.Read

/-- The two tables, the rows and the weights, as arrays of reals. -/
abbrev Experts : Type := (⟨S40, .i32⟩ : BufTy).Contents (Elt Ideal)
abbrev Count : Type := (⟨S1, .i32⟩ : BufTy).Contents (Elt Ideal)
abbrev Rows : Type := (⟨S20480x4096, .bf16⟩ : BufTy).Contents (Elt Ideal)
abbrev Weights : Type := (⟨S1x8x4096x4096, .f32⟩ : BufTy).Contents (Elt Ideal)

variable (te : Experts) (nt : Count) (xs : Rows)

/-- Tile `t` is in use. -/
abbrev inUse (t : Fin 40) : Prop := IntOp.cmpi .slt (BitVec.ofNat 32 t.val) (nt (Shape.Idx.ofFin (0 : Fin 1))) = 1#1

/-- Expert `e`'s weight at tile `t`: one where the tile is in use and is the expert's, zero elsewhere. -/
def pick (e : Fin 8) (t : Fin 40) : EReal :=
  if te (Shape.Idx.ofFin t) = BitVec.ofNat 32 e.val ∧ inUse nt t then 1 else 0

/-- The tile of row `r`. -/
abbrev tile (r : Fin 20480) : Fin 40 := ⟨r.val / 512, by have := r.isLt; omega⟩

theorem bit (a b : BitVec 1) : ((IntOp.andi a b).setWidth 32).toInt = if a = 1#1 ∧ b = 1#1 then 1 else 0 := by revert a b; decide

theorem pick_apply (e : Fin 8) (j : S8x20480.Idx) (he : (j 0).val = e.val) : val_main_v17 (F := Ideal) te nt j = pick te nt e (tile (j 1)) := by
  have h1 : (j 1).val < 20480 := (j 1).isLt
  have h0 : (j 0).val < 8 := (j 0).isLt
  rw [val_main_v17_apply, val_main_v16_apply, val_main_v15_apply, val_main_v14_apply, val_main_v13_apply, val_main_v8_apply, val_main_v6_apply,
    val_main_v5_apply, val_main_v7_apply, val_main_v2_apply, val_main_v1_apply, val_main_v12_apply, val_main_v11_apply, val_main_v4_apply,
    val_main_v3_apply, val_main_v10_apply, val_main_v9_apply]
  have a : (idx_main_v5 (idx_main_v6 (idx_main_v16 (idx_main_v17 j))) : S40.Idx) = Shape.Idx.ofFin (tile (j 1)) := by
    funext a; match a with
    | ⟨0, _⟩ => exact Fin.ext (show ((j 0).val * 20480 + (j 1).val) / 512 % 40 = (j 1).val / 512 by omega)
  have b : (idx_main_v9 (idx_main_v10 (idx_main_v12 (idx_main_v16 (idx_main_v17 j)))) : S1.Idx) = Shape.Idx.ofFin (0 : Fin 1) := by
    funext a; match a with
    | ⟨0, _⟩ => rfl
  have c : (idx_main_v2 (idx_main_v7 (idx_main_v16 (idx_main_v17 j))) 0).val = e.val := by
    show ((j 0).val * 20480 + (j 1).val) / 20480 = e.val; omega
  have d : (idx_main_v4 (idx_main_v12 (idx_main_v16 (idx_main_v17 j))) 0).val = (tile (j 1)).val := by
    show ((j 0).val * 20480 + (j 1).val) / 512 % 40 = (j 1).val / 512; omega
  rw [a, b, c, d]
  show (((((IntOp.andi _ _).setWidth 32).toInt : ℤ) : ℝ) : EReal) = _
  rw [bit, pick]
  simp only [StableHlo.Predicate.cmpi_eq_iff]
  split_ifs <;> simp

/-- A row of `xs` times a column of expert `e`'s weights. -/
def proj (w : Weights) (e : Fin 8) (i : S20480x4096.Idx) : EReal := ∑ k : Fin 4096, xs (ix2 (i 0) k) * w (ix4 (0 : Fin 1) e k (i 1))

theorem dot0 (w : Weights) (i : S20480x4096.Idx) : val_main_v24 (F := Ideal) xs w i = proj xs w 0 i := by
  rw [val_main_v24_apply]; unfold proj
  refine Finset.sum_congr rfl fun k _ => ?_
  rw [val_main_v0_apply, val_main_v23_apply, val_main_v22_apply]
  have h1 : (i 1).val < 4096 := (i 1).isLt
  have hk : k.val < 4096 := k.isLt
  refine congrArg₂ (α := EReal) (β := EReal) (γ := EReal) (· * ·) (congrArg xs ?_) (congrArg w ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on0 (i : S20480x4096.Idx) : val_main_v25 (F := Ideal) te nt i = pick te nt 0 (tile (i 0)) := by
  rw [val_main_v25_apply, val_main_v21_apply, val_main_v20_apply, val_main_v19_apply, pick_apply te nt 0 _ rfl]
  refine congrArg (pick te nt 0) (Fin.ext ?_)
  have h0 : (i 0).val < 20480 := (i 0).isLt
  show (i 0).val % 20480 / 512 = (i 0).val / 512
  omega

theorem dot1 (w : Weights) (i : S20480x4096.Idx) : val_main_v33 (F := Ideal) xs w i = proj xs w 1 i := by
  rw [val_main_v33_apply]; unfold proj
  refine Finset.sum_congr rfl fun k _ => ?_
  rw [val_main_v0_apply, val_main_v32_apply, val_main_v31_apply]
  have h1 : (i 1).val < 4096 := (i 1).isLt
  have hk : k.val < 4096 := k.isLt
  refine congrArg₂ (α := EReal) (β := EReal) (γ := EReal) (· * ·) (congrArg xs ?_) (congrArg w ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on1 (i : S20480x4096.Idx) : val_main_v34 (F := Ideal) te nt i = pick te nt 1 (tile (i 0)) := by
  rw [val_main_v34_apply, val_main_v30_apply, val_main_v29_apply, val_main_v28_apply, pick_apply te nt 1 _ rfl]
  refine congrArg (pick te nt 1) (Fin.ext ?_)
  have h0 : (i 0).val < 20480 := (i 0).isLt
  show (i 0).val % 20480 / 512 = (i 0).val / 512
  omega

theorem dot2 (w : Weights) (i : S20480x4096.Idx) : val_main_v42 (F := Ideal) xs w i = proj xs w 2 i := by
  rw [val_main_v42_apply]; unfold proj
  refine Finset.sum_congr rfl fun k _ => ?_
  rw [val_main_v0_apply, val_main_v41_apply, val_main_v40_apply]
  have h1 : (i 1).val < 4096 := (i 1).isLt
  have hk : k.val < 4096 := k.isLt
  refine congrArg₂ (α := EReal) (β := EReal) (γ := EReal) (· * ·) (congrArg xs ?_) (congrArg w ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on2 (i : S20480x4096.Idx) : val_main_v43 (F := Ideal) te nt i = pick te nt 2 (tile (i 0)) := by
  rw [val_main_v43_apply, val_main_v39_apply, val_main_v38_apply, val_main_v37_apply, pick_apply te nt 2 _ rfl]
  refine congrArg (pick te nt 2) (Fin.ext ?_)
  have h0 : (i 0).val < 20480 := (i 0).isLt
  show (i 0).val % 20480 / 512 = (i 0).val / 512
  omega

theorem dot3 (w : Weights) (i : S20480x4096.Idx) : val_main_v51 (F := Ideal) xs w i = proj xs w 3 i := by
  rw [val_main_v51_apply]; unfold proj
  refine Finset.sum_congr rfl fun k _ => ?_
  rw [val_main_v0_apply, val_main_v50_apply, val_main_v49_apply]
  have h1 : (i 1).val < 4096 := (i 1).isLt
  have hk : k.val < 4096 := k.isLt
  refine congrArg₂ (α := EReal) (β := EReal) (γ := EReal) (· * ·) (congrArg xs ?_) (congrArg w ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on3 (i : S20480x4096.Idx) : val_main_v52 (F := Ideal) te nt i = pick te nt 3 (tile (i 0)) := by
  rw [val_main_v52_apply, val_main_v48_apply, val_main_v47_apply, val_main_v46_apply, pick_apply te nt 3 _ rfl]
  refine congrArg (pick te nt 3) (Fin.ext ?_)
  have h0 : (i 0).val < 20480 := (i 0).isLt
  show (i 0).val % 20480 / 512 = (i 0).val / 512
  omega

theorem dot4 (w : Weights) (i : S20480x4096.Idx) : val_main_v60 (F := Ideal) xs w i = proj xs w 4 i := by
  rw [val_main_v60_apply]; unfold proj
  refine Finset.sum_congr rfl fun k _ => ?_
  rw [val_main_v0_apply, val_main_v59_apply, val_main_v58_apply]
  have h1 : (i 1).val < 4096 := (i 1).isLt
  have hk : k.val < 4096 := k.isLt
  refine congrArg₂ (α := EReal) (β := EReal) (γ := EReal) (· * ·) (congrArg xs ?_) (congrArg w ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on4 (i : S20480x4096.Idx) : val_main_v61 (F := Ideal) te nt i = pick te nt 4 (tile (i 0)) := by
  rw [val_main_v61_apply, val_main_v57_apply, val_main_v56_apply, val_main_v55_apply, pick_apply te nt 4 _ rfl]
  refine congrArg (pick te nt 4) (Fin.ext ?_)
  have h0 : (i 0).val < 20480 := (i 0).isLt
  show (i 0).val % 20480 / 512 = (i 0).val / 512
  omega

theorem dot5 (w : Weights) (i : S20480x4096.Idx) : val_main_v69 (F := Ideal) xs w i = proj xs w 5 i := by
  rw [val_main_v69_apply]; unfold proj
  refine Finset.sum_congr rfl fun k _ => ?_
  rw [val_main_v0_apply, val_main_v68_apply, val_main_v67_apply]
  have h1 : (i 1).val < 4096 := (i 1).isLt
  have hk : k.val < 4096 := k.isLt
  refine congrArg₂ (α := EReal) (β := EReal) (γ := EReal) (· * ·) (congrArg xs ?_) (congrArg w ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on5 (i : S20480x4096.Idx) : val_main_v70 (F := Ideal) te nt i = pick te nt 5 (tile (i 0)) := by
  rw [val_main_v70_apply, val_main_v66_apply, val_main_v65_apply, val_main_v64_apply, pick_apply te nt 5 _ rfl]
  refine congrArg (pick te nt 5) (Fin.ext ?_)
  have h0 : (i 0).val < 20480 := (i 0).isLt
  show (i 0).val % 20480 / 512 = (i 0).val / 512
  omega

theorem dot6 (w : Weights) (i : S20480x4096.Idx) : val_main_v78 (F := Ideal) xs w i = proj xs w 6 i := by
  rw [val_main_v78_apply]; unfold proj
  refine Finset.sum_congr rfl fun k _ => ?_
  rw [val_main_v0_apply, val_main_v77_apply, val_main_v76_apply]
  have h1 : (i 1).val < 4096 := (i 1).isLt
  have hk : k.val < 4096 := k.isLt
  refine congrArg₂ (α := EReal) (β := EReal) (γ := EReal) (· * ·) (congrArg xs ?_) (congrArg w ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on6 (i : S20480x4096.Idx) : val_main_v79 (F := Ideal) te nt i = pick te nt 6 (tile (i 0)) := by
  rw [val_main_v79_apply, val_main_v75_apply, val_main_v74_apply, val_main_v73_apply, pick_apply te nt 6 _ rfl]
  refine congrArg (pick te nt 6) (Fin.ext ?_)
  have h0 : (i 0).val < 20480 := (i 0).isLt
  show (i 0).val % 20480 / 512 = (i 0).val / 512
  omega

theorem dot7 (w : Weights) (i : S20480x4096.Idx) : val_main_v87 (F := Ideal) xs w i = proj xs w 7 i := by
  rw [val_main_v87_apply]; unfold proj
  refine Finset.sum_congr rfl fun k _ => ?_
  rw [val_main_v0_apply, val_main_v86_apply, val_main_v85_apply]
  have h1 : (i 1).val < 4096 := (i 1).isLt
  have hk : k.val < 4096 := k.isLt
  refine congrArg₂ (α := EReal) (β := EReal) (γ := EReal) (· * ·) (congrArg xs ?_) (congrArg w ?_)
  · funext a; match a with
    | ⟨0, _⟩ => rfl
    | ⟨1, _⟩ => rfl
  · funext a; match a with
    | ⟨0, _⟩ => rfl
    | ⟨1, _⟩ => rfl
    | ⟨2, _⟩ => exact Fin.ext (show (k.val * 4096 + (i 1).val) / 4096 % 4096 = k.val by omega)
    | ⟨3, _⟩ => exact Fin.ext (show (k.val * 4096 + (i 1).val) % 4096 = (i 1).val by omega)

theorem on7 (i : S20480x4096.Idx) : val_main_v88 (F := Ideal) te nt i = pick te nt 7 (tile (i 0)) := by
  rw [val_main_v88_apply, val_main_v84_apply, val_main_v83_apply, val_main_v82_apply, pick_apply te nt 7 _ rfl]
  refine congrArg (pick te nt 7) (Fin.ext ?_)
  have h0 : (i 0).val < 20480 := (i 0).isLt
  show (i 0).val % 20480 / 512 = (i 0).val / 512
  omega

theorem word_inj : ∀ e e' : Fin 8, BitVec.ofNat 32 e.val = BitVec.ofNat 32 e'.val ↔ e = e' := by decide

/-- Of the eight, a tile's own expert is picked if the tile is in use, and none if it is not. -/
theorem collapse (g : Fin 8 → EReal) (t : Fin 40) (e : Fin 8) (he : te (Shape.Idx.ofFin t) = BitVec.ofNat 32 e.val) :
    0 + pick te nt 0 t * g 0 + pick te nt 1 t * g 1 + pick te nt 2 t * g 2 + pick te nt 3 t * g 3 + pick te nt 4 t * g 4
      + pick te nt 5 t * g 5 + pick te nt 6 t * g 6 + pick te nt 7 t * g 7 = if inUse nt t then g e else 0 := by
  by_cases h : inUse nt t
  · have hp (e' : Fin 8) : pick te nt e' t = if e = e' then 1 else 0 := if_congr (by rw [he, and_iff_left h, word_inj]) rfl rfl
    rw [if_pos h]
    simp only [hp]
    fin_cases e <;> simp
  · have hp (e' : Fin 8) : pick te nt e' t = 0 := if_neg fun q => h q.2
    rw [if_neg h]
    simp only [hp, zero_mul, add_zero]

/-- The reference at an index. -/
theorem value (w : Weights) (i : S20480x4096.Idx) (e : Fin 8) (he : te (Shape.Idx.ofFin (tile (i 0))) = BitVec.ofNat 32 e.val) :
    val_main_v90 (F := Ideal) te nt xs w i = if inUse nt (tile (i 0)) then proj xs w e i else 0 := by
  rw [← collapse te nt (fun e => proj xs w e i) (tile (i 0)) e he]
  rw [val_main_v90_apply, val_main_v89_apply, on7, dot7, val_main_v81_apply, val_main_v80_apply, on6, dot6, val_main_v72_apply, val_main_v71_apply, on5, dot5, val_main_v63_apply, val_main_v62_apply, on4, dot4, val_main_v54_apply, val_main_v53_apply, on3, dot3, val_main_v45_apply, val_main_v44_apply, on2, dot2, val_main_v36_apply, val_main_v35_apply, on1, dot1, val_main_v27_apply, val_main_v26_apply, on0, dot0, val_main_v18_apply, val_main_cst_apply]
  show Ideal.ofBits .f32 0x00000000#32 + _ + _ + _ + _ + _ + _ + _ + _ = _
  rw [Ideal.ofBits_zero_f32]; rfl

end Cert.ExpDownRefIdeal.Picked

end
-- ==== Proof.ExpDown.lean ====
/- The experts' down products: each tile of the kernel's result is its rows times its expert's weights if the tile is in use, and zero if it is not,
   and that is the reference's sum over the eight experts, all but the tile's own weighted by zero. -/
module

public import proofs.«01_k».proof.Defs
public import proofs.«01_k».proof.Proof.ExpDownTables
public import proofs.«01_k».proof.Proof.ExpDownIdealTables
public import proofs.«01_k».proof.Proof.ExpDownRef
public import Idealize.ShloMosaic.Lib.Claim
public import Idealize.ShloMosaic.Lib.Pipeline.ValueKit
public import Idealize.ShloMosaic.Lib.Pipeline.Covers
public import Idealize.ShloMosaic.Lib.Pointwise.Tactic
public import Idealize.ShloMosaic.Lib.Pointwise.Reshape
public import Idealize.ShloMosaic.Lib.Pointwise.Contract

@[expose] public section

set_option maxRecDepth 16384

noncomputable section

open Idealize.ShloMosaic Idealize.ShloMosaic.TcCoe Idealize.SL.Sem
open Idealize.ShloMosaic.Pipeline (Dat)

namespace Cert.ExpDownIdeal.Product

open Cert.ExpDownIdeal Cert.ExpDownIdeal.Gen Cert.ExpDownIdeal.Tiles

variable (m : (ℓ : Loc nD τ sig) → Buf (Elt Ideal) ℓ)

/-- The reference's result. -/
abbrev result (te : IVec S40 32) (nt : IVec S1 32) (xs : FVec Ideal S20480x4096 .bf16) (w : FVec Ideal S1x8x4096x4096 .f32) : FVec Ideal S20480x4096 .f32 :=
  Cert.ExpDownRefIdeal.Read.val_main_v90 (F := Ideal) te nt xs w

/-- What the body stores in a tile in use, -/
theorem product (x : Vec Ideal S512x4096 .bf16) (w : Vec Ideal S1x1x4096x512 .f32) (y : S512x512.Idx) :
    k0_pay1 x w y = ∑ k : Fin 4096, x (ix2 (y 0) k) * w (ix4 (0 : Fin 1) (0 : Fin 1) k (y 1)) := by
  pointwise [k0_pay1]

/-- and in a tile past the number in use. -/
theorem zeros (y : S512x512.Idx) : k0_pay2 (F := Ideal) y = 0 := Ideal.ofBits_zero_f32

theorem outA (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S512x512 .f32) (harg6 : arg6.IsWhole)
    (x0 : Vec Ideal S512x4096 .bf16) (x1 : Vec Ideal S1x1x4096x512 .f32) (xt0 : TbBuf0 (F := Ideal) c tbM0_0) (xt1 : TbBuf0 (F := Ideal) c tbM0_1) (hc0 : k0_cond1 i (used c xt1) = 1#1) (hc1 : ¬ k0_cond2 i (used c xt1) = 1#1) :
    out0_A_2 c i arg4 harg4 arg5 harg5 arg6 harg6 x0 x1 xt0 xt1 hc0 hc1 = k0_pay1 x0 x1 := by
  frame_out

theorem outB (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S512x512 .f32) (harg6 : arg6.IsWhole)
    (x0 : Vec Ideal S512x4096 .bf16) (x1 : Vec Ideal S1x1x4096x512 .f32) (xt0 : TbBuf0 (F := Ideal) c tbM0_0) (xt1 : TbBuf0 (F := Ideal) c tbM0_1) (hc0 : ¬ k0_cond1 i (used c xt1) = 1#1) (hc1 : k0_cond2 i (used c xt1) = 1#1) :
    out0_B_2 c i arg4 harg4 arg5 harg5 arg6 harg6 x0 x1 xt0 xt1 hc0 hc1 = k0_pay2 (F := Ideal) := by
  frame_out

/-- Every element of the result is in a tile. -/
theorem covers (hO : Ok m) : ((cfgM m hO).win 2).Covers :=
  Pipeline.Window.covers_of_indexMap_surj _ rfl (by decide : ∀ a, 0 < S512x512.size a) fun β =>
    have b0 : (β ⟨0, Nat.zero_lt_two⟩).val < 40 := lt_of_lt_of_eq (β ⟨0, Nat.zero_lt_two⟩).isLt (by
      show (S20480x4096.size 0 + S512x512.size 0 - 1) / S512x512.size 0 = 40; decide)
    have b1 : (β ⟨1, Nat.one_lt_two⟩).val < 8 := lt_of_lt_of_eq (β ⟨1, Nat.one_lt_two⟩).isLt (by
      show (S20480x4096.size 1 + S512x512.size 1 - 1) / S512x512.size 1 = 8; decide)
    ⟨fun a => match a with
      | ⟨0, _⟩ => ⟨(β ⟨1, Nat.one_lt_two⟩).val, b1⟩
      | ⟨1, _⟩ => ⟨(β ⟨0, Nat.zero_lt_two⟩).val, b0⟩, fun a => match a with
      | ⟨0, _⟩ => (BitVec.toNat_ofNat _ _).trans (Nat.mod_eq_of_lt (lt_trans b0 (by decide)))
      | ⟨1, _⟩ => (BitVec.toNat_ofNat _ _).trans (Nat.mod_eq_of_lt (lt_trans b1 (by decide)))⟩

/-- The place in the result of an index of point `t`'s tile. -/
abbrev into (hO : Ok m) (t : Fin (cfgM m hO).N) (y : S512x512.Idx) : S20480x4096.Idx := (((cfgM m hO).win 2).blk t).view.emb y

variable {m} (hG : Good m) (c : Dev nD) (t : Fin (cfgM m hG.ok).N)

/-- A tile's place in the result. -/
theorem place (y : S512x512.Idx) : (into m hG.ok t y 0).val = (grid0.coords t 1).val * 512 + (y 0).val
    ∧ (into m hG.ok t y 1).val = (grid0.coords t 0).val * 512 + (y 1).val := by
  have h0 : (grid0.coords t 0).val < 8 := (grid0.coords t 0).isLt
  have h1 : (grid0.coords t 1).val < 40 := (grid0.coords t 1).isLt
  have e0 := (BitVec.toNat_ofNat (grid0.coords t 0).val 32).trans (Nat.mod_eq_of_lt (by omega))
  have e1 := (BitVec.toNat_ofNat (grid0.coords t 1).val 32).trans (Nat.mod_eq_of_lt (by omega))
  constructor
  · rw [← e1]; exact Pipeline.Window.rect_emb_val ((cfgM m hG.ok).win 2) t y ⟨0, Nat.zero_lt_two⟩ rfl
  · rw [← e0]; exact Pipeline.Window.rect_emb_val ((cfgM m hG.ok).win 2) t y ⟨1, Nat.one_lt_two⟩ rfl

/-- The rows of a tile in use. -/
theorem rows (hn : (grid0.coords t 1).val < (count m).toNat) (r : Fin 512) (k : Fin 4096) (R : Fin 20480) (hR : R.val = (grid0.coords t 1).val * 512 + r.val) :
    iblk m hG.ok c 0 t (ix2 r k) = m ((c : Thread nD τ).loc main_arg2) (ix2 R k) := by
  have e := hG.row m (grid0.coords t)
  unfold iblk
  refine congrArg (m ((c : Thread nD τ).loc main_arg2)) (funext fun a => Fin.ext ?_)
  refine (Pipeline.Window.rect_emb_val ((cfgM m hG.ok).win 0) t _ a rfl).trans ?_
  match a with
  | ⟨0, _⟩ =>
    have e := congrFun e 0
    show cc0_transform_0 inb_S1_S1_0 numel1_S1 (tbl m) (grid0.coords t) 0 * 512 + r.val = R.val
    rw [e, hR]; show min _ _ * 512 + _ = _; omega
  | ⟨1, _⟩ =>
    have e := congrFun e 1
    show cc0_transform_0 inb_S1_S1_0 numel1_S1 (tbl m) (grid0.coords t) 1 * 4096 + k.val = k.val
    rw [e]; show 0 * 4096 + k.val = k.val; omega

/-- The weights of a tile: its expert's. -/
theorem weights (k : Fin 4096) (l : Fin 512) (C : Fin 4096) (hC : C.val = (grid0.coords t 0).val * 512 + l.val) :
    iblk m hG.ok c 1 t (ix4 (0 : Fin 1) (0 : Fin 1) k l)
      = m ((c : Thread nD τ).loc main_arg3) (ix4 (0 : Fin 1) (⟨(expert m (grid0.coords t 1)).toNat, hG.expert_lt _⟩ : Fin 8) k C) := by
  have e := weights1 m (grid0.coords t)
  unfold iblk
  refine congrArg (m ((c : Thread nD τ).loc main_arg3)) (funext fun a => Fin.ext ?_)
  refine (Pipeline.Window.rect_emb_val ((cfgM m hG.ok).win 1) t _ a rfl).trans ?_
  match a with
  | ⟨0, _⟩ =>
    have e := congrFun e 0
    show cc0_transform_1 k0_off1_inb numel1_S1 (tbl m) (grid0.coords t) 0 * 1 + 0 = 0
    rw [e]; rfl
  | ⟨1, _⟩ =>
    have e := congrFun e 1
    show cc0_transform_1 k0_off1_inb numel1_S1 (tbl m) (grid0.coords t) 1 * 1 + 0 = _
    rw [e]; exact Nat.mul_one _
  | ⟨2, _⟩ =>
    have e := congrFun e 2
    show cc0_transform_1 k0_off1_inb numel1_S1 (tbl m) (grid0.coords t) 2 * 4096 + k.val = k.val
    rw [e]; show 0 * 4096 + k.val = k.val; omega
  | ⟨3, _⟩ =>
    have e := congrFun e 3
    show cc0_transform_1 k0_off1_inb numel1_S1 (tbl m) (grid0.coords t) 3 * 512 + l.val = C.val
    rw [e, hC]; rfl

/-- The body's question, whether the tile is in use, is the reference's. -/
theorem in_use : k0_cond1 (grid0.coords t) (used c (tbl m 1)) = 1#1
    ↔ Cert.ExpDownRefIdeal.Picked.inUse (m ((c : Thread nD τ).loc main_arg1)) (grid0.coords t 1) := by
  have hw : used c (tbl m 1) = m ((c : Thread nD τ).loc main_arg1) (Shape.Idx.ofFin (0 : Fin 1)) := by
    obtain rfl : c = 0 := Subsingleton.elim _ _
    exact congrArg (tbl m 1) (one_index _ _ (0 : Fin 1) rfl)
  rw [hw]
  unfold Cert.ExpDownRefIdeal.Picked.inUse k0_cond1
  generalize m ((c : Thread nD τ).loc main_arg1) (Shape.Idx.ofFin (0 : Fin 1)) = w
  simp only [Scalar.cmpi, Scalar.extui, IntOp.cmpi]
  cases (BitVec.ofNat 32 (grid0.coords t 1).val).slt w <;> decide

theorem lt_count (h : k0_cond1 (grid0.coords t) (used c (tbl m 1)) = 1#1) : (grid0.coords t 1).val < (count m).toNat := by
  have h := (in_use hG c t).mp h
  obtain rfl : c = 0 := Subsingleton.elim _ _
  have h1 : (grid0.coords t 1).val < 40 := (grid0.coords t 1).isLt
  have := hG.count_le
  have h : (BitVec.ofNat 32 (grid0.coords t 1).val).toInt < (count m).toInt := by
    simp only [Cert.ExpDownRefIdeal.Picked.inUse, WordCmp.cmpi_slt_eq, StableHlo.Predicate.ofBool_eq_one_iff, decide_eq_true_eq] at h
    exact h
  rw [BitVec.toInt_eq_toNat_of_lt (by rw [BitVec.toNat_ofNat]; omega), BitVec.toInt_eq_toNat_of_lt (by omega), BitVec.toNat_ofNat, Nat.mod_eq_of_lt (by omega)] at h
  exact_mod_cast h

/-- What the body leaves at an index of a tile is the reference at the tile's place in the whole array. -/
theorem point (y : S512x512.Idx) : outsAt0 m hG.ok c t y
    = result (m ((c : Thread nD τ).loc main_arg0)) (m ((c : Thread nD τ).loc main_arg1)) (m ((c : Thread nD τ).loc main_arg2)) (m ((c : Thread nD τ).loc main_arg3))
        (into m hG.ok t y) := by
  obtain ⟨p0, p1⟩ := place hG t y
  generalize into m hG.ok t y = i at p0 p1 ⊢
  have ht : Cert.ExpDownRefIdeal.Picked.tile (i 0) = grid0.coords t 1 := Fin.ext (by
    have h0 : (y 0).val < 512 := (y 0).isLt
    show (i 0).val / 512 = _; rw [p0]; omega)
  have he : m ((c : Thread nD τ).loc main_arg0) (Shape.Idx.ofFin (Cert.ExpDownRefIdeal.Picked.tile (i 0)))
      = BitVec.ofNat 32 (⟨(expert m (grid0.coords t 1)).toNat, hG.expert_lt _⟩ : Fin 8).val := by
    rw [ht, BitVec.ofNat_toNat, BitVec.setWidth_eq]
    obtain rfl : c = 0 := Subsingleton.elim _ _; rfl
  rw [result, Cert.ExpDownRefIdeal.Picked.value _ _ _ _ i _ he, ht]
  by_cases h : k0_cond1 (grid0.coords t) (used c (tbl m 1)) = 1#1
  · rw [if_pos ((in_use hG c t).mp h)]
    refine (congrFun (outsAt0_A m hG.ok c t h) y).trans ((congrFun (outA ..) y).trans ((product _ _ y).trans ?_))
    unfold Cert.ExpDownRefIdeal.Picked.proj
    exact Finset.sum_congr rfl fun k _ => congrArg₂ (· * ·) (rows hG c t (lt_count hG c t h) _ _ _ p0) (weights hG c t _ _ _ p1)
  · rw [if_neg (fun q => h ((in_use hG c t).mpr q))]
    exact (congrFun (outsAt0_B m hG.ok c t h) y).trans ((congrFun (outB ..) y).trans (zeros y))

/-- The result array after the run. -/
theorem final : (dats m hG.ok 0 c).arrAt 2 (cfgM m hG.ok).N
    = result (m ((c : Thread nD τ).loc main_arg0)) (m ((c : Thread nD τ).loc main_arg1)) (m ((c : Thread nD τ).loc main_arg2)) (m ((c : Thread nD τ).loc main_arg3)) := by
  refine (dats m hG.ok 0 c).arrAt_eq_of_covers 2 _ (covers m hG.ok) fun t _ y => ?_
  rw [after0_2]
  exact point hG c t y

end Cert.ExpDownIdeal.Product

/-- The kernel and the reference agree. -/
theorem Cert.Proof.algebraic_ExpDown : Cert.algebraic_ExpDownIdeal_ExpDownRefIdeal (hExpDownIdeal := Cert.ExpDownIdeal.Gen.facts)
    (hExpDownRefIdeal := Cert.ExpDownRefIdeal.Gen.facts) (hPre_tables_edown := Cert.Pre_tables_edown.Gen.facts) := by
  pair_intro
  · have hG := Cert.ExpDownIdeal.Tiles.good_of_pre m hpre
    run_from Cert.ExpDownIdeal.Tiles.run_main m g hG.ok
    · exact Cert.ExpDownIdeal.Product.final hG c
    · exact hc.2 Cert.ExpDownIdeal.main_arg0 (by decide : Cert.ExpDownIdeal.main_arg0 ∈ Pipeline.restRefs Cert.ExpDownIdeal.sig Cert.ExpDownIdeal.spec0)
    · exact hc.2 Cert.ExpDownIdeal.main_arg1 (by decide : Cert.ExpDownIdeal.main_arg1 ∈ Pipeline.restRefs Cert.ExpDownIdeal.sig Cert.ExpDownIdeal.spec0)
  · refine (θ_run _ _ _).mono (fun r h c => ?_) (Cert.ExpDownRefIdeal.Value.run m' g')
    refine ⟨(h c).1.trans ((Cert.ExpDownRefIdeal.Read.val_main_v90_eq m' c).trans ?_), (h c).2⟩
    obtain ⟨e0, e1, e2, e3⟩ := hagree c
    rw [e0, e1, e2, e3]

end
-- ==== Proof.lean ====
/- Everything claimed of the layer's calls: each kernel and each reference runs to its end and leaves its arguments as they were, each kernel's text
   over the reals is the program's own, and over the reals each kernel computes what its reference does. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Attention
public import proofs.«01_k».proof.Proof.Gen.GateUp.Frame
public import proofs.«01_k».proof.Proof.Gen.GateUpIdeal.Frame
public import proofs.«01_k».proof.Proof.Gen.GateUpIdeal.Value
public import proofs.«01_k».proof.Proof.Gen.GateUpRefIdeal.Run
public import proofs.«01_k».proof.Proof.Gen.GateUpRefIdeal.Read
public import proofs.«01_k».proof.Proof.GateUp
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Down
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Qkv
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutProj
public import proofs.«01_k».proof.Proof.Gen.GatePool.Frame
public import proofs.«01_k».proof.Proof.Gen.GatePoolIdeal.Frame
public import proofs.«01_k».proof.Proof.Gen.GatePoolIdeal.Value
public import proofs.«01_k».proof.Proof.Gen.GatePoolRefIdeal.Run
public import proofs.«01_k».proof.Proof.Gen.GatePoolRefIdeal.Read
public import proofs.«01_k».proof.Proof.GatePool
public import proofs.«01_k».proof.Proof.Gen.Pool.Frame
public import proofs.«01_k».proof.Proof.Gen.PoolIdeal.Frame
public import proofs.«01_k».proof.Proof.Gen.PoolIdeal.Value
public import proofs.«01_k».proof.Proof.Gen.PoolRefIdeal.Run
public import proofs.«01_k».proof.Proof.Gen.PoolRefIdeal.Read
public import proofs.«01_k».proof.Proof.Pool
public import proofs.«01_k».proof.Proof.Gen.Mod.Frame
public import proofs.«01_k».proof.Proof.Gen.ModIdeal.Frame
public import proofs.«01_k».proof.Proof.Gen.ModIdeal.Value
public import proofs.«01_k».proof.Proof.Gen.ModRefIdeal.Run
public import proofs.«01_k».proof.Proof.Gen.ModRefIdeal.Read
public import proofs.«01_k».proof.Proof.Mod
public import proofs.«01_k».proof.Proof.Gen.PreNorm.Frame
public import proofs.«01_k».proof.Proof.Gen.PreNormIdeal.Frame
public import proofs.«01_k».proof.Proof.Gen.PreNormIdeal.Value
public import proofs.«01_k».proof.Proof.Gen.PreNormRefIdeal.Run
public import proofs.«01_k».proof.Proof.Gen.PreNormRefIdeal.Read
public import proofs.«01_k».proof.Proof.PreNorm
public import proofs.«01_k».proof.Proof.Gen.Resid.Frame
public import proofs.«01_k».proof.Proof.Gen.ResidIdeal.Frame
public import proofs.«01_k».proof.Proof.Gen.ResidIdeal.Value
public import proofs.«01_k».proof.Proof.Gen.ResidRefIdeal.Run
public import proofs.«01_k».proof.Proof.Gen.ResidRefIdeal.Read
public import proofs.«01_k».proof.Proof.Resid
public import proofs.«01_k».proof.Proof.Gen.Next.Frame
public import proofs.«01_k».proof.Proof.Gen.NextIdeal.Frame
public import proofs.«01_k».proof.Proof.Gen.NextIdeal.Value
public import proofs.«01_k».proof.Proof.Gen.NextRefIdeal.Run
public import proofs.«01_k».proof.Proof.Gen.NextRefIdeal.Read
public import proofs.«01_k».proof.Proof.Next
public import proofs.«01_k».proof.Proof.Gen.ExpGU
public import proofs.«01_k».proof.Proof.Gen.ExpGU.Skeleton
public import proofs.«01_k».proof.Proof.Gen.ExpGU.Launch
public import proofs.«01_k».proof.Proof.Gen.ExpGUIdeal
public import proofs.«01_k».proof.Proof.Gen.ExpGUIdeal.Skeleton
public import proofs.«01_k».proof.Proof.Gen.ExpGUIdeal.Launch
public import proofs.«01_k».proof.Proof.Gen.ExpGURefIdeal.Run
public import proofs.«01_k».proof.Proof.Gen.ExpGURefIdeal.Read
public import proofs.«01_k».proof.Proof.ExpGU
public import proofs.«01_k».proof.Proof.Gen.ExpDown
public import proofs.«01_k».proof.Proof.Gen.ExpDown.Skeleton
public import proofs.«01_k».proof.Proof.Gen.ExpDown.Launch
public import proofs.«01_k».proof.Proof.Gen.ExpDownIdeal
public import proofs.«01_k».proof.Proof.Gen.ExpDownIdeal.Skeleton
public import proofs.«01_k».proof.Proof.Gen.ExpDownIdeal.Launch
public import proofs.«01_k».proof.Proof.Gen.ExpDownRefIdeal.Run
public import proofs.«01_k».proof.Proof.Gen.ExpDownRefIdeal.Read
public import proofs.«01_k».proof.Proof.ExpDown
public import proofs.«01_k».proof.Proof.Gen.Pre_finite
public import proofs.«01_k».proof.Proof.Gen.Pre_tables_egu
public import proofs.«01_k».proof.Proof.Gen.Pre_tables_edown
public import Idealize.ShloMosaic.Lib.Claim

@[expose] public section

noncomputable section

namespace Cert.Proof

open Idealize.ShloMosaic Idealize.SL.Sem

/-- The certificate: the programs' facts, the frames, and the two claims of each call. -/
theorem claim : Cert.Claim :=
  ⟨Cert.Kernel.Gen.facts, Cert.KernelIdeal.Gen.facts, Cert.ReferenceIdeal.Gen.facts, Cert.GateUp.Gen.facts, Cert.GateUpIdeal.Gen.facts, Cert.GateUpRefIdeal.Gen.facts, Cert.Down.Gen.facts, Cert.DownIdeal.Gen.facts, Cert.DownRefIdeal.Gen.facts, Cert.Qkv.Gen.facts, Cert.QkvIdeal.Gen.facts, Cert.QkvRefIdeal.Gen.facts, Cert.OutProj.Gen.facts, Cert.OutProjIdeal.Gen.facts, Cert.OutProjRefIdeal.Gen.facts, Cert.GatePool.Gen.facts, Cert.GatePoolIdeal.Gen.facts, Cert.GatePoolRefIdeal.Gen.facts, Cert.Pool.Gen.facts, Cert.PoolIdeal.Gen.facts, Cert.PoolRefIdeal.Gen.facts, Cert.Mod.Gen.facts, Cert.ModIdeal.Gen.facts, Cert.ModRefIdeal.Gen.facts, Cert.PreNorm.Gen.facts, Cert.PreNormIdeal.Gen.facts, Cert.PreNormRefIdeal.Gen.facts, Cert.Resid.Gen.facts, Cert.ResidIdeal.Gen.facts, Cert.ResidRefIdeal.Gen.facts, Cert.Next.Gen.facts, Cert.NextIdeal.Gen.facts, Cert.NextRefIdeal.Gen.facts, Cert.ExpGU.Gen.facts, Cert.ExpGUIdeal.Gen.facts, Cert.ExpGURefIdeal.Gen.facts, Cert.ExpDown.Gen.facts, Cert.ExpDownIdeal.Gen.facts, Cert.ExpDownRefIdeal.Gen.facts, Cert.Pre_finite.Gen.facts, Cert.Pre_tables_egu.Gen.facts, Cert.Pre_tables_edown.Gen.facts,
   fun m ρ _ => Cert.Kernel.Gen.frame m ρ,
   fun m ρ _ => Cert.KernelIdeal.Gen.frame m ρ,
   fun m ρ _ => Cert.KernelIdeal.Gen.frame m ρ,
   fun m ρ _ => (θ_run _ _ _).mono (fun r h => ⟨fun c => (h c).2, sem_eq_zero_of_no_sems (by decide) r.2⟩) (Cert.ReferenceIdeal.Value.run m ρ),
   fun m ρ _ => (θ_run _ _ _).mono (fun r h => ⟨fun c => (h c).2, sem_eq_zero_of_no_sems (by decide) r.2⟩) (Cert.ReferenceIdeal.Value.run m ρ),
   fun m ρ _ => Cert.GateUp.Gen.frame m ρ,
   fun m ρ _ => Cert.GateUpIdeal.Gen.frame m ρ,
   fun m ρ _ => (θ_run _ _ _).mono (fun r h => ⟨fun c => (h c).2, sem_eq_zero_of_no_sems (by decide) r.2⟩) (Cert.GateUpRefIdeal.Value.run m ρ),
   fun m ρ _ => Cert.Down.Gen.frame m ρ,
   fun m ρ _ => Cert.DownIdeal.Gen.frame m ρ,
   fun m ρ _ => (θ_run _ _ _).mono (fun r h => ⟨fun c => (h c).2, sem_eq_zero_of_no_sems (by decide) r.2⟩) (Cert.DownRefIdeal.Value.run m ρ),
   fun m ρ _ => Cert.Qkv.Gen.frame m ρ,
   fun m ρ _ => Cert.QkvIdeal.Gen.frame m ρ,
   fun m ρ _ => (θ_run _ _ _).mono (fun r h => ⟨fun c => (h c).2, sem_eq_zero_of_no_sems (by decide) r.2⟩) (Cert.QkvRefIdeal.Value.run m ρ),
   fun m ρ _ => Cert.OutProj.Gen.frame m ρ,
   fun m ρ _ => Cert.OutProjIdeal.Gen.frame m ρ,
   fun m ρ _ => (θ_run _ _ _).mono (fun r h => ⟨fun c => (h c).2, sem_eq_zero_of_no_sems (by decide) r.2⟩) (Cert.OutProjRefIdeal.Value.run m ρ),
   fun m ρ _ => Cert.GatePool.Gen.frame m ρ,
   fun m ρ _ => Cert.GatePoolIdeal.Gen.frame m ρ,
   fun m ρ _ => (θ_run _ _ _).mono (fun r h => ⟨fun c => (h c).2, sem_eq_zero_of_no_sems (by decide) r.2⟩) (Cert.GatePoolRefIdeal.Value.run m ρ),
   fun m ρ _ => Cert.Pool.Gen.frame m ρ,
   fun m ρ _ => Cert.PoolIdeal.Gen.frame m ρ,
   fun m ρ _ => (θ_run _ _ _).mono (fun r h => ⟨fun c => (h c).2, sem_eq_zero_of_no_sems (by decide) r.2⟩) (Cert.PoolRefIdeal.Value.run m ρ),
   fun m ρ _ => Cert.Mod.Gen.frame m ρ,
   fun m ρ _ => Cert.ModIdeal.Gen.frame m ρ,
   fun m ρ _ => (θ_run _ _ _).mono (fun r h => ⟨fun c => (h c).2, sem_eq_zero_of_no_sems (by decide) r.2⟩) (Cert.ModRefIdeal.Value.run m ρ),
   fun m ρ _ => Cert.PreNorm.Gen.frame m ρ,
   fun m ρ _ => Cert.PreNormIdeal.Gen.frame m ρ,
   fun m ρ _ => (θ_run _ _ _).mono (fun r h => ⟨fun c => (h c).2, sem_eq_zero_of_no_sems (by decide) r.2⟩) (Cert.PreNormRefIdeal.Value.run m ρ),
   fun m ρ _ => Cert.Resid.Gen.frame m ρ,
   fun m ρ _ => Cert.ResidIdeal.Gen.frame m ρ,
   fun m ρ _ => (θ_run _ _ _).mono (fun r h => ⟨fun c => (h c).2.2, sem_eq_zero_of_no_sems (by decide) r.2⟩) (Cert.ResidRefIdeal.Value.run m ρ),
   fun m ρ _ => Cert.Next.Gen.frame m ρ,
   fun m ρ _ => Cert.NextIdeal.Gen.frame m ρ,
   fun m ρ _ => (θ_run _ _ _).mono (fun r h => ⟨fun c => (h c).2.2, sem_eq_zero_of_no_sems (by decide) r.2⟩) (Cert.NextRefIdeal.Value.run m ρ),
   frame_ExpGU,
   frame_ExpGUIdeal,
   fun m ρ _ => (θ_run _ _ _).mono (fun r h => ⟨fun c => (h c).2, sem_eq_zero_of_no_sems (by decide) r.2⟩) (Cert.ExpGURefIdeal.Value.run m ρ),
   frame_ExpDown,
   frame_ExpDownIdeal,
   fun m ρ _ => (θ_run _ _ _).mono (fun r h => ⟨fun c => (h c).2, sem_eq_zero_of_no_sems (by decide) r.2⟩) (Cert.ExpDownRefIdeal.Value.run m ρ),
   trivial,
   algebraic_Kernel,
   trivial,
   algebraic_GateUp,
   trivial,
   algebraic_Down,
   trivial,
   algebraic_Qkv,
   trivial,
   algebraic_OutProj,
   trivial,
   algebraic_GatePool,
   trivial,
   algebraic_Pool,
   trivial,
   algebraic_Mod,
   trivial,
   algebraic_PreNorm,
   trivial,
   algebraic_Resid,
   trivial,
   algebraic_Next,
   trivial,
   algebraic_ExpGU,
   trivial,
   algebraic_ExpDown⟩

end Cert.Proof

end
